-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_fwd [hPre_finite_fwd : Cert.Pre_finite_fwd.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_fwd.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_fwd [hPre_finite_fwd : Cert.Pre_finite_fwd.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_fwd.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite_fwd [hKernel17Ideal : Cert.Kernel17Ideal.Facts] [hPre_finite_fwd : Cert.Pre_finite_fwd.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_fwd m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite_fwd [hReference17Ideal : Cert.Reference17Ideal.Facts] [hPre_finite_fwd : Cert.Pre_finite_fwd.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_fwd m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "scale_log2e" .f32 0x3DD53B95#32 (((Real.sqrt 192)⁻¹ * (Real.log 2)⁻¹ : ℝ) : EReal)
  ∧ IdealRules.named_const.Statement Cert.Kernel17Ideal.κ "scale" .f32 0x3D93CD3A#32 (((Real.sqrt 192)⁻¹ : ℝ) : EReal)

def algebraic_Kernel17Ideal_Reference17Ideal_pre_finite_fwd [hKernel17Ideal : Cert.Kernel17Ideal.Facts] [hReference17Ideal : Cert.Reference17Ideal.Facts] [hPre_finite_fwd : Cert.Pre_finite_fwd.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_fwd m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v7_0)) (v1 : (c : Dev Cert.Kernel17Ideal.nD) → Buf (Elt Ideal) ((c.tc : Thread Cert.Kernel17Ideal.nD Cert.Kernel17Ideal.τ).loc Cert.Kernel17Ideal.main_v7_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7_0) = v0 c
          ∧ r.2.mem ((c.tc : Thread Cert.Kernel17Ideal.nD Cert.Kernel17Ideal.τ).loc Cert.Kernel17Ideal.main_v7_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_v32) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_fwd (hKernel17Ideal := hKernel17Ideal) (hPre_finite_fwd := hPre_finite_fwd)
    ∧ quiescent_Reference17Ideal (hReference17Ideal := hReference17Ideal)
    ∧ quiescent_Reference17Ideal_pre_finite_fwd (hReference17Ideal := hReference17Ideal) (hPre_finite_fwd := hPre_finite_fwd)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_fwd (hKernel17Ideal := hKernel17Ideal) (hReference17Ideal := hReference17Ideal) (hPre_finite_fwd := hPre_finite_fwd)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x8x128 .bf16) (main_arg5 : FVec F S8192x1024 .bf16) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192x8x128 .bf16 := Host.absf main_arg4
  let main_cst_6 : FVec F S_ .bf16 := constant S_ .bf16 0x7F80#16
  let main_v20 : FVec F S8192x8x128 .bf16 := broadcastInDim S8192x8x128 ![] bcast_S_S8192x8x128 main_cst_6
  let main_v21 : IVec S8192x8x128 1 := cmpf .olt main_v19 main_v20
  let main_c_7 : IVec S_ 1 := constantI S_ 1 1#1
  let main_v22 : IVec S_ 1 := (fun x v => Host.reduce IntOp.andi x v reducesTo_S8192x8x128_S_d0_1_2 h_S_) main_v21 main_c_7
  let main_v23 : IVec S_ 1 := andi main_v18 main_v22
  let main_v24 : FVec F S8192x1024 .bf16 := Host.absf main_arg5
  let main_cst_8 : FVec F S_ .bf16 := constant S_ .bf16 0x7F80#16
  let main_v25 : FVec F S8192x1024 .bf16 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x8x128 .bf16) (main_arg1 : FVec F S8192x8x64 .bf16) (main_arg2 : FVec F S8192x8x128 .bf16) (main_arg3 : FVec F S8192x64 .bf16) (main_arg4 : FVec F S8192x8x128 .bf16) (main_arg5 : FVec F S8192x1024 .bf16) : IVec S_ 1 :=
  let main_v0 : FVec F S8192x8x128 .bf16 := Host.absf main_arg0
  let main_cst : FVec F S_ .bf16 := constant S_ .bf16 0x7F80#16
  let main_v1 : FVec F S8192x8x128 .bf16 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S8192x8x64 .bf16 := Host.absf main_arg1
  let main_cst_0 : FVec F S_ .bf16 := constant S_ .bf16 0x7F80#16
  let main_v5 : FVec F S8192x8x64 .bf16 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x128 .bf16 := Host.absf main_arg2
  let main_cst_2 : FVec F S_ .bf16 := constant S_ .bf16 0x7F80#16
  let main_v10 : FVec F S8192x8x128 .bf16 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x64 .bf16 := Host.absf main_arg3
  let main_cst_4 : FVec F S_ .bf16 := constant S_ .bf16 0x7F80#16
  let main_v15 : FVec F S8192x64 .bf16 := broadcastInDim S8192x64 ![] bcast_S_S8192x64 main_cst_4
  let main_v16 : IVec S8192x64 1 := cmpf .olt main_v14 main_v15
  fn_part1 (F := F) main_arg4 main_arg5 main_v13 main_v16
-- ==== Pre_finite_fwd.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg4 : FVec F S8192x8x128 .bf16) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192x8x128 .bf16 := Host.absf main_arg4
  let main_cst_6 : FVec F S_ .bf16 := constant S_ .bf16 0x7F80#16
  let main_v20 : FVec F S8192x8x128 .bf16 := broadcastInDim S8192x8x128 ![] bcast_S_S8192x8x128 main_cst_6
  let main_v21 : IVec S8192x8x128 1 := cmpf .olt main_v19 main_v20
  let main_c_7 : IVec S_ 1 := constantI S_ 1 1#1
  let main_v22 : IVec S_ 1 := (fun x v => Host.reduce IntOp.andi x v reducesTo_S8192x8x128_S_d0_1_2 h_S_) main_v21 main_c_7
  let main_v23 : IVec S_ 1 := andi main_v18 main_v22
  main_v23

def fn {F : FTy → Type} [FloatOps F] (main_arg0 : FVec F S8192x8x128 .bf16) (main_arg1 : FVec F S8192x8x64 .bf16) (main_arg2 : FVec F S8192x8x128 .bf16) (main_arg3 : FVec F S8192x64 .bf16) (main_arg4 : FVec F S8192x8x128 .bf16) : IVec S_ 1 :=
  let main_v0 : FVec F S8192x8x128 .bf16 := Host.absf main_arg0
  let main_cst : FVec F S_ .bf16 := constant S_ .bf16 0x7F80#16
  let main_v1 : FVec F S8192x8x128 .bf16 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S8192x8x64 .bf16 := Host.absf main_arg1
  let main_cst_0 : FVec F S_ .bf16 := constant S_ .bf16 0x7F80#16
  let main_v5 : FVec F S8192x8x64 .bf16 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x128 .bf16 := Host.absf main_arg2
  let main_cst_2 : FVec F S_ .bf16 := constant S_ .bf16 0x7F80#16
  let main_v10 : FVec F S8192x8x128 .bf16 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x64 .bf16 := Host.absf main_arg3
  let main_cst_4 : FVec F S_ .bf16 := constant S_ .bf16 0x7F80#16
  let main_v15 : FVec F S8192x64 .bf16 := broadcastInDim S8192x64 ![] bcast_S_S8192x64 main_cst_4
  let main_v16 : IVec S8192x64 1 := cmpf .olt main_v14 main_v15
  fn_part1 (F := F) main_arg4 main_v13 main_v16
-- ==== Kernel.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S8192x1x64 : Shape := ⟨3, ![8192, 1, 64]⟩
abbrev S8192x8x192 : Shape := ⟨3, ![8192, 8, 192]⟩
abbrev S8x8192x192 : Shape := ⟨3, ![8, 8192, 192]⟩
abbrev S8192x2048 : Shape := ⟨2, ![8192, 2048]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8x128x8192 : Shape := ⟨3, ![8, 128, 8192]⟩
abbrev S8192x8 : Shape := ⟨2, ![8192, 8]⟩
abbrev S8x192x8192 : Shape := ⟨3, ![8, 192, 8192]⟩
abbrev S8x4x192x2048 : Shape := ⟨4, ![8, 4, 192, 2048]⟩
abbrev S1x2048x192 : Shape := ⟨3, ![1, 2048, 192]⟩
abbrev S1x192x2048 : Shape := ⟨3, ![1, 192, 2048]⟩
abbrev S2048x128 : Shape := ⟨2, ![2048, 128]⟩
abbrev S1x1x2048 : Shape := ⟨3, ![1, 1, 2048]⟩
abbrev S1x4x192x2048 : Shape := ⟨4, ![1, 4, 192, 2048]⟩
abbrev S2048x192 : Shape := ⟨2, ![2048, 192]⟩
abbrev S1x1024x192 : Shape := ⟨3, ![1, 1024, 192]⟩
abbrev S1024x192 : Shape := ⟨2, ![1024, 192]⟩
abbrev S2048x1024 : Shape := ⟨2, ![2048, 1024]⟩
abbrev S1024x128 : Shape := ⟨2, ![1024, 128]⟩
abbrev S1x1x1024 : Shape := ⟨3, ![1, 1, 1024]⟩
abbrev S1x1024 : Shape := ⟨2, ![1, 1024]⟩
abbrev S192x2048 : Shape := ⟨2, ![192, 2048]⟩
abbrev S192x1024 : Shape := ⟨2, ![192, 1024]⟩
abbrev S1x1x192x1024 : Shape := ⟨4, ![1, 1, 192, 1024]⟩

abbrev nBuf : Space → Nat
  | .hbm => 50
  | .vmem => 22
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x1024, .bf16⟩
  | .hbm, ⟨6, _⟩ => ⟨S8192x1x64, .bf16⟩
  | .hbm, ⟨7, _⟩ => ⟨S8192x8x64, .bf16⟩
  | .hbm, ⟨8, _⟩ => ⟨S8192x8x192, .bf16⟩
  | .hbm, ⟨9, _⟩ => ⟨S8x8192x192, .bf16⟩
  | .hbm, ⟨10, _⟩ => ⟨S8192x8x192, .bf16⟩
  | .hbm, ⟨11, _⟩ => ⟨S8x8192x192, .bf16⟩
  | .hbm, ⟨12, _⟩ => ⟨S8192x1024, .bf16⟩
  | .hbm, ⟨13, _⟩ => ⟨S8192x1024, .bf16⟩
  | .hbm, ⟨14, _⟩ => ⟨S8192x2048, .bf16⟩
  | .hbm, ⟨15, _⟩ => ⟨S8x8192x192, .f32⟩
  | .hbm, ⟨16, _⟩ => ⟨S8x8192x192, .f32⟩
  | .hbm, ⟨17, _⟩ => ⟨S8x8192x8192, .f32⟩
  | .hbm, ⟨18, _⟩ => ⟨S_, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x1, .f32⟩
  | .hbm, ⟨32, _⟩ => ⟨S8x8192x1, .f32⟩
  | .hbm, ⟨33, _⟩ => ⟨S8x1x8192, .f32⟩
  | .hbm, ⟨34, _⟩ => ⟨S8x8192x8192, .f32⟩
  | .hbm, ⟨35, _⟩ => ⟨S8x8192x8192, .f32⟩
  | .hbm, ⟨36, _⟩ => ⟨S8192x8x128, .f32⟩
  | .hbm, ⟨37, _⟩ => ⟨S8x128x8192, .f32⟩
  | .hbm, ⟨38, _⟩ => ⟨S8192x8x128, .f32⟩
  | .hbm, ⟨39, _⟩ => ⟨S8192x1024, .f32⟩
  | .hbm, ⟨40, _⟩ => ⟨S8192x8x128, .f32⟩
  | .hbm, ⟨41, _⟩ => ⟨S8192x8x128, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S8x1x8192, .f32⟩
  | .hbm, ⟨46, _⟩ => ⟨S8x192x8192, .bf16⟩
  | .hbm, ⟨47, _⟩ => ⟨S8x4x192x2048, .f32⟩
  | .hbm, ⟨48, _⟩ => ⟨S8x8192x192, .f32⟩
  | .hbm, ⟨49, _⟩ => ⟨S8192x1024, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x192x2048, .bf16⟩
  | .local _ .vmem, ⟨5, _⟩ => ⟨S1x192x2048, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x4x192x2048, .f32⟩
  | .local _ .vmem, ⟨15, _⟩ => ⟨S1x4x192x2048, .f32⟩
  | .local _ .vmem, ⟨16, _⟩ => ⟨S1x2048x192, .f32⟩
  | .local _ .vmem, ⟨17, _⟩ => ⟨S1x2048x192, .f32⟩
  | .local _ .vmem, ⟨18, _⟩ => ⟨S2048x128, .bf16⟩
  | .local _ .vmem, ⟨19, _⟩ => ⟨S2048x128, .bf16⟩
  | .local _ .vmem, ⟨20, _⟩ => ⟨S2048x192, .f32⟩
  | .local _ .vmem, ⟨21, _⟩ => ⟨S2048x128, .f32⟩
  | _, _ => ⟨S8192x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev main_v37_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg1 : BitVec 32 := BitVec.ofNat 32 (i 1).val
  let c0_i32_50 : BitVec 32 := 0#32
  let v57 : BitVec 1 := Scalar.cmpi .eq arg1 c0_i32_50
  let v58 : BitVec 32 := Scalar.extui v57
  let c0_i32_51 : BitVec 32 := 0#32
  let v59 : BitVec 1 := Scalar.cmpi .ne v58 c0_i32_51
  v59

def k0_off1 (i : grid0.Coords) : Fin 4 → Nat :=
  let c0_87 : Index := 0#32
  let arg2 : BitVec 32 := BitVec.ofNat 32 (i 2).val
  let v108 : Index := Scalar.indexCast arg2
  let c0_88 : Index := 0#32
  let c0_89 : Index := 0#32
  ![0, v108.toNat, 0, 0]
def k0_cond3 (i : grid0.Coords) : BitVec 1 :=
  let arg1 : BitVec 32 := BitVec.ofNat 32 (i 1).val
  let c0_i32_52 : BitVec 32 := 0#32
  let v60 : BitVec 1 := Scalar.cmpi .sgt arg1 c0_i32_52
  let v61 : BitVec 32 := Scalar.extui v60
  let c0_i32_53 : BitVec 32 := 0#32
  let v62 : BitVec 1 := Scalar.cmpi .ne v61 c0_i32_53
  v62

def k0_off2 (i : grid0.Coords) : Fin 4 → Nat :=
  let c0_87 : Index := 0#32
  let arg2 : BitVec 32 := BitVec.ofNat 32 (i 2).val
  let v108 : Index := Scalar.indexCast arg2
  let c0_88 : Index := 0#32
  let c0_89 : Index := 0#32
  ![0, v108.toNat, 0, 0]
def k0_cond4 (i : grid0.Coords) : BitVec 1 :=
  let arg1 : BitVec 32 := BitVec.ofNat 32 (i 1).val
  let c0_i32_82 : BitVec 32 := 0#32
  let v99 : BitVec 1 := Scalar.cmpi .eq arg1 c0_i32_82
  let v100 : BitVec 32 := Scalar.extui v99
  let c0_i32_83 : BitVec 32 := 0#32
  let v101 : BitVec 1 := Scalar.cmpi .ne v100 c0_i32_83
  v101

def k0_off3 (i : grid0.Coords) : Fin 4 → Nat :=
  let c0_87 : Index := 0#32
  let arg2 : BitVec 32 := BitVec.ofNat 32 (i 2).val
  let v108 : Index := Scalar.indexCast arg2
  let c0_88 : Index := 0#32
  let c1024_89 : Index := 1024#32
  ![0, v108.toNat, 0, 1024]
def k0_cond5 (i : grid0.Coords) : BitVec 1 :=
  let arg1 : BitVec 32 := BitVec.ofNat 32 (i 1).val
  let c0_i32_84 : BitVec 32 := 0#32
  let v102 : BitVec 1 := Scalar.cmpi .sgt arg1 c0_i32_84
  let v103 : BitVec 32 := Scalar.extui v102
  let c0_i32_85 : BitVec 32 := 0#32
  let v104 : BitVec 1 := Scalar.cmpi .ne v103 c0_i32_85
  v104

def k0_off4 (i : grid0.Coords) : Fin 4 → Nat :=
  let c0_87 : Index := 0#32
  let arg2 : BitVec 32 := BitVec.ofNat 32 (i 2).val
  let v108 : Index := Scalar.indexCast arg2
  let c0_88 : Index := 0#32
  let c1024_89 : Index := 1024#32
  ![0, v108.toNat, 0, 1024]
def k0_cond6 (i : grid0.Coords) : BitVec 1 :=
  let arg2 : BitVec 32 := BitVec.ofNat 32 (i 2).val
  let c3_i32 : BitVec 32 := 3#32
  let v105 : BitVec 1 := Scalar.cmpi .eq arg2 c3_i32
  let v106 : BitVec 32 := Scalar.extui v105
  let c0_i32_86 : BitVec 32 := 0#32
  let v107 : BitVec 1 := Scalar.cmpi .ne v106 c0_i32_86
  v107

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x192x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x4x192x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2048x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S8192x1x64 : Shape := ⟨3, ![8192, 1, 64]⟩
abbrev S8192x8x192 : Shape := ⟨3, ![8192, 8, 192]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x4x2048x192 : Shape := ⟨4, ![8, 4, 2048, 192]⟩
abbrev S8x4x192x2048 : Shape := ⟨4, ![8, 4, 192, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x1024, .bf16⟩
  | .hbm, ⟨6, _⟩ => ⟨S8192x1x64, .bf16⟩
  | .hbm, ⟨7, _⟩ => ⟨S8192x8x64, .bf16⟩
  | .hbm, ⟨8, _⟩ => ⟨S8192x8x192, .bf16⟩
  | .hbm, ⟨9, _⟩ => ⟨S8192x8x192, .f32⟩
  | .hbm, ⟨10, _⟩ => ⟨S8192x8x192, .bf16⟩
  | .hbm, ⟨11, _⟩ => ⟨S8192x8x192, .f32⟩
  | .hbm, ⟨12, _⟩ => ⟨S8192x1024, .f32⟩
  | .hbm, ⟨13, _⟩ => ⟨S8192x8x128, .f32⟩
  | .hbm, ⟨14, _⟩ => ⟨S8192x8x128, .f32⟩
  | .hbm, ⟨15, _⟩ => ⟨S8x8192x8192, .f32⟩
  | .hbm, ⟨16, _⟩ => ⟨S_, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .i1⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x128x8192, .f32⟩
  | .hbm, ⟨59, _⟩ => ⟨S8192x8x128, .f32⟩
  | .hbm, ⟨60, _⟩ => ⟨S8x128x8192, .f32⟩
  | .hbm, ⟨61, _⟩ => ⟨S8x8192x8192, .f32⟩
  | .hbm, ⟨62, _⟩ => ⟨S8x128x8192, .f32⟩
  | .hbm, ⟨63, _⟩ => ⟨S8192x8x128, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S8x8192x192, .f32⟩
  | .hbm, ⟨81, _⟩ => ⟨S8192x8x192, .f32⟩
  | .hbm, ⟨82, _⟩ => ⟨S8x8192x192, .f32⟩
  | .hbm, ⟨83, _⟩ => ⟨S8192x8x192, .f32⟩
  | .hbm, ⟨84, _⟩ => ⟨S8x8192x192, .f32⟩
  | .hbm, ⟨85, _⟩ => ⟨S8x4x2048x192, .f32⟩
  | .hbm, ⟨86, _⟩ => ⟨S8x4x192x2048, .f32⟩
  | .hbm, ⟨87, _⟩ => ⟨S8x8192x192, .f32⟩
  | .hbm, ⟨88, _⟩ => ⟨S8192x1024, .f32⟩
  | .hbm, ⟨89, _⟩ => ⟨S8192x1024, .bf16⟩
  | _, _ => ⟨S8192x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S2048x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S2048x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x2048, .bf16⟩
  | .hbm, ⟨4, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S2048x8192, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x2048, .bf16⟩
  | .hbm, ⟨4, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S8192x2048, .f32⟩
  | .hbm, ⟨4, _⟩ => ⟨S8192x2048, .bf16⟩
  | .hbm, ⟨5, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S8192x8192, .f32⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x2048, .bf16⟩
  | .hbm, ⟨9, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .bf16⟩
  | .hbm, ⟨3, _⟩ => ⟨S1024x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S8192x8x192 : Shape := ⟨3, ![8192, 8, 192]⟩
abbrev S8x8192x192 : Shape := ⟨3, ![8, 8192, 192]⟩
abbrev S8x128x8192 : Shape := ⟨3, ![8, 128, 8192]⟩
abbrev S8192x1024 : Shape := ⟨2, ![8192, 1024]⟩
abbrev S8x1x8192 : Shape := ⟨3, ![8, 1, 8192]⟩
abbrev S1x4096x192 : Shape := ⟨3, ![1, 4096, 192]⟩
abbrev S1x128x4096 : Shape := ⟨3, ![1, 128, 4096]⟩
abbrev S4096x128 : Shape := ⟨2, ![4096, 128]⟩
abbrev S1x1x4096 : Shape := ⟨3, ![1, 1, 4096]⟩
abbrev S1x4096 : Shape := ⟨2, ![1, 4096]⟩
abbrev S128x4096 : Shape := ⟨2, ![128, 4096]⟩
abbrev S4096x192 : Shape := ⟨2, ![4096, 192]⟩
abbrev S1x512x192 : Shape := ⟨3, ![1, 512, 192]⟩
abbrev S512x192 : Shape := ⟨2, ![512, 192]⟩
abbrev S4096x512 : Shape := ⟨2, ![4096, 512]⟩
abbrev S1x512 : Shape := ⟨2, ![1, 512]⟩
abbrev S512 : Shape := ⟨1, ![512]⟩
abbrev S128x512 : Shape := ⟨2, ![128, 512]⟩

abbrev nBuf : Space → Nat
  | .hbm => 14
  | .vmem => 13
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x1x64, .bf16⟩
  | .hbm, ⟨6, _⟩ => ⟨S8192x8x64, .bf16⟩
  | .hbm, ⟨7, _⟩ => ⟨S8192x8x192, .bf16⟩
  | .hbm, ⟨8, _⟩ => ⟨S8x8192x192, .bf16⟩
  | .hbm, ⟨9, _⟩ => ⟨S8192x8x192, .bf16⟩
  | .hbm, ⟨10, _⟩ => ⟨S8x8192x192, .bf16⟩
  | .hbm, ⟨11, _⟩ => ⟨S8x128x8192, .bf16⟩
  | .hbm, ⟨12, _⟩ => ⟨S8192x1024, .f32⟩
  | .hbm, ⟨13, _⟩ => ⟨S8x1x8192, .f32⟩
  | .local _ .vmem, ⟨0, _⟩ => ⟨S1x4096x192, .bf16⟩
  | .local _ .vmem, ⟨1, _⟩ => ⟨S1x4096x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x128x4096, .bf16⟩
  | .local _ .vmem, ⟨5, _⟩ => ⟨S1x128x4096, .bf16⟩
  | .local _ .vmem, ⟨6, _⟩ => ⟨S4096x128, .f32⟩
  | .local _ .vmem, ⟨7, _⟩ => ⟨S4096x128, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S1x4096, .f32⟩
  | .local _ .vmem, ⟨12, _⟩ => ⟨S128x4096, .f32⟩
  | _, _ => ⟨S8192x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v323 : BitVec 1 := Scalar.cmpi .eq arg2 c1_i32
  let v324 : BitVec 32 := Scalar.extui v323
  let c0_i32_208 : BitVec 32 := 0#32
  let v325 : BitVec 1 := Scalar.cmpi .ne v324 c0_i32_208
  v325

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel17Ideal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== Reference17Ideal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S8192x8x192 : Shape := ⟨3, ![8192, 8, 192]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x1x8192 : Shape := ⟨3, ![8, 1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x1x64, .bf16⟩
  | .hbm, ⟨6, _⟩ => ⟨S8192x8x64, .bf16⟩
  | .hbm, ⟨7, _⟩ => ⟨S8192x8x192, .bf16⟩
  | .hbm, ⟨8, _⟩ => ⟨S8192x8x192, .f32⟩
  | .hbm, ⟨9, _⟩ => ⟨S8192x8x192, .bf16⟩
  | .hbm, ⟨10, _⟩ => ⟨S8192x8x192, .f32⟩
  | .hbm, ⟨11, _⟩ => ⟨S8x8192x8192, .f32⟩
  | .hbm, ⟨12, _⟩ => ⟨S_, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192x8x128, .f32⟩
  | .hbm, ⟨17, _⟩ => ⟨S8x8192x8192, .f32⟩
  | .hbm, ⟨18, _⟩ => ⟨S_, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x128x8192, .f32⟩
  | .hbm, ⟨37, _⟩ => ⟨S8192x8x128, .f32⟩
  | .hbm, ⟨38, _⟩ => ⟨S8192x1024, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S8x1x8192, .f32⟩
  | _, _ => ⟨S8192x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel18.lean ====
abbrev S8192x512 : Shape := ⟨2, ![8192, 512]⟩
abbrev S512x1536 : Shape := ⟨2, ![512, 1536]⟩
abbrev S8192x1536 : Shape := ⟨2, ![8192, 1536]⟩
abbrev S1024x512 : Shape := ⟨2, ![1024, 512]⟩
abbrev S512x768 : Shape := ⟨2, ![512, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x512, .bf16⟩
  | .hbm, ⟨3, _⟩ => ⟨S512x1536, .bf16⟩
  | .hbm, ⟨4, _⟩ => ⟨S8192x1536, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S512x1536 : Shape := ⟨2, ![512, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S8192x512 : Shape := ⟨2, ![8192, 512]⟩
abbrev S512x1536 : Shape := ⟨2, ![512, 1536]⟩
abbrev S8192x1536 : Shape := ⟨2, ![8192, 1536]⟩
abbrev S2048x512 : Shape := ⟨2, ![2048, 512]⟩
abbrev S2048x768 : Shape := ⟨2, ![2048, 768]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .bf16⟩
  | .hbm, ⟨3, _⟩ => ⟨S8192x512, .bf16⟩
  | .hbm, ⟨4, _⟩ => ⟨S512x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S512x1536 : Shape := ⟨2, ![512, 1536]⟩
abbrev S8192x1536 : Shape := ⟨2, ![8192, 1536]⟩
abbrev S1536x512 : Shape := ⟨2, ![1536, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .bf16⟩
  | .hbm, ⟨3, _⟩ => ⟨S8192x1536, .f32⟩
  | .hbm, ⟨4, _⟩ => ⟨S8192x1536, .f32⟩
  | .hbm, ⟨5, _⟩ => ⟨S1536x512, .f32⟩
  | .hbm, ⟨6, _⟩ => ⟨S512x1536, .f32⟩
  | .hbm, ⟨7, _⟩ => ⟨S8192x512, .f32⟩
  | .hbm, ⟨8, _⟩ => ⟨S512x1536, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8192x512 : Shape := ⟨2, ![8192, 512]⟩
abbrev S512x1536 : Shape := ⟨2, ![512, 1536]⟩
abbrev S8192x1536 : Shape := ⟨2, ![8192, 1536]⟩
abbrev S1024x1536 : Shape := ⟨2, ![1024, 1536]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .bf16⟩
  | .hbm, ⟨3, _⟩ => ⟨S512x1536, .bf16⟩
  | .hbm, ⟨4, _⟩ => ⟨S8192x512, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x512 : Shape := ⟨2, ![8192, 512]⟩
abbrev S512x1536 : Shape := ⟨2, ![512, 1536]⟩
abbrev S8192x1536 : Shape := ⟨2, ![8192, 1536]⟩
abbrev S1536x512 : Shape := ⟨2, ![1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .bf16⟩
  | .hbm, ⟨3, _⟩ => ⟨S8192x1536, .f32⟩
  | .hbm, ⟨4, _⟩ => ⟨S8192x1536, .f32⟩
  | .hbm, ⟨5, _⟩ => ⟨S1536x512, .f32⟩
  | .hbm, ⟨6, _⟩ => ⟨S512x1536, .f32⟩
  | .hbm, ⟨7, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .bf16⟩
  | .hbm, ⟨3, _⟩ => ⟨S8192x512, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S8192x512, .f32⟩
  | .hbm, ⟨8, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x512 : Shape := ⟨2, ![8192, 512]⟩
abbrev S512x2048 : Shape := ⟨2, ![512, 2048]⟩
abbrev S8192x2048 : Shape := ⟨2, ![8192, 2048]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Step.lean ====
/-
  What one run of the kernel's body computes from the blocks it is handed: the three updates, as pure functions.
  The body works through its block of 2048 queries in two halves (columns 0..1023 and 1024..2047 of the score tile), so each update is a
  composition of two of the generated payloads.
-/
module

public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section Reads

variable {sig : RefSig} {κ : Kind} {sp : Space} {s : Shape} {e : EltTy} {Val : EltTy → Type} {mr : Memref sig κ sp s e}

/-- A load at a rectangle of a whole buffer held at `x` is a window of `x`. -/
theorem readAt_unread_win (h : mr.IsWhole) (x : s.Idx → Val e) {off size : Fin s.rank → ℕ} (inb : ∀ a, off a + size a ≤ s.size a) :
    View.readAt Val mr.view (Rect.unit off size inb).toLoadRect (h.unread x) = VecWindow.window x off size inb := by
  rw [View.readAt_unit _ _ inb rfl inb, h.read_unread]

/-- The window of the whole array is the array. -/
theorem window_full {α : Type} (x : s.Idx → α) {off : Fin s.rank → ℕ} (inb : ∀ a, off a + s.size a ≤ s.size a) :
    VecWindow.window x off s.size inb = x :=
  funext fun z => congrArg x (Rect.emb_unit_full inb z)

/-- A load of all of a whole buffer held at `x` is `x`. -/
theorem readAt_unread_full (h : mr.IsWhole) (x : s.Idx → Val e) {off : Fin s.rank → ℕ} (inb : ∀ a, off a + s.size a ≤ s.size a) :
    View.readAt Val mr.view (Rect.unit off s.size inb).toLoadRect (h.unread x) = x := by
  rw [View.readAt_full, h.read_unread]

/-- A window does not see how its offsets are written. -/
theorem window_congr {α : Type} (x : s.Idx → α) {off off' : Fin s.rank → ℕ} (h : off = off') (size : Fin s.rank → ℕ)
    (inb : ∀ a, off a + size a ≤ s.size a) (inb' : ∀ a, off' a + size a ≤ s.size a) :
    VecWindow.window x off size inb = VecWindow.window x off' size inb' := by
  subst h; rfl

end Reads

section Shapes

variable {e : EltTy}

theorem window_k (x : Vec F S1x2048x192 e) (h) : VecWindow.window (s := S1x2048x192) x ![0, 0, 0] ![1, 2048, 192] h = x := window_full (s := S1x2048x192) x h
theorem window_kt (x : Vec F S1x192x2048 e) (h) : VecWindow.window (s := S1x192x2048) x ![0, 0, 0] ![1, 192, 2048] h = x := window_full (s := S1x192x2048) x h
theorem window_v (x : Vec F S2048x128 e) (h) : VecWindow.window (s := S2048x128) x ![0, 0] ![2048, 128] h = x := window_full (s := S2048x128) x h
theorem window_dk (x : Vec F S2048x192 e) (h) : VecWindow.window (s := S2048x192) x ![0, 0] ![2048, 192] h = x := window_full (s := S2048x192) x h
theorem readCov_v {κ : Kind} {sp : Space} (vw : View sig κ sp S2048x128 e) (h h') (w) (L) :
    vw.readCov (Val := Elt F) (⟨Rect.unit (s := S2048x128) ![0, 0] ![2048, 128] h, w⟩ :: L) (Rect.unit (s := S2048x128) ![0, 0] ![2048, 128] h').toLoadRect = w :=
  View.readCov_full (s := S2048x128) vw h' h w L
theorem readCov_dk {κ : Kind} {sp : Space} (vw : View sig κ sp S2048x192 e) (h h') (w) (L) :
    vw.readCov (Val := Elt F) (⟨Rect.unit (s := S2048x192) ![0, 0] ![2048, 192] h, w⟩ :: L) (Rect.unit (s := S2048x192) ![0, 0] ![2048, 192] h').toLoadRect = w :=
  View.readCov_full (s := S2048x192) vw h' h w L

end Shapes

/-- The accumulators are cleared at this point: it is a key block's first query block. -/
abbrev first (i : grid0.Coords) : Prop := (Scalar.cmpi .ne (Scalar.extui (Scalar.cmpi .eq (BitVec.ofNat 32 (i 2).val) 0#32)) 0#32) = 1#1

section Halves

variable (q : Vec F S1x2048x192 .bf16) (g : Vec F S2048x128 .bf16) (l : Vec F S1x1x2048 .f32)

/-- The first half of the query block. -/
def qA : Vec F S1x1024x192 .bf16 := VecWindow.window q ![0, 0, 0] S1x1024x192.size inb_S1x2048x192_S1x1024x192_0_0_0
/-- The second half of the query block. -/
def qB : Vec F S1x1024x192 .bf16 := VecWindow.window q ![0, 1024, 0] S1x1024x192.size inb_S1x2048x192_S1x1024x192_0_1024_0
/-- The first half of the cotangent's rows. -/
def gA : Vec F S1024x128 .bf16 := VecWindow.window g ![0, 0] S1024x128.size inb_S2048x128_S1024x128_0_0
/-- The second half of the cotangent's rows. -/
def gB : Vec F S1024x128 .bf16 := VecWindow.window g ![1024, 0] S1024x128.size inb_S2048x128_S1024x128_1024_0
/-- The first half of a row of per-query numbers. -/
def lA : Vec F S1x1x1024 .f32 := VecWindow.window l ![0, 0, 0] S1x1x1024.size inb_S1x1x2048_S1x1x1024_0_0_0
/-- The second half of a row of per-query numbers. -/
def lB : Vec F S1x1x1024 .f32 := VecWindow.window l ![0, 0, 1024] S1x1x1024.size inb_S1x1x2048_S1x1x1024_0_0_1024

end Halves

/-- A load of a whole block, as the body makes it: the block (`kW_eq` and its like). -/
def kW (k : Vec F S1x2048x192 .bf16) : Vec F S1x2048x192 .bf16 := VecWindow.window k ![0, 0, 0] S1x2048x192.size inb_S1x2048x192_S1x2048x192_0_0_0
def ktW (k : Vec F S1x192x2048 .bf16) : Vec F S1x192x2048 .bf16 := VecWindow.window k ![0, 0, 0] S1x192x2048.size inb_S1x192x2048_S1x192x2048_0_0_0
def vW (k : Vec F S2048x128 .bf16) : Vec F S2048x128 .bf16 := VecWindow.window k ![0, 0] S2048x128.size inb_S2048x128_S2048x128_0_0
def dvW (k : Vec F S2048x128 .f32) : Vec F S2048x128 .f32 := VecWindow.window k ![0, 0] S2048x128.size inb_S2048x128_S2048x128_0_0
def dkW (k : Vec F S2048x192 .f32) : Vec F S2048x192 .f32 := VecWindow.window k ![0, 0] S2048x192.size inb_S2048x192_S2048x192_0_0
theorem kW_eq (k : Vec F S1x2048x192 .bf16) : kW k = k := window_full k _
theorem ktW_eq (k : Vec F S1x192x2048 .bf16) : ktW k = k := window_full k _
theorem vW_eq (k : Vec F S2048x128 .bf16) : vW k = k := window_full k _
theorem dvW_eq (k : Vec F S2048x128 .f32) : dvW k = k := window_full k _
theorem dkW_eq (k : Vec F S2048x192 .f32) : dkW k = k := window_full k _

/-- The factor `scale · log₂ e` as the body names it. -/
abbrev cSL : F .f32 := Named.named κ "scale_log2e" 0x3DD53B95#32

variable (q k : Vec F S1x2048x192 .bf16) (kt : Vec F S1x192x2048 .bf16) (v g : Vec F S2048x128 .bf16) (l d : Vec F S1x1x2048 .f32)

/-- The value gradient's accumulator after the body: both halves' terms added to `base`. -/
def dvStep (base : Vec F S2048x128 .f32) : Vec F S2048x128 .f32 :=
  k0_pay24 (k0_pay11 (kW k) (qB q)) (gB g) (lB l) (k0_pay16 (k0_pay9 (kW k) (qA q)) (gA g) cSL (lA l) (dvW base))

/-- The score gradient of the block's first half. -/
def dsA : FVec F S2048x1024 .bf16 := k0_pay15 (k0_pay9 (kW k) (qA q)) (k0_pay10 (vW v) (gA g)) cSL (lA l) (lA d)
/-- The score gradient of the block's second half. -/
def dsB : FVec F S2048x1024 .bf16 := k0_pay23 (k0_pay11 (kW k) (qB q)) (k0_pay12 (vW v) (gB g)) (lB l) (lB d)

/-- The key gradient's accumulator after the body: both halves' terms added to `base`. -/
def dkStep (base : Vec F S2048x192 .f32) : Vec F S2048x192 .f32 :=
  k0_pay1 (k0_pay21 (qB q)) (dsB q k v g l d)
    (k0_pay17 (k0_pay9 (kW k) (qA q)) (k0_pay10 (vW v) (gA g)) (k0_pay13 (qA q)) cSL (lA l) (lA d) (dkW base)) (constant S2048x192 .f32 0x00000000#32)

/-- The key block's term of the query gradient, first half. -/
def dqA : FVec F S192x1024 .f32 := k0_pay18 (k0_pay9 (kW k) (qA q)) (k0_pay10 (vW v) (gA g)) cSL (lA l) (lA d) (ktW kt)

theorem tile_inb (r : Fin 4) (n : Fin 2) : ∀ a, (![0, r.val, 0, 1024 * n.val] : Fin 4 → ℕ) a + S1x1x192x1024.size a ≤ S1x4x192x2048.size a := by
  revert r n; decide +kernel

/-- The query gradient's block at a head's first key block: row `r`'s two tiles are set. -/
def dqSet (r : Fin 4) (y : Vec F S1x4x192x2048 .f32) : Vec F S1x4x192x2048 .f32 :=
  VecWindow.put (VecWindow.put y ![0, r.val, 0, 0] S1x1x192x1024.size (k0_pay19 (dqA q k kt v g l d)))
    ![0, r.val, 0, 1024] S1x1x192x1024.size (k0_pay3 (dsB q k v g l d) (ktW kt))

/-- The first of the two tiles when the query gradient is added to. -/
def dqAdd1 (r : Fin 4) (y : Vec F S1x4x192x2048 .f32) : Vec F S1x4x192x2048 .f32 :=
  VecWindow.put y ![0, r.val, 0, 0] S1x1x192x1024.size
    (k0_pay20 (dqA q k kt v g l d) (VecWindow.window y ![0, r.val, 0, 0] S1x1x192x1024.size (tile_inb r 0)))

/-- The query gradient's block at a later key block: row `r`'s two tiles are added to. -/
def dqAdd (r : Fin 4) (y : Vec F S1x4x192x2048 .f32) : Vec F S1x4x192x2048 .f32 :=
  VecWindow.put (dqAdd1 q k kt v g l d r y) ![0, r.val, 0, 1024] S1x1x192x1024.size
    (k0_pay4 (dsB q k v g l d) (ktW kt) (VecWindow.window y ![0, r.val, 0, 1024] S1x1x192x1024.size (tile_inb r 1)))

/-- Two tiles put in turn over the block: equal payloads leave equal blocks. -/
theorem put_put_congr (y : Vec F S1x4x192x2048 .f32) (r : Fin 4) {w1 w1' w2 w2' : Vec F S1x1x192x1024 .f32} (h1 : w1 = w1') (h2 : w2 = w2') :
    VecWindow.put (VecWindow.put y ![0, r.val, 0, 0] S1x1x192x1024.size w1) ![0, r.val, 0, 1024] S1x1x192x1024.size w2
      = VecWindow.put (VecWindow.put y ![0, r.val, 0, 0] S1x1x192x1024.size w1') ![0, r.val, 0, 1024] S1x1x192x1024.size w2' := by
  subst h1 h2; rfl

theorem pay4_congr {a a' : FVec F S2048x1024 .bf16} {b b' : Vec F S1x192x2048 .bf16} {c c' : Vec F S1x1x192x1024 .f32}
    (h1 : a = a') (h2 : b = b') (h3 : c = c') : k0_pay4 a b c = k0_pay4 a' b' c' := by
  subst h1 h2 h3; rfl

end Cert.KernelIdeal.Hand

end
-- ==== Proof.RunA.lean ====
/-
  The body run at a head's first key block, first query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a head's first key block, first query block. -/
theorem run_A (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : first i) (hc1 : k0_cond2 i = 1#1) (hc2 : ¬k0_cond3 i = 1#1) (hc3 : k0_cond4 i = 1#1) (hc4 : ¬k0_cond5 i = 1#1) (hc5 : ¬k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqSet x0 x1 x2 x3 x4 x5 x6 (i 2) x7) ∗ owns (c : Thread nD τ) arg11 fullShare x8 ∗ owns (c : Thread nD τ) arg12 fullShare x9 ∗ owns (c : Thread nD τ) arg13 fullShare (dkStep x0 x1 x3 x4 x5 x6 k0_pay7) ∗ owns (c : Thread nD τ) arg14 fullShare (dvStep x0 x1 x4 x5 k0_pay8)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off3_eq i)).trans ?_
    rw [View.read_writes_cons_put _ _ _ _ _ (k0_off1_eq i), View.writes_nil, harg10.read_unread]
    refine put_put_congr x7 (i 2) ?_ ?_
    · sl_unfold_words; simp only [readAt_unread_win, readCov_v, readCov_dk]; rfl
    · sl_unfold_words; simp only [readAt_unread_win, readCov_v, readCov_dk]; rfl
  isplitl [H8]
  · iexists _; isplitr; swap; · iexact H8
    ipureintro; exact harg11.read_unread _
  isplitl [H9]
  · iexists _; isplitr; swap; · iexact H9
    ipureintro; exact harg12.read_unread _
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.RunB.lean ====
/-
  The body run at a head's first key block, a middle query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a head's first key block, a middle query block. -/
theorem run_B (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : ¬first i) (hc1 : k0_cond2 i = 1#1) (hc2 : ¬k0_cond3 i = 1#1) (hc3 : k0_cond4 i = 1#1) (hc4 : ¬k0_cond5 i = 1#1) (hc5 : ¬k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqSet x0 x1 x2 x3 x4 x5 x6 (i 2) x7) ∗ owns (c : Thread nD τ) arg11 fullShare x8 ∗ owns (c : Thread nD τ) arg12 fullShare x9 ∗ owns (c : Thread nD τ) arg13 fullShare (dkStep x0 x1 x3 x4 x5 x6 x10) ∗ owns (c : Thread nD τ) arg14 fullShare (dvStep x0 x1 x4 x5 x11)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off3_eq i)).trans ?_
    rw [View.read_writes_cons_put _ _ _ _ _ (k0_off1_eq i), View.writes_nil, harg10.read_unread]
    refine put_put_congr x7 (i 2) ?_ ?_
    · sl_unfold_words; simp only [readAt_unread_win, readCov_v, readCov_dk]; rfl
    · sl_unfold_words; simp only [readAt_unread_win, readCov_v, readCov_dk]; rfl
  isplitl [H8]
  · iexists _; isplitr; swap; · iexact H8
    ipureintro; exact harg11.read_unread _
  isplitl [H9]
  · iexists _; isplitr; swap; · iexact H9
    ipureintro; exact harg12.read_unread _
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.RunC.lean ====
/-
  The body run at a head's first key block, last query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a head's first key block, last query block. -/
theorem run_C (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : ¬first i) (hc1 : k0_cond2 i = 1#1) (hc2 : ¬k0_cond3 i = 1#1) (hc3 : k0_cond4 i = 1#1) (hc4 : ¬k0_cond5 i = 1#1) (hc5 : k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqSet x0 x1 x2 x3 x4 x5 x6 (i 2) x7) ∗ owns (c : Thread nD τ) arg11 fullShare (k0_pay5 (dkStep x0 x1 x3 x4 x5 x6 x10)) ∗ owns (c : Thread nD τ) arg12 fullShare (k0_pay6 (dvStep x0 x1 x4 x5 x11)) ∗ owns (c : Thread nD τ) arg13 fullShare (dkStep x0 x1 x3 x4 x5 x6 x10) ∗ owns (c : Thread nD τ) arg14 fullShare (dvStep x0 x1 x4 x5 x11)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off3_eq i)).trans ?_
    rw [View.read_writes_cons_put _ _ _ _ _ (k0_off1_eq i), View.writes_nil, harg10.read_unread]
    refine put_put_congr x7 (i 2) ?_ ?_
    · sl_unfold_words; simp only [readAt_unread_win, readCov_v, readCov_dk]; rfl
    · sl_unfold_words; simp only [readAt_unread_win, readCov_v, readCov_dk]; rfl
  isplitl [H8]
  · iexists _; isplitr; swap; · iexact H8
    ipureintro; sl_unfold_words
    refine (View.read_writes_full _ _ _ _ _).trans ?_
    simp only [readAt_unread_win, readCov_v, readCov_dk]; rfl
  isplitl [H9]
  · iexists _; isplitr; swap; · iexact H9
    ipureintro; sl_unfold_words
    refine (View.read_writes_full _ _ _ _ _).trans ?_
    simp only [readAt_unread_win, readCov_v, readCov_dk]; rfl
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.RunD.lean ====
/-
  The body run at a later key block, first query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a later key block, first query block. -/
theorem run_D (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : first i) (hc1 : ¬k0_cond2 i = 1#1) (hc2 : k0_cond3 i = 1#1) (hc3 : ¬k0_cond4 i = 1#1) (hc4 : k0_cond5 i = 1#1) (hc5 : ¬k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqAdd x0 x1 x2 x3 x4 x5 x6 (i 2) x7) ∗ owns (c : Thread nD τ) arg11 fullShare x8 ∗ owns (c : Thread nD τ) arg12 fullShare x9 ∗ owns (c : Thread nD τ) arg13 fullShare (dkStep x0 x1 x3 x4 x5 x6 k0_pay7) ∗ owns (c : Thread nD τ) arg14 fullShare (dvStep x0 x1 x4 x5 k0_pay8)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off4_eq i)).trans ?_
    rw [View.read_writes_cons_put _ _ _ _ _ (k0_off2_eq i), View.writes_nil, harg10.read_unread]
    refine put_put_congr x7 (i 2) ?_ ?_
    · refine congrArg₂ k0_pay20 ?_ ?_
      · sl_unfold_words; simp only [readAt_unread_win, readCov_v, readCov_dk]; rfl
      · exact (readAt_unread_win harg10 x7 _).trans (window_congr x7 (k0_off2_eq i) _ _ (tile_inb (i 2) 0))
    · refine pay4_congr ?_ ?_ ?_
      · sl_unfold_words; simp only [readAt_unread_win, readCov_v, readCov_dk]; rfl
      · exact readAt_unread_win harg5 x2 _
      · exact (readAt_unread_win harg10 x7 _).trans (window_congr x7 (k0_off4_eq i) _ _ (tile_inb (i 2) 1))
  isplitl [H8]
  · iexists _; isplitr; swap; · iexact H8
    ipureintro; exact harg11.read_unread _
  isplitl [H9]
  · iexists _; isplitr; swap; · iexact H9
    ipureintro; exact harg12.read_unread _
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.RunE.lean ====
/-
  The body run at a later key block, a middle query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a later key block, a middle query block. -/
theorem run_E (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : ¬first i) (hc1 : ¬k0_cond2 i = 1#1) (hc2 : k0_cond3 i = 1#1) (hc3 : ¬k0_cond4 i = 1#1) (hc4 : k0_cond5 i = 1#1) (hc5 : ¬k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqAdd x0 x1 x2 x3 x4 x5 x6 (i 2) x7) ∗ owns (c : Thread nD τ) arg11 fullShare x8 ∗ owns (c : Thread nD τ) arg12 fullShare x9 ∗ owns (c : Thread nD τ) arg13 fullShare (dkStep x0 x1 x3 x4 x5 x6 x10) ∗ owns (c : Thread nD τ) arg14 fullShare (dvStep x0 x1 x4 x5 x11)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off4_eq i)).trans ?_
    rw [View.read_writes_cons_put _ _ _ _ _ (k0_off2_eq i), View.writes_nil, harg10.read_unread]
    refine put_put_congr x7 (i 2) ?_ ?_
    · refine congrArg₂ k0_pay20 ?_ ?_
      · sl_unfold_words; simp only [readAt_unread_win, readCov_v, readCov_dk]; rfl
      · exact (readAt_unread_win harg10 x7 _).trans (window_congr x7 (k0_off2_eq i) _ _ (tile_inb (i 2) 0))
    · refine pay4_congr ?_ ?_ ?_
      · sl_unfold_words; simp only [readAt_unread_win, readCov_v, readCov_dk]; rfl
      · exact readAt_unread_win harg5 x2 _
      · exact (readAt_unread_win harg10 x7 _).trans (window_congr x7 (k0_off4_eq i) _ _ (tile_inb (i 2) 1))
  isplitl [H8]
  · iexists _; isplitr; swap; · iexact H8
    ipureintro; exact harg11.read_unread _
  isplitl [H9]
  · iexists _; isplitr; swap; · iexact H9
    ipureintro; exact harg12.read_unread _
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.RunF.lean ====
/-
  The body run at a later key block, last query block.
  Every buffer is held at named contents before and after; the updates are those of the pure module.
-/
module

public import proofs.«01_k».proof.Proof.Gen.KernelIdeal.Frame
public import proofs.«01_k».proof.Proof.Step
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

set_option maxHeartbeats 1000000 in
/-- The run at a later key block, last query block. -/
theorem run_F (c : Dev nD) (i : grid0.Coords) (arg3 : Memref sig .tc .vmem S1x2048x192 .bf16) (harg3 : arg3.IsWhole) (arg4 : Memref sig .tc .vmem S1x2048x192 .bf16) (harg4 : arg4.IsWhole) (arg5 : Memref sig .tc .vmem S1x192x2048 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x4x192x2048 .f32) (harg10 : arg10.IsWhole) (arg11 : Memref sig .tc .vmem S1x2048x192 .f32) (harg11 : arg11.IsWhole) (arg12 : Memref sig .tc .vmem S2048x128 .bf16) (harg12 : arg12.IsWhole) (arg13 : Memref sig .tc .vmem S2048x192 .f32) (harg13 : arg13.IsWhole) (arg14 : Memref sig .tc .vmem S2048x128 .f32) (harg14 : arg14.IsWhole)
    (hc0 : ¬first i) (hc1 : ¬k0_cond2 i = 1#1) (hc2 : k0_cond3 i = 1#1) (hc3 : ¬k0_cond4 i = 1#1) (hc4 : k0_cond5 i = 1#1) (hc5 : k0_cond6 i = 1#1)
    (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqAdd x0 x1 x2 x3 x4 x5 x6 (i 2) x7) ∗ owns (c : Thread nD τ) arg11 fullShare (k0_pay5 (dkStep x0 x1 x3 x4 x5 x6 x10)) ∗ owns (c : Thread nD τ) arg12 fullShare (k0_pay6 (dvStep x0 x1 x4 x5 x11)) ∗ owns (c : Thread nD τ) arg13 fullShare (dkStep x0 x1 x3 x4 x5 x6 x10) ∗ owns (c : Thread nD τ) arg14 fullShare (dvStep x0 x1 x4 x5 x11)) -∗ K ⟨⟩))
      ⊢ wp frame (wpE (defs₀ (F := F)) Variants.none c none) E (cc0_bwd_d_mla i arg3 harg3 arg4 harg4 arg5 harg5 arg6 harg6 arg7 harg7 arg8 harg8 arg9 harg9 arg10 harg10 arg11 harg11 arg12 harg12 arg13 harg13 arg14 harg14) K := by
  simp only [cc0_bwd_d_mla_eq_skeleton]; unfold cc0_bwd_d_mla_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; refine (View.read_writes_cons_put _ _ _ _ _ (k0_off4_eq i)).trans ?_
    rw [View.read_writes_cons_put _ _ _ _ _ (k0_off2_eq i), View.writes_nil, harg10.read_unread]
    refine put_put_congr x7 (i 2) ?_ ?_
    · refine congrArg₂ k0_pay20 ?_ ?_
      · sl_unfold_words; simp only [readAt_unread_win, readCov_v, readCov_dk]; rfl
      · exact (readAt_unread_win harg10 x7 _).trans (window_congr x7 (k0_off2_eq i) _ _ (tile_inb (i 2) 0))
    · refine pay4_congr ?_ ?_ ?_
      · sl_unfold_words; simp only [readAt_unread_win, readCov_v, readCov_dk]; rfl
      · exact readAt_unread_win harg5 x2 _
      · exact (readAt_unread_win harg10 x7 _).trans (window_congr x7 (k0_off4_eq i) _ _ (tile_inb (i 2) 1))
  isplitl [H8]
  · iexists _; isplitr; swap; · iexact H8
    ipureintro; sl_unfold_words
    refine (View.read_writes_full _ _ _ _ _).trans ?_
    simp only [readAt_unread_win, readCov_v, readCov_dk]; rfl
  isplitl [H9]
  · iexists _; isplitr; swap; · iexact H9
    ipureintro; sl_unfold_words
    refine (View.read_writes_full _ _ _ _ _).trans ?_
    simp only [readAt_unread_win, readCov_v, readCov_dk]; rfl
  isplitl [H10]
  · iexists _; isplitr; swap; · iexact H10
    ipureintro; sl_unfold_words
    refine (View.read_writes_full _ _ _ _ _).trans ?_
    simp only [readAt_unread_win, readCov_v, readCov_dk]; rfl
  · iexists _; isplitr; swap; · iexact H11
    ipureintro; sl_unfold_words
    refine (View.read_writes_full _ _ _ _ _).trans ?_
    simp only [readAt_unread_win, readCov_v, readCov_dk]; rfl

end Cert.KernelIdeal.Hand

end
-- ==== Proof.Point.lean ====
/-
  The body at a grid point: which of the six runs applies, and the run stated once for all of them.
  Point t is head t / 16, key block t / 4 % 4, query block t % 4.
-/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window)

variable {F : FTy → Type} [FloatOps F] [Named F]
local notation "𝕄" => MT nD τ sig Unit (Elt F) ℕ (UR sig nD τ) ℕ

theorem cond_first (t : Fin cfg0.N) : first (grid0.coords t) ↔ t.val % 4 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [first, e0, e1, e2]
    word_cmp
   : ∀ t : Fin grid0.N, first (grid0.coords t) ↔ t.val % 4 = 0) t

theorem cond_row0 (t : Fin cfg0.N) : k0_cond2 (grid0.coords t) = 1#1 ↔ t.val / 4 % 4 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [k0_cond2, e0, e1, e2]
    word_cmp
   : ∀ t : Fin grid0.N, k0_cond2 (grid0.coords t) = 1#1 ↔ t.val / 4 % 4 = 0) t

theorem cond_row1 (t : Fin cfg0.N) : k0_cond3 (grid0.coords t) = 1#1 ↔ 1 ≤ t.val / 4 % 4 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [k0_cond3, e0, e1, e2]
    word_cmp
   : ∀ t : Fin grid0.N, k0_cond3 (grid0.coords t) = 1#1 ↔ 1 ≤ t.val / 4 % 4) t

theorem cond_set0 (t : Fin cfg0.N) : k0_cond4 (grid0.coords t) = 1#1 ↔ t.val / 4 % 4 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [k0_cond4, e0, e1, e2]
    word_cmp
   : ∀ t : Fin grid0.N, k0_cond4 (grid0.coords t) = 1#1 ↔ t.val / 4 % 4 = 0) t

theorem cond_set1 (t : Fin cfg0.N) : k0_cond5 (grid0.coords t) = 1#1 ↔ 1 ≤ t.val / 4 % 4 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [k0_cond5, e0, e1, e2]
    word_cmp
   : ∀ t : Fin grid0.N, k0_cond5 (grid0.coords t) = 1#1 ↔ 1 ≤ t.val / 4 % 4) t

theorem cond_last (t : Fin cfg0.N) : k0_cond6 (grid0.coords t) = 1#1 ↔ t.val % 4 = 3 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [k0_cond6, e0, e1, e2]
    word_cmp
   : ∀ t : Fin grid0.N, k0_cond6 (grid0.coords t) = 1#1 ↔ t.val % 4 = 3) t

abbrev st0 (t : Fin cfg0.N) : Memref sig .tc .vmem S1x2048x192 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S1x2048x192 .bf16 := win0_1.stage (cfg0.slots t 1)
abbrev hst1 (t : Fin cfg0.N) : (st1 t).IsWhole := hstage0_1 ((cfg0.slots t 1).cast nbuf0_1)
abbrev st2 (t : Fin cfg0.N) : Memref sig .tc .vmem S1x192x2048 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S2048x128 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S2048x128 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1x1x2048 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1x2048 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1x4x192x2048 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1x2048x192 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S2048x128 .bf16 := win0_9.stage (cfg0.slots t 9)
abbrev hst9 (t : Fin cfg0.N) : (st9 t).IsWhole := hstage0_9 ((cfg0.slots t 9).cast nbuf0_9)

/-- The key gradient's running block and the value gradient's. -/
abbrev sc0 : Memref sig .tc .vmem S2048x192 .f32 := Memref.whole cc0_scratch0
abbrev sc1 : Memref sig .tc .vmem S2048x128 .f32 := Memref.whole cc0_scratch1

section Next

variable (t : Fin cfg0.N) (x0 : Vec F S1x2048x192 .bf16) (x1 : Vec F S1x2048x192 .bf16) (x2 : Vec F S1x192x2048 .bf16) (x3 : Vec F S2048x128 .bf16)
  (x4 : Vec F S2048x128 .bf16) (x5 : Vec F S1x1x2048 .f32) (x6 : Vec F S1x1x2048 .f32)

/-- The query gradient's block after the point. -/
def dqNext (y : Vec F S1x4x192x2048 .f32) : Vec F S1x4x192x2048 .f32 :=
  if t.val / 4 % 4 = 0 then dqSet x0 x1 x2 x3 x4 x5 x6 (grid0.coords t 2) y else dqAdd x0 x1 x2 x3 x4 x5 x6 (grid0.coords t 2) y

/-- The key gradient's running block after the point. -/
def dkNext (y : Vec F S2048x192 .f32) : Vec F S2048x192 .f32 := dkStep x0 x1 x3 x4 x5 x6 (if t.val % 4 = 0 then k0_pay7 else y)

/-- The value gradient's running block after the point. -/
def dvNext (y : Vec F S2048x128 .f32) : Vec F S2048x128 .f32 := dvStep x0 x1 x4 x5 (if t.val % 4 = 0 then k0_pay8 else y)

end Next

set_option maxHeartbeats 4000000 in
/-- The body at any point, over any contents. -/
theorem run_at (c : Dev nD) (t : Fin cfg0.N) (x0 : Vec F S1x2048x192 .bf16) (x1 : Vec F S1x2048x192 .bf16) (x2 : Vec F S1x192x2048 .bf16) (x3 : Vec F S2048x128 .bf16) (x4 : Vec F S2048x128 .bf16) (x5 : Vec F S1x1x2048 .f32) (x6 : Vec F S1x1x2048 .f32) (x7 : Vec F S1x4x192x2048 .f32) (x8 : Vec F S1x2048x192 .f32) (x9 : Vec F S2048x128 .bf16) (x10 : Vec F S2048x192 .f32) (x11 : Vec F S2048x128 .f32) (E : Set ℕ) (K : PUnit → sProp 𝕄) :
    iprop(owns (c : Thread nD τ) (st0 t) fullShare x0 ∗ owns (c : Thread nD τ) (st1 t) fullShare x1 ∗ owns (c : Thread nD τ) (st2 t) fullShare x2 ∗ owns (c : Thread nD τ) (st3 t) fullShare x3 ∗ owns (c : Thread nD τ) (st4 t) fullShare x4 ∗ owns (c : Thread nD τ) (st5 t) fullShare x5 ∗ owns (c : Thread nD τ) (st6 t) fullShare x6 ∗ owns (c : Thread nD τ) (st7 t) fullShare x7 ∗ owns (c : Thread nD τ) (st8 t) fullShare x8 ∗ owns (c : Thread nD τ) (st9 t) fullShare x9 ∗ owns (c : Thread nD τ) (sc0) fullShare x10 ∗ owns (c : Thread nD τ) (sc1) fullShare x11
        ∗ (iprop(owns (c : Thread nD τ) (st0 t) fullShare x0 ∗ owns (c : Thread nD τ) (st1 t) fullShare x1 ∗ owns (c : Thread nD τ) (st2 t) fullShare x2 ∗ owns (c : Thread nD τ) (st3 t) fullShare x3 ∗ owns (c : Thread nD τ) (st4 t) fullShare x4 ∗ owns (c : Thread nD τ) (st5 t) fullShare x5 ∗ owns (c : Thread nD τ) (st6 t) fullShare x6 ∗ owns (c : Thread nD τ) (st7 t) fullShare (dqNext t x0 x1 x2 x3 x4 x5 x6 x7) ∗ owns (c : Thread nD τ) (st8 t) fullShare (if t.val % 4 = 3 then k0_pay5 (dkNext t x0 x1 x3 x4 x5 x6 x10) else x8) ∗ owns (c : Thread nD τ) (st9 t) fullShare (if t.val % 4 = 3 then k0_pay6 (dvNext t x0 x1 x4 x5 x11) else x9) ∗ owns (c : Thread nD τ) (sc0) fullShare (dkNext t x0 x1 x3 x4 x5 x6 x10) ∗ owns (c : Thread nD τ) (sc1) fullShare (dvNext t x0 x1 x4 x5 x11)) -∗ K ⟨⟩))
      ⊢ wp frame (wpE (defs₀ (F := F)) Variants.none c none) E (bodyAt0 t) K := by
  unfold bodyAt0
  by_cases h1 : t.val / 4 % 4 = 0
  · have h2 : ¬1 ≤ t.val / 4 % 4 := by omega
    by_cases h0 : t.val % 4 = 0
    · have h5 : ¬t.val % 4 = 3 := by omega
      simp only [dqNext, dkNext, dvNext, if_pos h0, if_neg h5, if_pos h1]
      exact run_A c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) ((cond_first t).mpr h0) ((cond_row0 t).mpr h1) (fun h => h2 ((cond_row1 t).mp h)) ((cond_set0 t).mpr h1) (fun h => h2 ((cond_set1 t).mp h)) (fun h => h5 ((cond_last t).mp h)) x0 x1 x2 x3 x4 x5 x6 x7 x8 x9 x10 x11 E K
    · by_cases h5 : t.val % 4 = 3
      · simp only [dqNext, dkNext, dvNext, if_neg h0, if_pos h5, if_pos h1]
        exact run_C c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) (fun h => h0 ((cond_first t).mp h)) ((cond_row0 t).mpr h1) (fun h => h2 ((cond_row1 t).mp h)) ((cond_set0 t).mpr h1) (fun h => h2 ((cond_set1 t).mp h)) ((cond_last t).mpr h5) x0 x1 x2 x3 x4 x5 x6 x7 x8 x9 x10 x11 E K
      · simp only [dqNext, dkNext, dvNext, if_neg h0, if_neg h5, if_pos h1]
        exact run_B c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) (fun h => h0 ((cond_first t).mp h)) ((cond_row0 t).mpr h1) (fun h => h2 ((cond_row1 t).mp h)) ((cond_set0 t).mpr h1) (fun h => h2 ((cond_set1 t).mp h)) (fun h => h5 ((cond_last t).mp h)) x0 x1 x2 x3 x4 x5 x6 x7 x8 x9 x10 x11 E K
  · have h2 : 1 ≤ t.val / 4 % 4 := by omega
    by_cases h0 : t.val % 4 = 0
    · have h5 : ¬t.val % 4 = 3 := by omega
      simp only [dqNext, dkNext, dvNext, if_pos h0, if_neg h5, if_neg h1]
      exact run_D c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) ((cond_first t).mpr h0) (fun h => h1 ((cond_row0 t).mp h)) ((cond_row1 t).mpr h2) (fun h => h1 ((cond_set0 t).mp h)) ((cond_set1 t).mpr h2) (fun h => h5 ((cond_last t).mp h)) x0 x1 x2 x3 x4 x5 x6 x7 x8 x9 x10 x11 E K
    · by_cases h5 : t.val % 4 = 3
      · simp only [dqNext, dkNext, dvNext, if_neg h0, if_pos h5, if_neg h1]
        exact run_F c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) (fun h => h0 ((cond_first t).mp h)) (fun h => h1 ((cond_row0 t).mp h)) ((cond_row1 t).mpr h2) (fun h => h1 ((cond_set0 t).mp h)) ((cond_set1 t).mpr h2) ((cond_last t).mpr h5) x0 x1 x2 x3 x4 x5 x6 x7 x8 x9 x10 x11 E K
      · simp only [dqNext, dkNext, dvNext, if_neg h0, if_neg h5, if_neg h1]
        exact run_E c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) sc0 (Memref.isWhole_whole _) sc1 (Memref.isWhole_whole _) (fun h => h0 ((cond_first t).mp h)) (fun h => h1 ((cond_row0 t).mp h)) ((cond_row1 t).mpr h2) (fun h => h1 ((cond_set0 t).mp h)) ((cond_set1 t).mpr h2) (fun h => h5 ((cond_last t).mp h)) x0 x1 x2 x3 x4 x5 x6 x7 x8 x9 x10 x11 E K

end Cert.KernelIdeal.Hand

end
-- ==== Proof.Body.lean ====
/-
  The whole grid: what the running blocks hold after each point, what each output block may hold when it is
  written back, and the launch. The query gradient of a head gathers over all sixteen of its points; nothing is
  known of the block it starts from, so its contents are stated up to that block.
-/
module

public import proofs.«01_k».proof.Proof.Point
public import Idealize.ShloMosaic.Lib.Pipeline.DatRel
public import Idealize.ShloMosaic.Lib.Pipeline.ArrRel
public import Idealize.ShloMosaic.Lib.Pipeline.FrameBody
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The key gradient's running block after point `n`. -/
def accDk (c : Dev nD) : (n : ℕ) → n < cfg0.N → Vec F S2048x192 .f32
  | 0, h => dkNext ⟨0, h⟩ (iblk m c 0 ⟨0, h⟩) (iblk m c 1 ⟨0, h⟩) (iblk m c 3 ⟨0, h⟩) (iblk m c 4 ⟨0, h⟩) (iblk m c 5 ⟨0, h⟩) (iblk m c 6 ⟨0, h⟩) k0_pay7
  | n + 1, h => dkNext ⟨n + 1, h⟩ (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (accDk c n (Nat.lt_of_succ_lt h))

/-- The value gradient's running block after point `n`. -/
def accDv (c : Dev nD) : (n : ℕ) → n < cfg0.N → Vec F S2048x128 .f32
  | 0, h => dvNext ⟨0, h⟩ (iblk m c 0 ⟨0, h⟩) (iblk m c 1 ⟨0, h⟩) (iblk m c 4 ⟨0, h⟩) (iblk m c 5 ⟨0, h⟩) k0_pay8
  | n + 1, h => dvNext ⟨n + 1, h⟩ (iblk m c 0 ⟨n + 1, h⟩) (iblk m c 1 ⟨n + 1, h⟩) (iblk m c 4 ⟨n + 1, h⟩) (iblk m c 5 ⟨n + 1, h⟩) (accDv c n (Nat.lt_of_succ_lt h))

/-- The query gradient's block after point `n`, its head having started from the block `y`. -/
def dqAfter (c : Dev nD) (y : Vec F S1x4x192x2048 .f32) : (n : ℕ) → n < cfg0.N → Vec F S1x4x192x2048 .f32
  | 0, h => dqNext ⟨0, h⟩ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) y
  | n + 1, h => dqNext ⟨n + 1, h⟩ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (if (n + 1) % 16 = 0 then y else dqAfter c y n (Nat.lt_of_succ_lt h))

theorem accDk_eq (c : Dev nD) (t : Fin cfg0.N) (d : Vec F S2048x192 .f32) (hd : (h : t.val ≠ 0) → d = accDk m c (t.val - 1) (by omega)) :
    accDk m c t.val t.isLt = dkNext t (iblk m c 0 t) (iblk m c 1 t) (iblk m c 3 t) (iblk m c 4 t) (iblk m c 5 t) (iblk m c 6 t) d := by
  obtain ⟨n, hn⟩ := t
  cases n with
  | zero => simp only [accDk, dkNext]; rfl
  | succ n => rw [hd (Nat.succ_ne_zero n)]; rfl

theorem accDv_eq (c : Dev nD) (t : Fin cfg0.N) (d : Vec F S2048x128 .f32) (hd : (h : t.val ≠ 0) → d = accDv m c (t.val - 1) (by omega)) :
    accDv m c t.val t.isLt = dvNext t (iblk m c 0 t) (iblk m c 1 t) (iblk m c 4 t) (iblk m c 5 t) d := by
  obtain ⟨n, hn⟩ := t
  cases n with
  | zero => simp only [accDv, dvNext]; rfl
  | succ n => rw [hd (Nat.succ_ne_zero n)]; rfl

theorem dqAfter_first (c : Dev nD) (y : Vec F S1x4x192x2048 .f32) (t : Fin cfg0.N) (h : t.val % 16 = 0) :
    dqAfter m c y t.val t.isLt = dqNext t (iblk m c 0 t) (iblk m c 1 t) (iblk m c 2 t) (iblk m c 3 t) (iblk m c 4 t) (iblk m c 5 t) (iblk m c 6 t) y := by
  obtain ⟨n, hn⟩ := t
  cases n with
  | zero => rfl
  | succ n => simp only [dqAfter]; rw [if_pos h]

theorem dqAfter_next (c : Dev nD) (y : Vec F S1x4x192x2048 .f32) (t : Fin cfg0.N) (h : ¬t.val % 16 = 0) :
    dqAfter m c y t.val t.isLt = dqNext t (iblk m c 0 t) (iblk m c 1 t) (iblk m c 2 t) (iblk m c 3 t) (iblk m c 4 t) (iblk m c 5 t) (iblk m c 6 t) (dqAfter m c y (t.val - 1) (by omega)) := by
  obtain ⟨n, hn⟩ := t
  cases n with
  | zero => exact absurd rfl h
  | succ n => simp only [dqAfter]; rw [if_neg h]; rfl

/-- Between points: the two running blocks at what the point before left (anything before the first). -/
def PhiH (c : Dev nD) (n : ℕ) (hn : n ≤ cfg0.N) : sProp 𝕄 :=
  iprop(iprop((∃ d, ⌜(h : n ≠ 0) → d = accDk m c (n - 1) (by omega)⌝ ∗ owns (c : Thread nD τ) sc0 fullShare d)
    ∗ (∃ d, ⌜(h : n ≠ 0) → d = accDv m c (n - 1) (by omega)⌝ ∗ owns (c : Thread nD τ) sc1 fullShare d)) ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The three results. -/
def held : Fin 10 → Bool := fun w => w.val == 7 || w.val == 8 || w.val == 9

/-- The exact part of the data: the inputs' blocks, the running blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
    | ⟨9, h⟩ => Dat.unnamed (cfg := cfg0) ⟨9, h⟩ t
  Φ t := PhiH m c t.val (Nat.le_of_lt_succ t.isLt)
  q _ := fullShare
  owed _ := 0

/-- What each result's block may hold after a point. -/
def Rl (c : Dev nD) (w : Fin cfg0.W) (t : Fin cfg0.N) (X : (cfg0.win w).block.Idx → Elt F (cfg0.win w).elt) : Prop :=
  match w with
  | ⟨7, _⟩ => ∃ y, X = dqAfter m c y t.val t.isLt
  | ⟨8, _⟩ => t.val % 4 = 3 → X = k0_pay5 (accDk m c t.val t.isLt)
  | ⟨9, _⟩ => t.val % 4 = 3 → X = k0_pay6 (accDv m c t.val t.isLt)
  | _ => True

/-- The data of the run. -/
def rdats (c : Dev nD) : RDat τ (Elt F) Unit ℕ (UR sig nD τ) ℕ cfg0 c := (dats m 0 c).toRRel held (Rl m c)

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiH m c t.val (Nat.le_of_lt t.isLt) := by
  dsimp only [dats]; exact Dat.Φ_castSucc (PhiH m c) t

theorem aft0 (c : Dev nD) (t : Fin cfg0.N) : (dats m 0 c).after 0 t = iblk m c 0 t := by dsimp only [dats]
theorem bef0 (c : Dev nD) (t : Fin cfg0.N) (d) : (dats m 0 c).before 0 t d = iblk m c 0 t :=
  before0_0_of m (dats m 0 c) (A_eq m c 0) (aft0 m c) t d
theorem aft1 (c : Dev nD) (t : Fin cfg0.N) : (dats m 0 c).after 1 t = iblk m c 1 t := by dsimp only [dats]
theorem bef1 (c : Dev nD) (t : Fin cfg0.N) (d) : (dats m 0 c).before 1 t d = iblk m c 1 t :=
  before0_1_of m (dats m 0 c) (A_eq m c 1) (aft1 m c) t d
theorem aft2 (c : Dev nD) (t : Fin cfg0.N) : (dats m 0 c).after 2 t = iblk m c 2 t := by dsimp only [dats]
theorem bef2 (c : Dev nD) (t : Fin cfg0.N) (d) : (dats m 0 c).before 2 t d = iblk m c 2 t :=
  before0_2_of m (dats m 0 c) (A_eq m c 2) (aft2 m c) t d
theorem aft3 (c : Dev nD) (t : Fin cfg0.N) : (dats m 0 c).after 3 t = iblk m c 3 t := by dsimp only [dats]
theorem bef3 (c : Dev nD) (t : Fin cfg0.N) (d) : (dats m 0 c).before 3 t d = iblk m c 3 t :=
  before0_3_of m (dats m 0 c) (A_eq m c 3) (aft3 m c) t d
theorem aft4 (c : Dev nD) (t : Fin cfg0.N) : (dats m 0 c).after 4 t = iblk m c 4 t := by dsimp only [dats]
theorem bef4 (c : Dev nD) (t : Fin cfg0.N) (d) : (dats m 0 c).before 4 t d = iblk m c 4 t :=
  before0_4_of m (dats m 0 c) (A_eq m c 4) (aft4 m c) t d
theorem aft5 (c : Dev nD) (t : Fin cfg0.N) : (dats m 0 c).after 5 t = iblk m c 5 t := by dsimp only [dats]
theorem bef5 (c : Dev nD) (t : Fin cfg0.N) (d) : (dats m 0 c).before 5 t d = iblk m c 5 t :=
  before0_5_of m (dats m 0 c) (A_eq m c 5) (aft5 m c) t d
theorem aft6 (c : Dev nD) (t : Fin cfg0.N) : (dats m 0 c).after 6 t = iblk m c 6 t := by dsimp only [dats]
theorem bef6 (c : Dev nD) (t : Fin cfg0.N) (d) : (dats m 0 c).before 6 t d = iblk m c 6 t :=
  before0_6_of m (dats m 0 c) (A_eq m c 6) (aft6 m c) t d

/-- What the query gradient's block may hold when a point that is not its head's first begins. -/
theorem finds7 (c : Dev nD) (t : Fin cfg0.N) (ht : ¬t.val % 16 = 0) (Y : Vec F S1x4x192x2048 .f32) (h : (rdats m c).Finds 7 t Y) :
    ∃ y, Y = dqAfter m c y (t.val - 1) (by omega) := by
  rcases ((rdats m c).finds_of_pos (w := 7) (t := t) rfl (by omega) Y).mp h with h | h
  · exact absurd ((flush0_7 _).mp h) (by dsimp only; omega)
  · exact (dats m 0 c).toRRel_leaves (w := 7) rfl h

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ Y, ⌜(rdats m c).Finds 7 t Y⌝ ∗ owns (c : Thread nD τ) (st7 t) fullShare Y)
    ∗ (∃ Y, ⌜(rdats m c).Finds 8 t Y⌝ ∗ owns (c : Thread nD τ) (st8 t) fullShare Y)
    ∗ (∃ Y, ⌜(rdats m c).Finds 9 t Y⌝ ∗ owns (c : Thread nD τ) (st9 t) fullShare Y))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ (∃ X, ⌜Rl m c 7 t X⌝ ∗ owns (c : Thread nD τ) (st7 t) fullShare X)
    ∗ (∃ X, ⌜Rl m c 8 t X⌝ ∗ owns (c : Thread nD τ) (st8 t) fullShare X)
    ∗ (∃ X, ⌜Rl m c 9 t X⌝ ∗ owns (c : Thread nD τ) (st9 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [bef0, bef1, bef2, bef3, bef4, bef5, bef6, aft0, aft1, aft2, aft3, aft4, aft5, aft6]
  rw [show (dats m 0 c).owesAt () t.succ = (dats m 0 c).owesAt () t.castSucc from rfl]
  rw [show (dats m 0 c).Φ t.succ = PhiH m c (t.val + 1) t.isLt from rfl, Phi_castSucc m c t]
  unfold PhiH
  iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%x7, %h7, H7⟩, ⟨%x8, %h8, H8⟩, ⟨%x9, %h9, H9⟩⟩
  iapply (run_at c t (iblk m c 0 t) (iblk m c 1 t) (iblk m c 2 t) (iblk m c 3 t) (iblk m c 4 t) (iblk m c 5 t) (iblk m c 6 t) x7 x8 x9 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexists _; isplitr; swap; · iexact HS0
        ipureintro; intro _; exact (accDk_eq m c t s0 hs0).symm
      iexists _; isplitr; swap; · iexact HS1
      ipureintro; intro _; exact (accDv_eq m c t s1 hs1).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    show ∃ y, _ = dqAfter m c y t.val t.isLt
    by_cases ht : t.val % 16 = 0
    · exact ⟨x7, (dqAfter_first m c x7 t ht).symm⟩
    · obtain ⟨y, hy⟩ := finds7 m c t ht x7 h7
      exact ⟨y, by rw [dqAfter_next m c y t ht, ← hy]⟩
  isplitl [H8]
  · iexists _; isplitr; swap; · iexact H8
    ipureintro
    show t.val % 4 = 3 → _ = k0_pay5 (accDk m c t.val t.isLt)
    intro ht; rw [if_pos ht, accDk_eq m c t s0 hs0]
  iexists _; isplitr; swap; · iexact H9
  ipureintro
  show t.val % 4 = 3 → _ = k0_pay6 (accDv m c t.val t.isLt)
  intro ht; rw [if_pos ht, accDv_eq m c t s1 hs1]

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ held (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiH m c 0 (Nat.zero_le _) from rfl, PhiA_eq]; unfold PhiH
  iintro ⟨⟨⟨%d, H0⟩, ⟨%e, H1⟩⟩, Hg⟩
  isplitl [H0 H1]
  · isplitl [H0]
    · iexists d; isplitr; swap; · iexact H0
      ipureintro; intro h; exact absurd rfl h
    iexists e; isplitr; swap; · iexact H1
    ipureintro; intro h; exact absurd rfl h
  iexact Hg

theorem hout (c : Dev nD) : (dats m 0 c).Φ (Fin.last cfg0.N) ⊢ Pipeline.ΦA spec0 c := by
  rw [show (dats m 0 c).Φ (Fin.last cfg0.N) = PhiH m c cfg0.N le_rfl from rfl, PhiA_eq]; unfold PhiH
  iintro ⟨⟨⟨%d, %hd, H0⟩, ⟨%e, %he, H1⟩⟩, Hg⟩
  isplitl [H0 H1]
  · isplitl [H0]
    · iexists d; iexact H0
    iexists e; iexact H1
  iexact Hg

set_option backward.isDefEq.respectTransparency.types false in
/-- The launch: every execution ends, with every array at contents the data allow and every counter at zero. -/
theorem run_main : θ_run defs (onTc (τ := τ) (main (F := F))) (s₀ m ρ) (fun r => RDat.FramePost (cfgs 0) (rdats m) (V m) r ∧ r.2.sem = fun _ => 0) :=
  RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The arguments end as they began. -/
theorem kept {r : PUnit × MemSt nD τ sig (Elt F)} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (h.arr_in c 4 rfl).trans ((A_eq m c 4).trans (V_main_arg5 m c))⟩

/-- The frame: the arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m h.1, h.2⟩) (run_main m ρ)

end Cert.KernelIdeal.Hand

end
-- ==== Proof.Frames.lean ====
/-
  Everything claimed but the value: each program runs, leaves its arguments as they were and every counter at zero; and
  each named constant is the real it is named after.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Body
public import proofs.«01_k».proof.Proof.Printed.Body
public import Idealize.ShloMosaic.Lib.Quiescent

@[expose] public section

noncomputable section

namespace Cert.Hand

open Idealize.ShloMosaic Idealize.SL.Sem

theorem frame_kernel : Cert.quiescent_Kernel := fun m ρ _ => Cert.Kernel.Hand.frame m ρ

theorem frame_kernelIdeal : Cert.quiescent_KernelIdeal := fun m ρ _ => Cert.KernelIdeal.Hand.frame m ρ

theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩) (Cert.ReferenceIdeal.Value.run (F := Ideal) m ρ)

theorem preserves : Cert.preserves_Kernel_KernelIdeal :=
  ⟨IdealRules.named_const.statement Cert.KernelIdeal.κ "scale_log2e" .f32 0x3DD53B95#32 _ rfl,
    IdealRules.named_const.statement Cert.KernelIdeal.κ "log2e" .f32 0x3FB8AA3B#32 _ rfl,
    IdealRules.named_const.statement Cert.KernelIdeal.κ "scale" .f32 0x3D93CD3A#32 _ rfl⟩

end Cert.Hand

end
-- ==== Proof.Softmax.lean ====
/-
  The gradient of one row of softmax attention, over the real numbers: a row of scores, the weights they give, and the
  gradient of the scores written in the two ways that the programs write it.
-/
module

public import Mathlib.Analysis.SpecialFunctions.Pow.Real
public import Mathlib.Analysis.SpecialFunctions.Log.Basic
public import Mathlib.Algebra.BigOperators.Field

@[expose] public section

noncomputable section

namespace Cert.Softmax

variable {κ : Type} [Fintype κ]

/-- The sum of the exponentials of a row of scores shifted by `M`. -/
def mass (s : κ → ℝ) (M : ℝ) : ℝ := ∑ j, Real.exp (s j - M)

/-- The weight of key `j` in a row of scores. -/
def prob (s : κ → ℝ) (j : κ) : ℝ := Real.exp (s j) / ∑ j, Real.exp (s j)

theorem mass_pos [Nonempty κ] (s : κ → ℝ) (M : ℝ) : 0 < mass s M :=
  Finset.sum_pos (fun _ _ => Real.exp_pos _) Finset.univ_nonempty

/-- The weights do not depend on the shift. -/
theorem shift (s : κ → ℝ) (M : ℝ) (j : κ) : Real.exp (s j - M) / mass s M = prob s j := by
  unfold mass prob
  simp only [Real.exp_sub]
  rw [← Finset.sum_div, div_div_div_cancel_right₀ (Real.exp_ne_zero M)]

/-- The weight from the logarithm of the mass, to base two. -/
theorem exp2_eq [Nonempty κ] (s : κ → ℝ) (M : ℝ) (j : κ) (D r : ℝ) (hr : D / r = s j) :
    (2 : ℝ) ^ (D * (r⁻¹ * (Real.log 2)⁻¹) - (M + Real.log (mass s M)) * (Real.log 2)⁻¹) = prob s j := by
  have hl : Real.log 2 ≠ 0 := (Real.log_pos (by norm_num)).ne'
  rw [Real.rpow_def_of_pos (by norm_num : (0 : ℝ) < 2), ← shift s M j, ← hr]
  have e : Real.log 2 * (D * (r⁻¹ * (Real.log 2)⁻¹) - (M + Real.log (mass s M)) * (Real.log 2)⁻¹) = D / r - M - Real.log (mass s M) := by
    field_simp
    ring
  rw [e, Real.exp_sub, Real.exp_log (mass_pos s M)]

/-- The gradient of score `j`, `t` the gradients of the weights, `r` the scale's inverse. -/
def grad (s t : κ → ℝ) (r : ℝ) (j : κ) : ℝ := prob s j * (t j - ∑ k, prob s k * t k) * r⁻¹

/-- The same gradient as a quotient's gradient: through the numerator and through the mass. -/
theorem grad_quotient [Nonempty κ] (s t : κ → ℝ) (r M : ℝ) (j : κ) :
    (t j / mass s M + -∑ k, t k * (1 / (mass s M * mass s M)) * Real.exp (s k - M)) * Real.exp (s j - M) / r = grad s t r j := by
  have hz := (mass_pos s M).ne'
  unfold grad
  simp only [← shift s M]
  rw [show (∑ k, Real.exp (s k - M) / mass s M * t k) = (∑ k, t k * (1 / (mass s M * mass s M)) * Real.exp (s k - M)) * mass s M by
    rw [Finset.sum_mul]
    refine Finset.sum_congr rfl fun k _ => ?_
    field_simp]
  generalize (∑ k, t k * (1 / (mass s M * mass s M)) * Real.exp (s k - M)) = A
  field_simp
  ring

/-- The row's gradient dotted with the row's output is the weighted sum of the weights' gradients. -/
theorem delta_eq {δ : Type} [Fintype δ] (p : κ → ℝ) (v : κ → δ → ℝ) (g : δ → ℝ) :
    ∑ d, g d * ∑ k, v k d * p k = ∑ k, p k * ∑ d, v k d * g d := by
  simp only [Finset.mul_sum]
  rw [Finset.sum_comm]
  refine Finset.sum_congr rfl fun k _ => Finset.sum_congr rfl fun d _ => by ring

end Cert.Softmax

end
-- ==== Proof.Attention.lean ====
/-
  The gradient of multi-head attention over the real numbers: heads `h`, queries `i`, keys `j`.
-/
module

public import proofs.«01_k».proof.Proof.Softmax

@[expose] public section

noncomputable section

namespace Cert.Attention

open Cert.Softmax

/-- The square root of the width of a head. -/
abbrev rt : ℝ := Real.sqrt 192

theorem rt_ne : rt ≠ 0 := (Real.sqrt_pos.mpr (by norm_num)).ne'

variable (q k : Fin 8 → Fin 8192 → Fin 192 → ℝ) (v g : Fin 8 → Fin 8192 → Fin 128 → ℝ)

/-- The inner product of a query and a key. -/
def dot (h : Fin 8) (i j : Fin 8192) : ℝ := ∑ d : Fin 192, q h i d * k h j d

/-- A score. -/
def score (h : Fin 8) (i j : Fin 8192) : ℝ := dot q k h i j / rt

/-- The gradient of a weight: a value against the output's gradient. -/
def dweight (h : Fin 8) (i j : Fin 8192) : ℝ := ∑ c : Fin 128, v h j c * g h i c

/-- A weight. -/
def weight (h : Fin 8) (i j : Fin 8192) : ℝ := prob (score q k h i) j

/-- The gradient of an inner product of a query and a key. -/
def ddot (h : Fin 8) (i j : Fin 8192) : ℝ := grad (score q k h i) (dweight v g h i) rt j

/-- The queries' gradient. -/
def dquery (h : Fin 8) (i : Fin 8192) (d : Fin 192) : ℝ := ∑ j : Fin 8192, ddot q k v g h i j * k h j d

/-- The keys' gradient. -/
def dkey (h : Fin 8) (j : Fin 8192) (d : Fin 192) : ℝ := ∑ i : Fin 8192, ddot q k v g h i j * q h i d

/-- The values' gradient. -/
def dvalue (h : Fin 8) (j : Fin 8192) (c : Fin 128) : ℝ := ∑ i : Fin 8192, weight q k h i j * g h i c

end Cert.Attention

end
-- ==== Proof.Lift.lean ====
/-
  Extended reals that are reals: sums, quotients, the largest of a row, and the constants of the programs.
-/
module

public import proofs.«01_k».proof.Proof.Attention
public import Idealize.ShloMosaic.PureOps.Ideal.Laws
public import Idealize.ShloMosaic.PureOps.Reduce
public import Idealize.ShloMosaic.Lib.ReduceAll
public import Idealize.ShloMosaic.Lib.IdealHost

@[expose] public section

noncomputable section

namespace Cert.Lift

open Idealize.ShloMosaic Cert.Attention

/-- An extended real that is a real. -/
def IsReal (x : EReal) : Prop := ∃ r : ℝ, x = (r : EReal)

theorem IsReal.eq {x : EReal} (h : IsReal x) : x = (x.toReal : EReal) := by
  obtain ⟨r, rfl⟩ := h; rw [EReal.toReal_coe]

theorem coe_sum {ι : Type} (S : Finset ι) (f : ι → ℝ) : ∑ i ∈ S, (f i : EReal) = ((∑ i ∈ S, f i : ℝ) : EReal) := by
  induction S using Finset.cons_induction with
  | empty => simp
  | cons a S ha ih => rw [Finset.sum_cons, Finset.sum_cons, ih, EReal.coe_add]

theorem div_coe (x y : ℝ) (h : y ≠ 0) : Ideal.div (x : EReal) (y : EReal) = ((x / y : ℝ) : EReal) := by
  rw [Ideal.div_coe h, ← EReal.coe_mul]; congr 1; ring

/-- The largest of the least number and some reals is a real, if there are any. -/
theorem fold_max {ι : Type} (S : Finset ι) (f : ι → EReal) (hf : ∀ i, IsReal (f i)) :
    (S = ∅ ∧ S.fold max (⊥ : EReal) f = ⊥) ∨ IsReal (S.fold max (⊥ : EReal) f) := by
  induction S using Finset.cons_induction with
  | empty => exact Or.inl ⟨rfl, by simp⟩
  | cons a S ha ih =>
    right
    rw [Finset.fold_cons]
    rcases ih with ⟨_, h⟩ | h
    · rw [h, max_bot_right]; exact hf a
    · rcases max_choice (f a) (S.fold max (⊥ : EReal) f) with e | e <;> rw [e]
      · exact hf a
      · exact h

theorem reduce_max {s t u : Shape} {a : Fin s.rank} (x : s.Idx → Ideal .f32) (init : u.Idx → Ideal .f32) (h' : s.ReducesTo [a] t)
    (h : s.Reduces [a] t) (hu : 0 < u.numel) (j : t.Idx) (hs : 0 < s.size a) (hx : ∀ i, IsReal (x i)) (hi : ∀ i, init i = (⊥ : EReal)) :
    IsReal (Host.reduce (FloatOps.maximumf (F := Ideal) (φ := .f32)) x init h' hu j) := by
  rw [show (FloatOps.maximumf (F := Ideal) (φ := .f32)) = (max : EReal → EReal → EReal) from rfl,
    Host.reduce_eq_fold_single (max : EReal → EReal → EReal) x init h' h hu j, hi]
  rcases fold_max (Finset.univ : Finset (Fin (s.size a))) (x ∘ h.lift j) fun i => hx _ with ⟨e, _⟩ | e
  · exact absurd (Finset.mem_univ (⟨0, hs⟩ : Fin (s.size a))) (by rw [e]; simp)
  · exact e

theorem dim_eq : FloatOps.ofBits (F := Ideal) .f32 0x43400000#32 = ((192 : ℝ) : EReal) := by
  show Ideal.ofBits .f32 0x43400000#32 = _
  simp [Ideal.ofBits, Ideal.ieee, -EReal.coe_mul]; norm_num

theorem bot_eq : FloatOps.ofBits (F := Ideal) .f32 0xFF800000#32 = (⊥ : EReal) := by
  show Ideal.ofBits .f32 0xFF800000#32 = _
  simp [Ideal.ofBits, Ideal.ieee, -EReal.coe_mul]

theorem top_eq : FloatOps.ofBits (F := Ideal) .bf16 0x7F80#16 = (⊤ : EReal) := by
  show Ideal.ofBits .bf16 0x7F80#16 = _
  simp [Ideal.ofBits, Ideal.ieee, -EReal.coe_mul]

theorem nil_eq : FloatOps.ofBits (F := Ideal) .f32 0x00000000#32 = (0 : EReal) := Ideal.ofBits_zero_f32

theorem one_eq : FloatOps.ofBits (F := Ideal) .f32 0x3F800000#32 = ((1 : ℝ) : EReal) := Ideal.ofBits_one_f32

theorem root_eq : FloatOps.hostUnary (F := Ideal) (φ := .f32) .sqrt (FloatOps.ofBits (F := Ideal) .f32 0x43400000#32) = (rt : EReal) := by
  rw [dim_eq, Ideal.hostUnary_sqrt_def, Ideal.sqrt_coe, if_neg (by norm_num)]

/-- An extended real whose absolute value is less than the greatest is a real. -/
theorem real_of_abs (x : EReal) (h : max x (-x) < ⊤) : IsReal x := by
  induction x using EReal.rec with
  | bot => simp at h
  | coe r => exact ⟨r, rfl⟩
  | top => simp at h

end Cert.Lift

end
-- ==== Proof.Finite.lean ====
/-
  The precondition read back: every entry of every argument is a real.
-/
module

public import proofs.«01_k».proof.Pre_finite
public import proofs.«01_k».proof.Proof.Gen.Pre_finite
public import proofs.«01_k».proof.Proof.Lift
public import Idealize.ShloMosaic.Lib.Pipeline.Value

@[expose] public section

noncomputable section

namespace Cert.Pre_finite.Hand

open Cert.Pre_finite Cert.Lift Idealize.ShloMosaic

/-- An array every entry of which has an absolute value below the infinity holds reals. -/
theorem entries {s : Shape} (x : FVec Ideal s .bf16) (hb : S_.BroadcastsInDim s (![] : Fin 0 → Fin s.rank)) {axes : List (Fin s.rank)}
    (h : s.ReducesTo axes S_) (hu : 0 < S_.numel) (j : S_.Idx)
    (e : Host.reduce IntOp.andi (cmpf .olt (Host.absf x) (broadcastInDim s ![] hb (constant (F := Ideal) S_ .bf16 0x7F80#16))) (constantI S_ 1 1#1) h hu j = 1#1)
    (i : s.Idx) : IsReal (x i) := by
  haveI : Subsingleton S_.Idx := ⟨fun a b => funext fun k => k.elim0⟩
  have hi := Host.reduce_andi_all _ _ h hu j e i
  have hc : broadcastInDim s ![] hb (constant (F := Ideal) S_ .bf16 0x7F80#16) i = (⊤ : EReal) := by
    rw [broadcastInDim_apply _ hb _ i (fun a => a.elim0) fun a => a.elim0]
    exact top_eq
  have hd : BitVec.ofBool (decide (max (x i : EReal) (-(x i : EReal)) < broadcastInDim s ![] hb (constant (F := Ideal) S_ .bf16 0x7F80#16) i)) = 1#1 := hi
  rw [hc] at hd
  refine real_of_abs _ ?_
  by_contra hn
  rw [decide_eq_false hn] at hd
  exact absurd hd (by decide)

/-- The precondition gives reals throughout. -/
theorem reals (x0 : FVec Ideal S8192x8x128 .bf16) (x1 : FVec Ideal S8192x8x64 .bf16) (x2 : FVec Ideal S8192x8x128 .bf16) (x3 : FVec Ideal S8192x64 .bf16)
    (x4 : FVec Ideal S8192x8x128 .bf16) (x5 : FVec Ideal S8192x1024 .bf16) (e : Cert.Pre_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have e' := congrFun e (fun a => a.elim0)
  unfold Cert.Pre_finite.fn Cert.Pre_finite.fn_part1 at e'
  obtain ⟨e', h5⟩ := IntOp.andi_eq_one.1 e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨entries x0 _ _ _ _ h0, entries x1 _ _ _ _ h1, entries x2 _ _ _ _ h2, entries x3 _ _ _ _ h3, entries x4 _ _ _ _ h4, entries x5 _ _ _ _ h5⟩

end Cert.Pre_finite.Hand

end
-- ==== Proof.HostVals.lean ====
/- What the host computes before the call, one operation at a time, as functions of the program's arguments: the queries
   and keys laid out head by head, the values' columns, each row's log-sum `lseV` and `deltaV`, the keys transposed.
   Each `…V_apply` reads one operation's result at an index. At the end: the region finds each of its arrays at these
   values (`V_…`). -/
module

public import proofs.«01_k».proof.Proof.Gen.KernelIdeal.Frame
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/- broadcast_in_dim %arg3, dims = [0, 2] : (tensor<8192x64xbf16>) -> tensor<8192x1x64xbf16> -/
def peRowV (x3 : (⟨S8192x64, .bf16⟩ : BufTy).Contents (Elt F)) : (⟨S8192x1x64, .bf16⟩ : BufTy).Contents (Elt F) :=
  broadcastInDim S8192x1x64 ![0, 2] bcast_S8192x64_S8192x1x64_0_2 (x3)
abbrev at_peRow (i : S8192x1x64.Idx) : S8192x64.Idx := fun a => match a with
  | ⟨0, _⟩ => ⟨(i 0).val, (i 0).isLt⟩
  | ⟨1, _⟩ => ⟨(i 2).val, (i 2).isLt⟩
theorem peRowV_apply (x3 : (⟨S8192x64, .bf16⟩ : BufTy).Contents (Elt F)) (i : S8192x1x64.Idx) :
    peRowV (F := F) x3 i = x3 (at_peRow i) := by
  unfold peRowV
  exact broadcastInDim_apply _ bcast_S8192x64_S8192x1x64_0_2 x3 i (at_peRow i) (fun a => match a with
    | ⟨0, _⟩ => by show (i 0).val = if (8192 : Nat) = 1 then 0 else (i 0).val; rw [if_neg (by decide)]
    | ⟨1, _⟩ => by show (i 2).val = if (64 : Nat) = 1 then 0 else (i 2).val; rw [if_neg (by decide)])

/- broadcast_in_dim %0, dims = [0, 1, 2] : (tensor<8192x1x64xbf16>) -> tensor<8192x8x64xbf16> -/
def peHeadsV (x3 : (⟨S8192x64, .bf16⟩ : BufTy).Contents (Elt F)) : (⟨S8192x8x64, .bf16⟩ : BufTy).Contents (Elt F) :=
  broadcastInDim S8192x8x64 ![0, 1, 2] bcast_S8192x1x64_S8192x8x64_0_1_2 (peRowV (F := F) x3)
abbrev at_peHeads (i : S8192x8x64.Idx) : S8192x1x64.Idx := fun a => match a with
  | ⟨0, _⟩ => ⟨(i 0).val, (i 0).isLt⟩
  | ⟨1, _⟩ => ⟨0, Nat.one_pos⟩
  | ⟨2, _⟩ => ⟨(i 2).val, (i 2).isLt⟩
theorem peHeadsV_apply (x3 : (⟨S8192x64, .bf16⟩ : BufTy).Contents (Elt F)) (i : S8192x8x64.Idx) :
    peHeadsV (F := F) x3 i = peRowV (F := F) x3 (at_peHeads i) := by
  unfold peHeadsV
  generalize peRowV (F := F) x3 = y
  exact broadcastInDim_apply _ bcast_S8192x1x64_S8192x8x64_0_1_2 y i (at_peHeads i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)])

/- concatenate %arg0, %arg1, dim = 2 : (tensor<8192x8x128xbf16>, tensor<8192x8x64xbf16>) -> tensor<8192x8x192xbf16> -/
def qCatV (x0 : (⟨S8192x8x128, .bf16⟩ : BufTy).Contents (Elt F)) (x1 : (⟨S8192x8x64, .bf16⟩ : BufTy).Contents (Elt F)) : (⟨S8192x8x192, .bf16⟩ : BufTy).Contents (Elt F) :=
  concatenate S8192x8x192 2 [⟨S8192x8x128, (x0)⟩, ⟨S8192x8x64, (x1)⟩] concatenates_S8192x8x128_S8192x8x64_S8192x8x192_d2

/- transpose %2, dims = [1, 0, 2] : (tensor<8192x8x192xbf16>) -> tensor<8x8192x192xbf16> -/
def qV (x0 : (⟨S8192x8x128, .bf16⟩ : BufTy).Contents (Elt F)) (x1 : (⟨S8192x8x64, .bf16⟩ : BufTy).Contents (Elt F)) : (⟨S8x8192x192, .bf16⟩ : BufTy).Contents (Elt F) :=
  transpose S8x8192x192 [1, 0, 2] (qCatV (F := F) x0 x1) transposes_S8192x8x192_S8x8192x192_1_0_2
abbrev at_q (i : S8x8192x192.Idx) : S8192x8x192.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem qV_apply (x0 : (⟨S8192x8x128, .bf16⟩ : BufTy).Contents (Elt F)) (x1 : (⟨S8192x8x64, .bf16⟩ : BufTy).Contents (Elt F)) (i : S8x8192x192.Idx) :
    qV (F := F) x0 x1 i = qCatV (F := F) x0 x1 (at_q i) := by
  unfold qV
  generalize qCatV (F := F) x0 x1 = y
  exact transpose_apply [1, 0, 2] y transposes_S8192x8x192_S8x8192x192_1_0_2 i (at_q i) (fun b => match b with
    | ⟨0, _⟩ => rfl
    | ⟨1, _⟩ => rfl
    | ⟨2, _⟩ => rfl)

/- concatenate %arg2, %1, dim = 2 : (tensor<8192x8x128xbf16>, tensor<8192x8x64xbf16>) -> tensor<8192x8x192xbf16> -/
def kCatV (x2 : (⟨S8192x8x128, .bf16⟩ : BufTy).Contents (Elt F)) (x3 : (⟨S8192x64, .bf16⟩ : BufTy).Contents (Elt F)) : (⟨S8192x8x192, .bf16⟩ : BufTy).Contents (Elt F) :=
  concatenate S8192x8x192 2 [⟨S8192x8x128, (x2)⟩, ⟨S8192x8x64, (peHeadsV (F := F) x3)⟩] concatenates_S8192x8x128_S8192x8x64_S8192x8x192_d2

/- transpose %4, dims = [1, 0, 2] : (tensor<8192x8x192xbf16>) -> tensor<8x8192x192xbf16> -/
def kV (x2 : (⟨S8192x8x128, .bf16⟩ : BufTy).Contents (Elt F)) (x3 : (⟨S8192x64, .bf16⟩ : BufTy).Contents (Elt F)) : (⟨S8x8192x192, .bf16⟩ : BufTy).Contents (Elt F) :=
  transpose S8x8192x192 [1, 0, 2] (kCatV (F := F) x2 x3) transposes_S8192x8x192_S8x8192x192_1_0_2
abbrev at_k (i : S8x8192x192.Idx) : S8192x8x192.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem kV_apply (x2 : (⟨S8192x8x128, .bf16⟩ : BufTy).Contents (Elt F)) (x3 : (⟨S8192x64, .bf16⟩ : BufTy).Contents (Elt F)) (i : S8x8192x192.Idx) :
    kV (F := F) x2 x3 i = kCatV (F := F) x2 x3 (at_k i) := by
  unfold kV
  generalize kCatV (F := F) x2 x3 = y
  exact transpose_apply [1, 0, 2] y transposes_S8192x8x192_S8x8192x192_1_0_2 i (at_k i) (fun b => match b with
    | ⟨0, _⟩ => rfl
    | ⟨1, _⟩ => rfl
    | ⟨2, _⟩ => rfl)

/- reshape %arg2 : (tensor<8192x8x128xbf16>) -> tensor<8192x1024xbf16> -/
def knRowsV (x2 : (⟨S8192x8x128, .bf16⟩ : BufTy).Contents (Elt F)) : (⟨S8192x1024, .bf16⟩ : BufTy).Contents (Elt F) :=
  shapeCast _ (x2) shapeCasts_S8192x8x128_S8192x1024
set_option backward.proofsInPublic true in
abbrev at_knRows (i : S8192x1024.Idx) : S8192x8x128.Idx := fun a => match a with
  | ⟨0, _⟩ => ⟨((i 0).val * 1024 + (i 1).val) / 1024, by have h0 : (i 0).val < 8192 := (i 0).isLt; have h1 : (i 1).val < 1024 := (i 1).isLt; show ((i 0).val * 1024 + (i 1).val) / 1024 < 8192; omega⟩
  | ⟨1, _⟩ => ⟨((i 0).val * 1024 + (i 1).val) / 128 % 8, by have h0 : (i 0).val < 8192 := (i 0).isLt; have h1 : (i 1).val < 1024 := (i 1).isLt; show ((i 0).val * 1024 + (i 1).val) / 128 % 8 < 8; omega⟩
  | ⟨2, _⟩ => ⟨((i 0).val * 1024 + (i 1).val) % 128, by have h0 : (i 0).val < 8192 := (i 0).isLt; have h1 : (i 1).val < 1024 := (i 1).isLt; show ((i 0).val * 1024 + (i 1).val) % 128 < 128; omega⟩
theorem knRowsV_apply (x2 : (⟨S8192x8x128, .bf16⟩ : BufTy).Contents (Elt F)) (i : S8192x1024.Idx) :
    knRowsV (F := F) x2 i = x2 (at_knRows i) := by
  unfold knRowsV
  exact shapeCast_apply x2 shapeCasts_S8192x8x128_S8192x1024 i (at_knRows i)
    (by rewrite [Shape.rowMajor_val_three, Shape.rowMajor_val_two]; have h0 : (i 0).val < 8192 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

/- reshape %arg4 : (tensor<8192x8x128xbf16>) -> tensor<8192x1024xbf16> -/
def vRowsV (x4 : (⟨S8192x8x128, .bf16⟩ : BufTy).Contents (Elt F)) : (⟨S8192x1024, .bf16⟩ : BufTy).Contents (Elt F) :=
  shapeCast _ (x4) shapeCasts_S8192x8x128_S8192x1024
set_option backward.proofsInPublic true in
abbrev at_vRows (i : S8192x1024.Idx) : S8192x8x128.Idx := fun a => match a with
  | ⟨0, _⟩ => ⟨((i 0).val * 1024 + (i 1).val) / 1024, by have h0 : (i 0).val < 8192 := (i 0).isLt; have h1 : (i 1).val < 1024 := (i 1).isLt; show ((i 0).val * 1024 + (i 1).val) / 1024 < 8192; omega⟩
  | ⟨1, _⟩ => ⟨((i 0).val * 1024 + (i 1).val) / 128 % 8, by have h0 : (i 0).val < 8192 := (i 0).isLt; have h1 : (i 1).val < 1024 := (i 1).isLt; show ((i 0).val * 1024 + (i 1).val) / 128 % 8 < 8; omega⟩
  | ⟨2, _⟩ => ⟨((i 0).val * 1024 + (i 1).val) % 128, by have h0 : (i 0).val < 8192 := (i 0).isLt; have h1 : (i 1).val < 1024 := (i 1).isLt; show ((i 0).val * 1024 + (i 1).val) % 128 < 128; omega⟩
theorem vRowsV_apply (x4 : (⟨S8192x8x128, .bf16⟩ : BufTy).Contents (Elt F)) (i : S8192x1024.Idx) :
    vRowsV (F := F) x4 i = x4 (at_vRows i) := by
  unfold vRowsV
  exact shapeCast_apply x4 shapeCasts_S8192x8x128_S8192x1024 i (at_vRows i)
    (by rewrite [Shape.rowMajor_val_three, Shape.rowMajor_val_two]; have h0 : (i 0).val < 8192 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

/- concatenate %6, %7, dim = 1 : (tensor<8192x1024xbf16>, tensor<8192x1024xbf16>) -> tensor<8192x2048xbf16> -/
def kvV (x2 x4 : (⟨S8192x8x128, .bf16⟩ : BufTy).Contents (Elt F)) : (⟨S8192x2048, .bf16⟩ : BufTy).Contents (Elt F) :=
  concatenate S8192x2048 1 [⟨S8192x1024, (knRowsV (F := F) x2)⟩, ⟨S8192x1024, (vRowsV (F := F) x4)⟩] concatenates_S8192x1024_S8192x1024_S8192x2048_d1

/- convert %3 : (tensor<8x8192x192xbf16>) -> tensor<8x8192x192xf32> -/
def qWideV (x0 : (⟨S8192x8x128, .bf16⟩ : BufTy).Contents (Elt F)) (x1 : (⟨S8192x8x64, .bf16⟩ : BufTy).Contents (Elt F)) : (⟨S8x8192x192, .f32⟩ : BufTy).Contents (Elt F) :=
  extf .f32 (qV (F := F) x0 x1) bitsLt_bf16_f32
theorem qWideV_apply (x0 : (⟨S8192x8x128, .bf16⟩ : BufTy).Contents (Elt F)) (x1 : (⟨S8192x8x64, .bf16⟩ : BufTy).Contents (Elt F)) (i : S8x8192x192.Idx) :
    qWideV (F := F) x0 x1 i = FloatOps.extf .f32 bitsLt_bf16_f32 (qV (F := F) x0 x1 i) := rfl

/- convert %5 : (tensor<8x8192x192xbf16>) -> tensor<8x8192x192xf32> -/
def kWideV (x2 : (⟨S8192x8x128, .bf16⟩ : BufTy).Contents (Elt F)) (x3 : (⟨S8192x64, .bf16⟩ : BufTy).Contents (Elt F)) : (⟨S8x8192x192, .f32⟩ : BufTy).Contents (Elt F) :=
  extf .f32 (kV (F := F) x2 x3) bitsLt_bf16_f32
theorem kWideV_apply (x2 : (⟨S8192x8x128, .bf16⟩ : BufTy).Contents (Elt F)) (x3 : (⟨S8192x64, .bf16⟩ : BufTy).Contents (Elt F)) (i : S8x8192x192.Idx) :
    kWideV (F := F) x2 x3 i = FloatOps.extf .f32 bitsLt_bf16_f32 (kV (F := F) x2 x3 i) := rfl

/- dot_general %9, %10, batching_dims = [0] x [0], contracting_dims = [2] x [2], precision = [DEFAULT, DEFAULT] : (tensor<8x8192x192xf32>, tensor<8x8192x192xf32>) -> tensor<8x8192x8192xf32> -/
def dotsV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.dotGeneral dot_S8x8192x192_S8x8192x192_S8x8192x8192_2_2_1_1_0_0 none (qWideV (F := F) x0 x1) (kWideV (F := F) x2 x3)
theorem lhs_dots_0 (i : S8x8192x8192.Idx) (q : dot_S8x8192x192_S8x8192x192_S8x8192x8192_2_2_1_1_0_0.contr.Idx) :
    (dot_S8x8192x192_S8x8192x192_S8x8192x8192_2_2_1_1_0_0.lhsIdx i q 0).val = (i 0).val := by
  unfold DotDims.lhsIdx
  rw [dif_pos (show (0 : Fin S8x8192x192.rank) ∈ dot_S8x8192x192_S8x8192x192_S8x8192x8192_2_2_1_1_0_0.lhsBatch by decide)]
  rfl
theorem lhs_dots_1 (i : S8x8192x8192.Idx) (q : dot_S8x8192x192_S8x8192x192_S8x8192x8192_2_2_1_1_0_0.contr.Idx) :
    (dot_S8x8192x192_S8x8192x192_S8x8192x8192_2_2_1_1_0_0.lhsIdx i q 1).val = (i 1).val := by
  unfold DotDims.lhsIdx
  rw [dif_neg (show ¬(1 : Fin S8x8192x192.rank) ∈ dot_S8x8192x192_S8x8192x192_S8x8192x8192_2_2_1_1_0_0.lhsBatch by decide), dif_pos (show (1 : Fin S8x8192x192.rank) ∈ dot_S8x8192x192_S8x8192x192_S8x8192x8192_2_2_1_1_0_0.lhsNonContracting by decide)]
  rfl
theorem lhs_dots_2 (i : S8x8192x8192.Idx) (q : dot_S8x8192x192_S8x8192x192_S8x8192x8192_2_2_1_1_0_0.contr.Idx) :
    (dot_S8x8192x192_S8x8192x192_S8x8192x8192_2_2_1_1_0_0.lhsIdx i q 2).val = (q ⟨0, by decide⟩).val :=
  dot_S8x8192x192_S8x8192x192_S8x8192x8192_2_2_1_1_0_0.lhsIdx_val_of_single rfl i q
theorem rhs_dots_0 (i : S8x8192x8192.Idx) (q : dot_S8x8192x192_S8x8192x192_S8x8192x8192_2_2_1_1_0_0.contr.Idx) :
    (dot_S8x8192x192_S8x8192x192_S8x8192x8192_2_2_1_1_0_0.rhsIdx i q 0).val = (i 0).val := by
  unfold DotDims.rhsIdx
  rw [dif_pos (show (0 : Fin S8x8192x192.rank) ∈ dot_S8x8192x192_S8x8192x192_S8x8192x8192_2_2_1_1_0_0.rhsBatch by decide)]
  rfl
theorem rhs_dots_1 (i : S8x8192x8192.Idx) (q : dot_S8x8192x192_S8x8192x192_S8x8192x8192_2_2_1_1_0_0.contr.Idx) :
    (dot_S8x8192x192_S8x8192x192_S8x8192x8192_2_2_1_1_0_0.rhsIdx i q 1).val = (i 2).val := by
  unfold DotDims.rhsIdx
  rw [dif_neg (show ¬(1 : Fin S8x8192x192.rank) ∈ dot_S8x8192x192_S8x8192x192_S8x8192x8192_2_2_1_1_0_0.rhsBatch by decide), dif_pos (show (1 : Fin S8x8192x192.rank) ∈ dot_S8x8192x192_S8x8192x192_S8x8192x8192_2_2_1_1_0_0.rhsNonContracting by decide)]
  rfl
theorem rhs_dots_2 (i : S8x8192x8192.Idx) (q : dot_S8x8192x192_S8x8192x192_S8x8192x8192_2_2_1_1_0_0.contr.Idx) :
    (dot_S8x8192x192_S8x8192x192_S8x8192x8192_2_2_1_1_0_0.rhsIdx i q 2).val = (q ⟨0, by decide⟩).val :=
  dot_S8x8192x192_S8x8192x192_S8x8192x8192_2_2_1_1_0_0.rhsIdx_val_of_single rfl i q
abbrev latt_dots (i : S8x8192x8192.Idx) (k : Fin 192) : S8x8192x192.Idx := fun a => match a with
  | ⟨0, _⟩ => ⟨(i 0).val, (i 0).isLt⟩
  | ⟨1, _⟩ => ⟨(i 1).val, (i 1).isLt⟩
  | ⟨2, _⟩ => ⟨k.val, k.isLt⟩
abbrev ratt_dots (i : S8x8192x8192.Idx) (k : Fin 192) : S8x8192x192.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem dotsV_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (i : S8x8192x8192.Idx) :
    dotsV (F := Ideal) x0 x1 x2 x3 i = ∑ k : Fin 192, (qWideV (F := Ideal) x0 x1) (latt_dots i k) * (kWideV (F := Ideal) x2 x3) (ratt_dots i k) := by
  unfold dotsV
  generalize qWideV (F := Ideal) x0 x1 = y0
  generalize kWideV (F := Ideal) x2 x3 = y1
  simp only [Host.dotGeneral]
  rw [Ideal.dotGeneral_apply, ← Equiv.sum_comp (ValueIdx.contrEquiv1 dot_S8x8192x192_S8x8192x192_S8x8192x8192_2_2_1_1_0_0 192 rfl rfl).symm]
  refine Finset.sum_congr rfl fun k _ => ?_
  have hk := ValueIdx.contrEquiv1_symm_val dot_S8x8192x192_S8x8192x192_S8x8192x8192_2_2_1_1_0_0 192 rfl rfl k
  have el : dot_S8x8192x192_S8x8192x192_S8x8192x8192_2_2_1_1_0_0.lhsIdx i ((ValueIdx.contrEquiv1 dot_S8x8192x192_S8x8192x192_S8x8192x8192_2_2_1_1_0_0 192 rfl rfl).symm k) = latt_dots i k := funext fun a => Fin.ext (by
    match a with
    | ⟨0, _⟩ => exact lhs_dots_0 _ _
    | ⟨1, _⟩ => exact lhs_dots_1 _ _
    | ⟨2, _⟩ => exact (lhs_dots_2 _ _).trans hk)
  have er : dot_S8x8192x192_S8x8192x192_S8x8192x8192_2_2_1_1_0_0.rhsIdx i ((ValueIdx.contrEquiv1 dot_S8x8192x192_S8x8192x192_S8x8192x8192_2_2_1_1_0_0 192 rfl rfl).symm k) = ratt_dots i k := funext fun a => Fin.ext (by
    match a with
    | ⟨0, _⟩ => exact rhs_dots_0 _ _
    | ⟨1, _⟩ => exact rhs_dots_1 _ _
    | ⟨2, _⟩ => exact (rhs_dots_2 _ _).trans hk)
  rw [el, er]

/- constant dense<1.920000e+02> : tensor<f32> -/
def dimV : (⟨S_, .f32⟩ : BufTy).Contents (Elt F) :=
  constant S_ .f32 0x43400000#32
theorem dimV_apply (i : S_.Idx) :
    dimV (F := F) i = FloatOps.ofBits .f32 0x43400000#32 := rfl

/- sqrt %cst : tensor<f32> -/
def rootV : (⟨S_, .f32⟩ : BufTy).Contents (Elt F) :=
  Host.sqrt (dimV (F := F))
theorem rootV_apply (i : S_.Idx) :
    rootV (F := F) i = FloatOps.hostUnary .sqrt (dimV (F := F) i) := rfl

/- broadcast_in_dim %12, dims = [] : (tensor<f32>) -> tensor<8x8192x8192xf32> -/
def rootAllV : (⟨S8x8192x8192, .f32⟩ : BufTy).Contents (Elt F) :=
  broadcastInDim S8x8192x8192 ![] bcast_S_S8x8192x8192 (rootV (F := F))
abbrev at_rootAll (i : S8x8192x8192.Idx) : S_.Idx := fun a => a.elim0
theorem rootAllV_apply (i : S8x8192x8192.Idx) :
    rootAllV (F := F) i = rootV (F := F) (at_rootAll i) := by
  unfold rootAllV
  generalize rootV (F := F) = y
  exact broadcastInDim_apply _ bcast_S_S8x8192x8192 y i (at_rootAll i) (fun a => a.elim0)

/- divide %11, %13 : tensor<8x8192x8192xf32> -/
def scoreV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.divf (dotsV (F := F) x0 x1 x2 x3) (rootAllV (F := F))
theorem scoreV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    scoreV (F := F) x0 x1 x2 x3 i = FloatOps.hostDivf (dotsV (F := F) x0 x1 x2 x3 i) (rootAllV (F := F) i) := rfl

/- constant dense<0xFF800000> : tensor<f32> -/
def botV : (⟨S_, .f32⟩ : BufTy).Contents (Elt F) :=
  constant S_ .f32 0xFF800000#32
theorem botV_apply (i : S_.Idx) :
    botV (F := F) i = FloatOps.ofBits .f32 0xFF800000#32 := rfl

/- reduce(%14 init: %cst_0) applies stablehlo.maximum across dimensions = [2] : (tensor<8x8192x8192xf32>, tensor<f32>) -> tensor<8x8192xf32> -/
def topV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192, .f32⟩ : BufTy).Contents (Elt F) :=
  Host.reduce FloatOps.maximumf (scoreV (F := F) x0 x1 x2 x3) (botV (F := F)) reducesTo_S8x8192x8192_S8x8192_d2 h_S_

/- broadcast_in_dim %15, dims = [0, 1] : (tensor<8x8192xf32>) -> tensor<8x8192x1xf32> -/
def topColV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  broadcastInDim S8x8192x1 ![0, 1] bcast_S8x8192_S8x8192x1_0_1 (topV (F := F) x0 x1 x2 x3)
abbrev at_topCol (i : S8x8192x1.Idx) : S8x8192.Idx := fun a => match a with
  | ⟨0, _⟩ => ⟨(i 0).val, (i 0).isLt⟩
  | ⟨1, _⟩ => ⟨(i 1).val, (i 1).isLt⟩
theorem topColV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    topColV (F := F) x0 x1 x2 x3 i = topV (F := F) x0 x1 x2 x3 (at_topCol i) := by
  unfold topColV
  generalize topV (F := F) x0 x1 x2 x3 = y
  exact broadcastInDim_apply _ bcast_S8x8192_S8x8192x1_0_1 y i (at_topCol i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

/- broadcast_in_dim %16, dims = [0, 1, 2] : (tensor<8x8192x1xf32>) -> tensor<8x8192x8192xf32> -/
def topAllV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  broadcastInDim S8x8192x8192 ![0, 1, 2] bcast_S8x8192x1_S8x8192x8192_0_1_2 (topColV (F := F) x0 x1 x2 x3)
abbrev at_topAll (i : S8x8192x8192.Idx) : S8x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem topAllV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    topAllV (F := F) x0 x1 x2 x3 i = topColV (F := F) x0 x1 x2 x3 (at_topAll i) := by
  unfold topAllV
  generalize topColV (F := F) x0 x1 x2 x3 = y
  exact broadcastInDim_apply _ bcast_S8x8192x1_S8x8192x8192_0_1_2 y i (at_topAll i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

/- subtract %14, %17 : tensor<8x8192x8192xf32> -/
def shiftedV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  subf (scoreV (F := F) x0 x1 x2 x3) (topAllV (F := F) x0 x1 x2 x3)
theorem shiftedV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    shiftedV (F := F) x0 x1 x2 x3 i = FloatOps.subf (scoreV (F := F) x0 x1 x2 x3 i) (topAllV (F := F) x0 x1 x2 x3 i) := rfl

/- exponential %18 : tensor<8x8192x8192xf32> -/
def expoV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.exp (shiftedV (F := F) x0 x1 x2 x3)
theorem expoV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    expoV (F := F) x0 x1 x2 x3 i = FloatOps.hostUnary .exp (shiftedV (F := F) x0 x1 x2 x3 i) := rfl

/- constant dense<0.000000e+00> : tensor<f32> -/
def nil1V : (⟨S_, .f32⟩ : BufTy).Contents (Elt F) :=
  constant S_ .f32 0x00000000#32
theorem nil1V_apply (i : S_.Idx) :
    nil1V (F := F) i = FloatOps.ofBits .f32 0x00000000#32 := rfl

/- reduce(%19 init: %cst_1) applies stablehlo.add across dimensions = [2] : (tensor<8x8192x8192xf32>, tensor<f32>) -> tensor<8x8192xf32> -/
def massV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192, .f32⟩ : BufTy).Contents (Elt F) :=
  Host.reduceAdd (expoV (F := F) x0 x1 x2 x3) (nil1V (F := F)) reducesTo_S8x8192x8192_S8x8192_d2 h_S_
abbrev at_mass (i : S8x8192.Idx) (k : Fin 8192) : S8x8192x8192.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem massV_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (i : S8x8192.Idx) :
    massV (F := Ideal) x0 x1 x2 x3 i = (nil1V (F := Ideal)) (Shape.Idx.first h_S_) + ∑ k : Fin 8192, (expoV (F := Ideal) x0 x1 x2 x3) (at_mass i k) := by
  unfold massV
  generalize expoV (F := Ideal) x0 x1 x2 x3 = y0
  simp only [Host.reduceAdd, Ideal.hostReduceAdd_def]
  rw [Ideal.hostReduceAdd_single reducesTo_S8x8192x8192_S8x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/- broadcast_in_dim %20, dims = [0, 1] : (tensor<8x8192xf32>) -> tensor<8x8192x1xf32> -/
def massColV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  broadcastInDim S8x8192x1 ![0, 1] bcast_S8x8192_S8x8192x1_0_1 (massV (F := F) x0 x1 x2 x3)
abbrev at_massCol (i : S8x8192x1.Idx) : S8x8192.Idx := fun a => match a with
  | ⟨0, _⟩ => ⟨(i 0).val, (i 0).isLt⟩
  | ⟨1, _⟩ => ⟨(i 1).val, (i 1).isLt⟩
theorem massColV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    massColV (F := F) x0 x1 x2 x3 i = massV (F := F) x0 x1 x2 x3 (at_massCol i) := by
  unfold massColV
  generalize massV (F := F) x0 x1 x2 x3 = y
  exact broadcastInDim_apply _ bcast_S8x8192_S8x8192x1_0_1 y i (at_massCol i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

/- log %21 : tensor<8x8192x1xf32> -/
def logMassV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  Host.log (massColV (F := F) x0 x1 x2 x3)
theorem logMassV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    logMassV (F := F) x0 x1 x2 x3 i = FloatOps.hostUnary .log (massColV (F := F) x0 x1 x2 x3 i) := rfl

/- add %16, %22 : tensor<8x8192x1xf32> -/
def lseColV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  addf (topColV (F := F) x0 x1 x2 x3) (logMassV (F := F) x0 x1 x2 x3)
theorem lseColV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    lseColV (F := F) x0 x1 x2 x3 i = FloatOps.addf (topColV (F := F) x0 x1 x2 x3 i) (logMassV (F := F) x0 x1 x2 x3 i) := rfl

/- reshape %23 : (tensor<8x8192x1xf32>) -> tensor<8x1x8192xf32> -/
def lseV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x1x8192, .f32⟩ : BufTy).Contents (Elt F) :=
  shapeCast _ (lseColV (F := F) x0 x1 x2 x3) shapeCasts_S8x8192x1_S8x1x8192
set_option backward.proofsInPublic true in
abbrev at_lse (i : S8x1x8192.Idx) : S8x8192x1.Idx := fun a => match a with
  | ⟨0, _⟩ => ⟨(((i 0).val * 1 + (i 1).val) * 8192 + (i 2).val) / 8192, by have h0 : (i 0).val < 8 := (i 0).isLt; have h1 : (i 1).val < 1 := (i 1).isLt; have h2 : (i 2).val < 8192 := (i 2).isLt; show (((i 0).val * 1 + (i 1).val) * 8192 + (i 2).val) / 8192 < 8; omega⟩
  | ⟨1, _⟩ => ⟨(((i 0).val * 1 + (i 1).val) * 8192 + (i 2).val) / 1 % 8192, by have h0 : (i 0).val < 8 := (i 0).isLt; have h1 : (i 1).val < 1 := (i 1).isLt; have h2 : (i 2).val < 8192 := (i 2).isLt; show (((i 0).val * 1 + (i 1).val) * 8192 + (i 2).val) / 1 % 8192 < 8192; omega⟩
  | ⟨2, _⟩ => ⟨0, Nat.one_pos⟩
theorem lseV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x1x8192.Idx) :
    lseV (F := F) x0 x1 x2 x3 i = lseColV (F := F) x0 x1 x2 x3 (at_lse i) := by
  unfold lseV
  generalize lseColV (F := F) x0 x1 x2 x3 = y
  exact shapeCast_apply y shapeCasts_S8x8192x1_S8x1x8192 i (at_lse i)
    (by rewrite [Shape.rowMajor_val_three, Shape.rowMajor_val_three]; have h0 : (i 0).val < 8 := (i 0).isLt; have h1 : (i 1).val < 1 := (i 1).isLt; have h2 : (i 2).val < 8192 := (i 2).isLt; show ((((i 0).val * 1 + (i 1).val) * 8192 + (i 2).val) / 8192 * 8192 + (((i 0).val * 1 + (i 1).val) * 8192 + (i 2).val) / 1 % 8192) * 1 + 0 = ((i 0).val * 1 + (i 1).val) * 8192 + (i 2).val; omega)

/- broadcast_in_dim %21, dims = [0, 1, 2] : (tensor<8x8192x1xf32>) -> tensor<8x8192x8192xf32> -/
def massAllV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  broadcastInDim S8x8192x8192 ![0, 1, 2] bcast_S8x8192x1_S8x8192x8192_0_1_2 (massColV (F := F) x0 x1 x2 x3)
abbrev at_massAll (i : S8x8192x8192.Idx) : S8x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem massAllV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    massAllV (F := F) x0 x1 x2 x3 i = massColV (F := F) x0 x1 x2 x3 (at_massAll i) := by
  unfold massAllV
  generalize massColV (F := F) x0 x1 x2 x3 = y
  exact broadcastInDim_apply _ bcast_S8x8192x1_S8x8192x8192_0_1_2 y i (at_massAll i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

/- divide %19, %25 : tensor<8x8192x8192xf32> -/
def probV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.divf (expoV (F := F) x0 x1 x2 x3) (massAllV (F := F) x0 x1 x2 x3)
theorem probV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    probV (F := F) x0 x1 x2 x3 i = FloatOps.hostDivf (expoV (F := F) x0 x1 x2 x3 i) (massAllV (F := F) x0 x1 x2 x3 i) := rfl

/- convert %arg4 : (tensor<8192x8x128xbf16>) -> tensor<8192x8x128xf32> -/
def vWideV (x4 : (⟨S8192x8x128, .bf16⟩ : BufTy).Contents (Elt F)) : (⟨S8192x8x128, .f32⟩ : BufTy).Contents (Elt F) :=
  extf .f32 (x4) bitsLt_bf16_f32
theorem vWideV_apply (x4 : (⟨S8192x8x128, .bf16⟩ : BufTy).Contents (Elt F)) (i : S8192x8x128.Idx) :
    vWideV (F := F) x4 i = FloatOps.extf .f32 bitsLt_bf16_f32 (x4 i) := rfl

/- dot_general %27, %26, batching_dims = [1] x [0], contracting_dims = [0] x [2], precision = [DEFAULT, DEFAULT] : (tensor<8192x8x128xf32>, tensor<8x8192x8192xf32>) -> tensor<8x128x8192xf32> -/
def outTV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) : (⟨S8x128x8192, .f32⟩ : BufTy).Contents (Elt F) :=
  Host.dotGeneral dot_S8192x8x128_S8x8192x8192_S8x128x8192_0_2_2_1_1_0 none (vWideV (F := F) x4) (probV (F := F) x0 x1 x2 x3)
theorem lhs_outT_0 (i : S8x128x8192.Idx) (q : dot_S8192x8x128_S8x8192x8192_S8x128x8192_0_2_2_1_1_0.contr.Idx) :
    (dot_S8192x8x128_S8x8192x8192_S8x128x8192_0_2_2_1_1_0.lhsIdx i q 0).val = (q ⟨0, by decide⟩).val :=
  dot_S8192x8x128_S8x8192x8192_S8x128x8192_0_2_2_1_1_0.lhsIdx_val_of_single rfl i q
theorem lhs_outT_1 (i : S8x128x8192.Idx) (q : dot_S8192x8x128_S8x8192x8192_S8x128x8192_0_2_2_1_1_0.contr.Idx) :
    (dot_S8192x8x128_S8x8192x8192_S8x128x8192_0_2_2_1_1_0.lhsIdx i q 1).val = (i 0).val := by
  unfold DotDims.lhsIdx
  rw [dif_pos (show (1 : Fin S8192x8x128.rank) ∈ dot_S8192x8x128_S8x8192x8192_S8x128x8192_0_2_2_1_1_0.lhsBatch by decide)]
  rfl
theorem lhs_outT_2 (i : S8x128x8192.Idx) (q : dot_S8192x8x128_S8x8192x8192_S8x128x8192_0_2_2_1_1_0.contr.Idx) :
    (dot_S8192x8x128_S8x8192x8192_S8x128x8192_0_2_2_1_1_0.lhsIdx i q 2).val = (i 1).val := by
  unfold DotDims.lhsIdx
  rw [dif_neg (show ¬(2 : Fin S8192x8x128.rank) ∈ dot_S8192x8x128_S8x8192x8192_S8x128x8192_0_2_2_1_1_0.lhsBatch by decide), dif_pos (show (2 : Fin S8192x8x128.rank) ∈ dot_S8192x8x128_S8x8192x8192_S8x128x8192_0_2_2_1_1_0.lhsNonContracting by decide)]
  rfl
theorem rhs_outT_0 (i : S8x128x8192.Idx) (q : dot_S8192x8x128_S8x8192x8192_S8x128x8192_0_2_2_1_1_0.contr.Idx) :
    (dot_S8192x8x128_S8x8192x8192_S8x128x8192_0_2_2_1_1_0.rhsIdx i q 0).val = (i 0).val := by
  unfold DotDims.rhsIdx
  rw [dif_pos (show (0 : Fin S8x8192x8192.rank) ∈ dot_S8192x8x128_S8x8192x8192_S8x128x8192_0_2_2_1_1_0.rhsBatch by decide)]
  rfl
theorem rhs_outT_1 (i : S8x128x8192.Idx) (q : dot_S8192x8x128_S8x8192x8192_S8x128x8192_0_2_2_1_1_0.contr.Idx) :
    (dot_S8192x8x128_S8x8192x8192_S8x128x8192_0_2_2_1_1_0.rhsIdx i q 1).val = (i 2).val := by
  unfold DotDims.rhsIdx
  rw [dif_neg (show ¬(1 : Fin S8x8192x8192.rank) ∈ dot_S8192x8x128_S8x8192x8192_S8x128x8192_0_2_2_1_1_0.rhsBatch by decide), dif_pos (show (1 : Fin S8x8192x8192.rank) ∈ dot_S8192x8x128_S8x8192x8192_S8x128x8192_0_2_2_1_1_0.rhsNonContracting by decide)]
  rfl
theorem rhs_outT_2 (i : S8x128x8192.Idx) (q : dot_S8192x8x128_S8x8192x8192_S8x128x8192_0_2_2_1_1_0.contr.Idx) :
    (dot_S8192x8x128_S8x8192x8192_S8x128x8192_0_2_2_1_1_0.rhsIdx i q 2).val = (q ⟨0, by decide⟩).val :=
  dot_S8192x8x128_S8x8192x8192_S8x128x8192_0_2_2_1_1_0.rhsIdx_val_of_single rfl i q
abbrev latt_outT (i : S8x128x8192.Idx) (k : Fin 8192) : S8192x8x128.Idx := fun a => match a with
  | ⟨0, _⟩ => ⟨k.val, k.isLt⟩
  | ⟨1, _⟩ => ⟨(i 0).val, (i 0).isLt⟩
  | ⟨2, _⟩ => ⟨(i 1).val, (i 1).isLt⟩
abbrev ratt_outT (i : S8x128x8192.Idx) (k : Fin 8192) : S8x8192x8192.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem outTV_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (x4 : (⟨S8192x8x128, .bf16⟩ : BufTy).Contents (Elt Ideal)) (i : S8x128x8192.Idx) :
    outTV (F := Ideal) x0 x1 x2 x3 x4 i = ∑ k : Fin 8192, (vWideV (F := Ideal) x4) (latt_outT i k) * (probV (F := Ideal) x0 x1 x2 x3) (ratt_outT i k) := by
  unfold outTV
  generalize vWideV (F := Ideal) x4 = y0
  generalize probV (F := Ideal) x0 x1 x2 x3 = y1
  simp only [Host.dotGeneral]
  rw [Ideal.dotGeneral_apply, ← Equiv.sum_comp (ValueIdx.contrEquiv1 dot_S8192x8x128_S8x8192x8192_S8x128x8192_0_2_2_1_1_0 8192 rfl rfl).symm]
  refine Finset.sum_congr rfl fun k _ => ?_
  have hk := ValueIdx.contrEquiv1_symm_val dot_S8192x8x128_S8x8192x8192_S8x128x8192_0_2_2_1_1_0 8192 rfl rfl k
  have el : dot_S8192x8x128_S8x8192x8192_S8x128x8192_0_2_2_1_1_0.lhsIdx i ((ValueIdx.contrEquiv1 dot_S8192x8x128_S8x8192x8192_S8x128x8192_0_2_2_1_1_0 8192 rfl rfl).symm k) = latt_outT i k := funext fun a => Fin.ext (by
    match a with
    | ⟨0, _⟩ => exact (lhs_outT_0 _ _).trans hk
    | ⟨1, _⟩ => exact lhs_outT_1 _ _
    | ⟨2, _⟩ => exact lhs_outT_2 _ _)
  have er : dot_S8192x8x128_S8x8192x8192_S8x128x8192_0_2_2_1_1_0.rhsIdx i ((ValueIdx.contrEquiv1 dot_S8192x8x128_S8x8192x8192_S8x128x8192_0_2_2_1_1_0 8192 rfl rfl).symm k) = ratt_outT i k := funext fun a => Fin.ext (by
    match a with
    | ⟨0, _⟩ => exact rhs_outT_0 _ _
    | ⟨1, _⟩ => exact rhs_outT_1 _ _
    | ⟨2, _⟩ => exact (rhs_outT_2 _ _).trans hk)
  rw [el, er]

/- transpose %28, dims = [2, 0, 1] : (tensor<8x128x8192xf32>) -> tensor<8192x8x128xf32> -/
def outV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) : (⟨S8192x8x128, .f32⟩ : BufTy).Contents (Elt F) :=
  transpose S8192x8x128 [2, 0, 1] (outTV (F := F) x0 x1 x2 x3 x4) transposes_S8x128x8192_S8192x8x128_2_0_1
abbrev at_out (i : S8192x8x128.Idx) : S8x128x8192.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem outV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (i : S8192x8x128.Idx) :
    outV (F := F) x0 x1 x2 x3 x4 i = outTV (F := F) x0 x1 x2 x3 x4 (at_out i) := by
  unfold outV
  generalize outTV (F := F) x0 x1 x2 x3 x4 = y
  exact transpose_apply [2, 0, 1] y transposes_S8x128x8192_S8192x8x128_2_0_1 i (at_out i) (fun b => match b with
    | ⟨0, _⟩ => rfl
    | ⟨1, _⟩ => rfl
    | ⟨2, _⟩ => rfl)

/- convert %arg5 : (tensor<8192x1024xbf16>) -> tensor<8192x1024xf32> -/
def doWideV (x5 : (⟨S8192x1024, .bf16⟩ : BufTy).Contents (Elt F)) : (⟨S8192x1024, .f32⟩ : BufTy).Contents (Elt F) :=
  extf .f32 (x5) bitsLt_bf16_f32
theorem doWideV_apply (x5 : (⟨S8192x1024, .bf16⟩ : BufTy).Contents (Elt F)) (i : S8192x1024.Idx) :
    doWideV (F := F) x5 i = FloatOps.extf .f32 bitsLt_bf16_f32 (x5 i) := rfl

/- reshape %30 : (tensor<8192x1024xf32>) -> tensor<8192x8x128xf32> -/
def doHeadsV (x5 : (⟨S8192x1024, .bf16⟩ : BufTy).Contents (Elt F)) : (⟨S8192x8x128, .f32⟩ : BufTy).Contents (Elt F) :=
  shapeCast _ (doWideV (F := F) x5) shapeCasts_S8192x1024_S8192x8x128
set_option backward.proofsInPublic true in
abbrev at_doHeads (i : S8192x8x128.Idx) : S8192x1024.Idx := fun a => match a with
  | ⟨0, _⟩ => ⟨(((i 0).val * 8 + (i 1).val) * 128 + (i 2).val) / 1024, by have h0 : (i 0).val < 8192 := (i 0).isLt; have h1 : (i 1).val < 8 := (i 1).isLt; have h2 : (i 2).val < 128 := (i 2).isLt; show (((i 0).val * 8 + (i 1).val) * 128 + (i 2).val) / 1024 < 8192; omega⟩
  | ⟨1, _⟩ => ⟨(((i 0).val * 8 + (i 1).val) * 128 + (i 2).val) % 1024, by have h0 : (i 0).val < 8192 := (i 0).isLt; have h1 : (i 1).val < 8 := (i 1).isLt; have h2 : (i 2).val < 128 := (i 2).isLt; show (((i 0).val * 8 + (i 1).val) * 128 + (i 2).val) % 1024 < 1024; omega⟩
theorem doHeadsV_apply (x5 : (⟨S8192x1024, .bf16⟩ : BufTy).Contents (Elt F)) (i : S8192x8x128.Idx) :
    doHeadsV (F := F) x5 i = doWideV (F := F) x5 (at_doHeads i) := by
  unfold doHeadsV
  generalize doWideV (F := F) x5 = y
  exact shapeCast_apply y shapeCasts_S8192x1024_S8192x8x128 i (at_doHeads i)
    (by rewrite [Shape.rowMajor_val_two, Shape.rowMajor_val_three]; have h0 : (i 0).val < 8192 := (i 0).isLt; have h1 : (i 1).val < 8 := (i 1).isLt; have h2 : (i 2).val < 128 := (i 2).isLt; show (((i 0).val * 8 + (i 1).val) * 128 + (i 2).val) / 1024 * 1024 + (((i 0).val * 8 + (i 1).val) * 128 + (i 2).val) % 1024 = ((i 0).val * 8 + (i 1).val) * 128 + (i 2).val; omega)

/- multiply %31, %29 : tensor<8192x8x128xf32> -/
def doOutV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) : (⟨S8192x8x128, .f32⟩ : BufTy).Contents (Elt F) :=
  mulf (doHeadsV (F := F) x5) (outV (F := F) x0 x1 x2 x3 x4)
theorem doOutV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) (i : S8192x8x128.Idx) :
    doOutV (F := F) x0 x1 x2 x3 x4 x5 i = FloatOps.mulf (doHeadsV (F := F) x5 i) (outV (F := F) x0 x1 x2 x3 x4 i) := rfl

/- constant dense<0.000000e+00> : tensor<f32> -/
def nil2V : (⟨S_, .f32⟩ : BufTy).Contents (Elt F) :=
  constant S_ .f32 0x00000000#32
theorem nil2V_apply (i : S_.Idx) :
    nil2V (F := F) i = FloatOps.ofBits .f32 0x00000000#32 := rfl

/- reduce(%32 init: %cst_2) applies stablehlo.add across dimensions = [2] : (tensor<8192x8x128xf32>, tensor<f32>) -> tensor<8192x8xf32> -/
def deltaRowV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) : (⟨S8192x8, .f32⟩ : BufTy).Contents (Elt F) :=
  Host.reduceAdd (doOutV (F := F) x0 x1 x2 x3 x4 x5) (nil2V (F := F)) reducesTo_S8192x8x128_S8192x8_d2 h_S_
abbrev at_deltaRow (i : S8192x8.Idx) (k : Fin 128) : S8192x8x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem deltaRowV_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (x4 : (⟨S8192x8x128, .bf16⟩ : BufTy).Contents (Elt Ideal)) (x5 : (⟨S8192x1024, .bf16⟩ : BufTy).Contents (Elt Ideal)) (i : S8192x8.Idx) :
    deltaRowV (F := Ideal) x0 x1 x2 x3 x4 x5 i = (nil2V (F := Ideal)) (Shape.Idx.first h_S_) + ∑ k : Fin 128, (doOutV (F := Ideal) x0 x1 x2 x3 x4 x5) (at_deltaRow i k) := by
  unfold deltaRowV
  generalize doOutV (F := Ideal) x0 x1 x2 x3 x4 x5 = y0
  simp only [Host.reduceAdd, Ideal.hostReduceAdd_def]
  rw [Ideal.hostReduceAdd_single reducesTo_S8192x8x128_S8192x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/- transpose %33, dims = [1, 0] : (tensor<8192x8xf32>) -> tensor<8x8192xf32> -/
def deltaTV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) : (⟨S8x8192, .f32⟩ : BufTy).Contents (Elt F) :=
  transpose S8x8192 [1, 0] (deltaRowV (F := F) x0 x1 x2 x3 x4 x5) transposes_S8192x8_S8x8192_1_0
abbrev at_deltaT (i : S8x8192.Idx) : S8192x8.Idx := fun a => match a with
  | ⟨0, _⟩ => ⟨(i 1).val, (i 1).isLt⟩
  | ⟨1, _⟩ => ⟨(i 0).val, (i 0).isLt⟩
theorem deltaTV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) (i : S8x8192.Idx) :
    deltaTV (F := F) x0 x1 x2 x3 x4 x5 i = deltaRowV (F := F) x0 x1 x2 x3 x4 x5 (at_deltaT i) := by
  unfold deltaTV
  generalize deltaRowV (F := F) x0 x1 x2 x3 x4 x5 = y
  exact transpose_apply [1, 0] y transposes_S8192x8_S8x8192_1_0 i (at_deltaT i) (fun b => match b with
    | ⟨0, _⟩ => rfl
    | ⟨1, _⟩ => rfl)

/- reshape %34 : (tensor<8x8192xf32>) -> tensor<8x1x8192xf32> -/
def deltaV (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) : (⟨S8x1x8192, .f32⟩ : BufTy).Contents (Elt F) :=
  shapeCast _ (deltaTV (F := F) x0 x1 x2 x3 x4 x5) shapeCasts_S8x8192_S8x1x8192
set_option backward.proofsInPublic true in
abbrev at_delta (i : S8x1x8192.Idx) : S8x8192.Idx := fun a => match a with
  | ⟨0, _⟩ => ⟨(((i 0).val * 1 + (i 1).val) * 8192 + (i 2).val) / 8192, by have h0 : (i 0).val < 8 := (i 0).isLt; have h1 : (i 1).val < 1 := (i 1).isLt; have h2 : (i 2).val < 8192 := (i 2).isLt; show (((i 0).val * 1 + (i 1).val) * 8192 + (i 2).val) / 8192 < 8; omega⟩
  | ⟨1, _⟩ => ⟨(((i 0).val * 1 + (i 1).val) * 8192 + (i 2).val) % 8192, by have h0 : (i 0).val < 8 := (i 0).isLt; have h1 : (i 1).val < 1 := (i 1).isLt; have h2 : (i 2).val < 8192 := (i 2).isLt; show (((i 0).val * 1 + (i 1).val) * 8192 + (i 2).val) % 8192 < 8192; omega⟩
theorem deltaV_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (x5 : (⟨S8192x1024, .bf16⟩ : BufTy).Contents (Elt F)) (i : S8x1x8192.Idx) :
    deltaV (F := F) x0 x1 x2 x3 x4 x5 i = deltaTV (F := F) x0 x1 x2 x3 x4 x5 (at_delta i) := by
  unfold deltaV
  generalize deltaTV (F := F) x0 x1 x2 x3 x4 x5 = y
  exact shapeCast_apply y shapeCasts_S8x8192_S8x1x8192 i (at_delta i)
    (by rewrite [Shape.rowMajor_val_two, Shape.rowMajor_val_three]; have h0 : (i 0).val < 8 := (i 0).isLt; have h1 : (i 1).val < 1 := (i 1).isLt; have h2 : (i 2).val < 8192 := (i 2).isLt; show (((i 0).val * 1 + (i 1).val) * 8192 + (i 2).val) / 8192 * 8192 + (((i 0).val * 1 + (i 1).val) * 8192 + (i 2).val) % 8192 = ((i 0).val * 1 + (i 1).val) * 8192 + (i 2).val; omega)

/- transpose %5, dims = [0, 2, 1] : (tensor<8x8192x192xbf16>) -> tensor<8x192x8192xbf16> -/
def ktV (x2 : (⟨S8192x8x128, .bf16⟩ : BufTy).Contents (Elt F)) (x3 : (⟨S8192x64, .bf16⟩ : BufTy).Contents (Elt F)) : (⟨S8x192x8192, .bf16⟩ : BufTy).Contents (Elt F) :=
  transpose S8x192x8192 [0, 2, 1] (kV (F := F) x2 x3) transposes_S8x8192x192_S8x192x8192_0_2_1
abbrev at_kt (i : S8x192x8192.Idx) : S8x8192x192.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem ktV_apply (x2 : (⟨S8192x8x128, .bf16⟩ : BufTy).Contents (Elt F)) (x3 : (⟨S8192x64, .bf16⟩ : BufTy).Contents (Elt F)) (i : S8x192x8192.Idx) :
    ktV (F := F) x2 x3 i = kV (F := F) x2 x3 (at_kt i) := by
  unfold ktV
  generalize kV (F := F) x2 x3 = y
  exact transpose_apply [0, 2, 1] y transposes_S8x8192x192_S8x192x8192_0_2_1 i (at_kt i) (fun b => match b with
    | ⟨0, _⟩ => rfl
    | ⟨1, _⟩ => rfl
    | ⟨2, _⟩ => rfl)

section

variable [Named F] (m : (ℓ : Loc nD τ sig) → Buf (Elt F) ℓ) (c : Dev nD)

/-- The region finds the queries, head by head. -/
theorem V_q : V m c main_v3 = qV (F := F) (m ((c.tc : Thread nD τ).loc main_arg0)) (m ((c.tc : Thread nD τ).loc main_arg1)) := by
  show StableHlo.after hostOps0 (fun b => m (c, b)) (Proc.devRef .tc main_v3) = _
  after_results_simp <;> rfl

/-- The region finds the keys, head by head. -/
theorem V_k : V m c main_v5 = kV (F := F) (m ((c.tc : Thread nD τ).loc main_arg2)) (m ((c.tc : Thread nD τ).loc main_arg3)) := by
  show StableHlo.after hostOps0 (fun b => m (c, b)) (Proc.devRef .tc main_v5) = _
  after_results_simp <;> rfl

/-- The region finds the keys transposed. -/
theorem V_kt : V m c main_v36 = ktV (F := F) (m ((c.tc : Thread nD τ).loc main_arg2)) (m ((c.tc : Thread nD τ).loc main_arg3)) := by
  show StableHlo.after hostOps0 (fun b => m (c, b)) (Proc.devRef .tc main_v36) = _
  after_results_simp <;> rfl

/-- The region finds the keys' and the values' columns side by side. -/
theorem V_kv : V m c main_v8 = kvV (F := F) (m ((c.tc : Thread nD τ).loc main_arg2)) (m ((c.tc : Thread nD τ).loc main_arg4)) := by
  show StableHlo.after hostOps0 (fun b => m (c, b)) (Proc.devRef .tc main_v8) = _
  after_results_simp <;> rfl

/-- The region finds each row's log-sum. -/
theorem V_lse : V m c main_v24 = lseV (F := F) (m ((c.tc : Thread nD τ).loc main_arg0)) (m ((c.tc : Thread nD τ).loc main_arg1)) (m ((c.tc : Thread nD τ).loc main_arg2)) (m ((c.tc : Thread nD τ).loc main_arg3)) := by
  show StableHlo.after hostOps0 (fun b => m (c, b)) (Proc.devRef .tc main_v24) = _
  after_results_simp <;> rfl

/-- The region finds each row's delta. -/
theorem V_delta : V m c main_v35 = deltaV (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps0 (fun b => m (c, b)) (Proc.devRef .tc main_v35) = _
  after_results_simp <;> rfl

end

end Cert.KernelIdeal.Host

end
-- ==== Proof.Block.lean ====
/-
  What one run of the body computes, at the real instance and element by element: the weights of the block's keys for
  its queries, the score gradient, and the three updates as sums over the whole block of 2048 queries (the body's two
  halves joined).
-/
module

public import proofs.«01_k».proof.Proof.Step
public import Idealize.ShloMosaic.Lib.Pointwise
public import Idealize.ShloMosaic.PureOps.IdealRules

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise

/-- `(√192)⁻¹`. -/
abbrev sc : EReal := (((Real.sqrt 192)⁻¹ : ℝ) : EReal)
/-- `log₂ e`. -/
abbrev l2e : EReal := (((Real.log 2)⁻¹ : ℝ) : EReal)
/-- `(√192)⁻¹ · log₂ e`. -/
abbrev scl2e : EReal := (((Real.sqrt 192)⁻¹ * (Real.log 2)⁻¹ : ℝ) : EReal)

theorem named_sl : (cSL : Ideal .f32) = scl2e := IdealRules.named_const.ideal_named_scalar _ _ _ _ rfl
theorem named_l : Named.named (F := Ideal) κ "log2e" (φ := .f32) 0x3FB8AA3B#32 = l2e := IdealRules.named_const.ideal_named_scalar _ _ _ _ rfl
theorem named_s : Named.named (F := Ideal) κ "scale" (φ := .f32) 0x3D93CD3A#32 = sc := IdealRules.named_const.ideal_named_scalar _ _ _ _ rfl

section Halves

variable {e : EltTy} (q : Vec Ideal S1x2048x192 .bf16) (g : Vec Ideal S2048x128 .bf16) (l : Vec Ideal S1x1x2048 .f32)

theorem qA_at (x : Fin 1024) (c : Fin 192) : qA q (ix3 0 x c) = q (ix3 0 ⟨x.val, by omega⟩ c) := by
  unfold qA VecWindow.window; congr 1; funext a; apply Fin.ext; fin_cases a <;> simp [Rect.unit, Rect.emb, ix3]
theorem qB_at (x : Fin 1024) (c : Fin 192) : qB q (ix3 0 x c) = q (ix3 0 ⟨1024 + x.val, by omega⟩ c) := by
  unfold qB VecWindow.window; congr 1; funext a; apply Fin.ext; fin_cases a <;> simp [Rect.unit, Rect.emb, ix3]
theorem gA_at (x : Fin 1024) (c : Fin 128) : gA g (ix2 x c) = g (ix2 ⟨x.val, by omega⟩ c) := by
  unfold gA VecWindow.window; congr 1; funext a; apply Fin.ext; fin_cases a <;> simp [Rect.unit, Rect.emb, ix2]
theorem gB_at (x : Fin 1024) (c : Fin 128) : gB g (ix2 x c) = g (ix2 ⟨1024 + x.val, by omega⟩ c) := by
  unfold gB VecWindow.window; congr 1; funext a; apply Fin.ext; fin_cases a <;> simp [Rect.unit, Rect.emb, ix2]
theorem lA_at (x : Fin 1024) : lA l (ix3 0 0 x) = l (ix3 0 0 ⟨x.val, by omega⟩) := by
  unfold lA VecWindow.window; congr 1; funext a; apply Fin.ext; fin_cases a <;> simp [Rect.unit, Rect.emb, ix3]
theorem lB_at (x : Fin 1024) : lB l (ix3 0 0 x) = l (ix3 0 0 ⟨1024 + x.val, by omega⟩) := by
  unfold lB VecWindow.window; congr 1; funext a; apply Fin.ext; fin_cases a <;> simp [Rect.unit, Rect.emb, ix3]

end Halves

theorem pay9_at (k : Vec Ideal S1x2048x192 .bf16) (qh : Vec Ideal S1x1024x192 .bf16) (r : Fin 2048) (x : Fin 1024) :
    k0_pay9 k qh (ix2 r x) = ∑ c : Fin 192, k (ix3 0 r c) * qh (ix3 0 x c) := by
  pointwise [k0_pay9]

theorem pay11_at (k : Vec Ideal S1x2048x192 .bf16) (qh : Vec Ideal S1x1024x192 .bf16) (r : Fin 2048) (x : Fin 1024) :
    k0_pay11 k qh (ix2 r x) = ∑ c : Fin 192, k (ix3 0 r c) * qh (ix3 0 x c) := by
  pointwise [k0_pay11]

theorem pay10_at (v : Vec Ideal S2048x128 .bf16) (gh : Vec Ideal S1024x128 .bf16) (r : Fin 2048) (x : Fin 1024) :
    k0_pay10 v gh (ix2 r x) = ∑ c : Fin 128, v (ix2 r c) * gh (ix2 x c) := by
  pointwise [k0_pay10]

theorem pay12_at (v : Vec Ideal S2048x128 .bf16) (gh : Vec Ideal S1024x128 .bf16) (r : Fin 2048) (x : Fin 1024) :
    k0_pay12 v gh (ix2 r x) = ∑ c : Fin 128, v (ix2 r c) * gh (ix2 x c) := by
  pointwise [k0_pay12]

theorem pay14_at (s : FVec Ideal S2048x1024 .f32) (a : Ideal .f32) (lh : Vec Ideal S1x1x1024 .f32) (r : Fin 2048) (x : Fin 1024) :
    k0_pay14 s a lh (ix2 r x) = Ideal.exp2 (s (ix2 r x) * a - lh (ix3 0 0 x) * l2e) := by
  pointwise [k0_pay14, named_l]
  rfl

theorem pay22_at (s : FVec Ideal S2048x1024 .f32) (lh : Vec Ideal S1x1x1024 .f32) (r : Fin 2048) (x : Fin 1024) :
    k0_pay22 s lh (ix2 r x) = Ideal.exp2 (s (ix2 r x) * scl2e - lh (ix3 0 0 x) * l2e) := by
  pointwise [k0_pay22, named_l, named_sl]
  rfl

theorem pay15_at (s p : FVec Ideal S2048x1024 .f32) (a : Ideal .f32) (lh dh : Vec Ideal S1x1x1024 .f32) (r : Fin 2048) (x : Fin 1024) :
    k0_pay15 s p a lh dh (ix2 r x) = k0_pay14 s a lh (ix2 r x) * (p (ix2 r x) - dh (ix3 0 0 x)) * sc := by
  pointwise [k0_pay15, named_s]

theorem pay23_at (s p : FVec Ideal S2048x1024 .f32) (lh dh : Vec Ideal S1x1x1024 .f32) (r : Fin 2048) (x : Fin 1024) :
    k0_pay23 s p lh dh (ix2 r x) = k0_pay22 s lh (ix2 r x) * (p (ix2 r x) - dh (ix3 0 0 x)) * sc := by
  pointwise [k0_pay23, named_s]

theorem pay16_at (s : FVec Ideal S2048x1024 .f32) (gh : Vec Ideal S1024x128 .bf16) (a : Ideal .f32) (lh : Vec Ideal S1x1x1024 .f32) (b : Vec Ideal S2048x128 .f32)
    (r : Fin 2048) (c : Fin 128) :
    k0_pay16 s gh a lh b (ix2 r c) = b (ix2 r c) + ∑ x : Fin 1024, k0_pay14 s a lh (ix2 r x) * gh (ix2 x c) := by
  pointwise [k0_pay16]

theorem pay24_at (s : FVec Ideal S2048x1024 .f32) (gh : Vec Ideal S1024x128 .bf16) (lh : Vec Ideal S1x1x1024 .f32) (b : Vec Ideal S2048x128 .f32)
    (r : Fin 2048) (c : Fin 128) :
    k0_pay24 s gh lh b (ix2 r c) = b (ix2 r c) + ∑ x : Fin 1024, k0_pay22 s lh (ix2 r x) * gh (ix2 x c) := by
  pointwise [k0_pay24]

theorem pay17_at (s p : FVec Ideal S2048x1024 .f32) (qh : FVec Ideal S1024x192 .bf16) (a : Ideal .f32) (lh dh : Vec Ideal S1x1x1024 .f32) (b : Vec Ideal S2048x192 .f32)
    (r : Fin 2048) (c : Fin 192) :
    k0_pay17 s p qh a lh dh b (ix2 r c) = b (ix2 r c) + ∑ x : Fin 1024, k0_pay15 s p a lh dh (ix2 r x) * qh (ix2 x c) := by
  pointwise [k0_pay17]

theorem pay1_at (qh : FVec Ideal S1024x192 .bf16) (ds : FVec Ideal S2048x1024 .bf16) (b : Vec Ideal S2048x192 .f32)
    (r : Fin 2048) (c : Fin 192) :
    k0_pay1 qh ds b (constant S2048x192 .f32 0x00000000#32) (ix2 r c) = b (ix2 r c) + ∑ x : Fin 1024, ds (ix2 r x) * qh (ix2 x c) := by
  pointwise [k0_pay1]

theorem pay13_at (qh : Vec Ideal S1x1024x192 .bf16) (x : Fin 1024) (c : Fin 192) : k0_pay13 qh (ix2 x c) = qh (ix3 0 x c) := by
  pointwise [k0_pay13]

theorem pay21_at (qh : Vec Ideal S1x1024x192 .bf16) (x : Fin 1024) (c : Fin 192) : k0_pay21 qh (ix2 x c) = qh (ix3 0 x c) := by
  pointwise [k0_pay21]

theorem pay18_at (s p : FVec Ideal S2048x1024 .f32) (a : Ideal .f32) (lh dh : Vec Ideal S1x1x1024 .f32) (kt : Vec Ideal S1x192x2048 .bf16)
    (c : Fin 192) (x : Fin 1024) :
    k0_pay18 s p a lh dh kt (ix2 c x) = ∑ r : Fin 2048, kt (ix3 0 c r) * k0_pay15 s p a lh dh (ix2 r x) := by
  pointwise [k0_pay18]

theorem pay2_at (ds : FVec Ideal S2048x1024 .bf16) (kt : Vec Ideal S1x192x2048 .bf16) (c : Fin 192) (x : Fin 1024) :
    k0_pay2 ds kt (ix2 c x) = ∑ r : Fin 2048, kt (ix3 0 c r) * ds (ix2 r x) := by
  pointwise [k0_pay2]

theorem pay3_at (ds : FVec Ideal S2048x1024 .bf16) (kt : Vec Ideal S1x192x2048 .bf16) (c : Fin 192) (x : Fin 1024) :
    k0_pay3 ds kt (ix4 0 0 c x) = k0_pay2 ds kt (ix2 c x) := by
  pointwise [k0_pay3]

theorem pay4_at (ds : FVec Ideal S2048x1024 .bf16) (kt : Vec Ideal S1x192x2048 .bf16) (o : Vec Ideal S1x1x192x1024 .f32) (c : Fin 192) (x : Fin 1024) :
    k0_pay4 ds kt o (ix4 0 0 c x) = o (ix4 0 0 c x) + k0_pay2 ds kt (ix2 c x) := by
  pointwise [k0_pay4]

theorem pay19_at (y : FVec Ideal S192x1024 .f32) (c : Fin 192) (x : Fin 1024) : k0_pay19 y (ix4 0 0 c x) = y (ix2 c x) := by
  pointwise [k0_pay19]

theorem pay20_at (y : FVec Ideal S192x1024 .f32) (o : Vec Ideal S1x1x192x1024 .f32) (c : Fin 192) (x : Fin 1024) :
    k0_pay20 y o (ix4 0 0 c x) = o (ix4 0 0 c x) + y (ix2 c x) := by
  pointwise [k0_pay20]

theorem pay5_at (b : Vec Ideal S2048x192 .f32) (r : Fin 2048) (c : Fin 192) : k0_pay5 b (ix3 0 r c) = b (ix2 r c) := by
  pointwise [k0_pay5]

theorem pay6_at (b : Vec Ideal S2048x128 .f32) (r : Fin 2048) (c : Fin 128) : k0_pay6 b (ix2 r c) = b (ix2 r c) := by
  pointwise [k0_pay6]

theorem pay7_at (r : Fin 2048) (c : Fin 192) : k0_pay7 (F := Ideal) (ix2 r c) = 0 := by
  pointwise [k0_pay7]

theorem pay8_at (r : Fin 2048) (c : Fin 128) : k0_pay8 (F := Ideal) (ix2 r c) = 0 := by
  pointwise [k0_pay8]

/-! ## The two halves joined -/

/-- A sum over a block's 2048 queries is the sum over its halves. -/
theorem sum_halves (f : Fin 2048 → EReal) :
    ∑ x, f x = ∑ x : Fin 1024, f ⟨x.val, by omega⟩ + ∑ x : Fin 1024, f ⟨1024 + x.val, by omega⟩ :=
  Fin.sum_univ_add (a := 1024) (b := 1024) f

section Joined

variable (q k : Vec Ideal S1x2048x192 .bf16) (kt : Vec Ideal S1x192x2048 .bf16) (v g : Vec Ideal S2048x128 .bf16) (l d : Vec Ideal S1x1x2048 .f32)

/-- The weight of the block's key `r` for its query `x`. -/
def wt (r x : Fin 2048) : EReal := Ideal.exp2 ((∑ c : Fin 192, k (ix3 0 r c) * q (ix3 0 x c)) * scl2e - l (ix3 0 0 x) * l2e)

/-- The gradient of the score of the block's key `r` for its query `x`. -/
def gr (r x : Fin 2048) : EReal := wt q k l r x * ((∑ c : Fin 128, v (ix2 r c) * g (ix2 x c)) - d (ix3 0 0 x)) * sc

theorem dvStep_at (b : Vec Ideal S2048x128 .f32) (r : Fin 2048) (c : Fin 128) :
    dvStep q k g l b (ix2 r c) = b (ix2 r c) + ∑ x : Fin 2048, wt q k l r x * g (ix2 x c) := by
  rw [sum_halves, ← add_assoc]
  simp only [dvStep, kW_eq, dvW_eq, pay24_at, pay16_at, pay14_at, pay22_at, pay9_at, pay11_at, qA_at, qB_at, gA_at, gB_at, lA_at, lB_at, wt, named_sl]

theorem dsA_at (r : Fin 2048) (x : Fin 1024) : dsA q k v g l d (ix2 r x) = gr q k v g l d r ⟨x.val, by omega⟩ := by
  simp only [dsA, kW_eq, vW_eq, pay15_at, pay14_at, pay9_at, pay10_at, qA_at, gA_at, lA_at, gr, wt, named_sl]

theorem dsB_at (r : Fin 2048) (x : Fin 1024) : dsB q k v g l d (ix2 r x) = gr q k v g l d r ⟨1024 + x.val, by omega⟩ := by
  simp only [dsB, kW_eq, vW_eq, pay23_at, pay22_at, pay11_at, pay12_at, qB_at, gB_at, lB_at, gr, wt]

theorem dkStep_at (b : Vec Ideal S2048x192 .f32) (r : Fin 2048) (c : Fin 192) :
    dkStep q k v g l d b (ix2 r c) = b (ix2 r c) + ∑ x : Fin 2048, gr q k v g l d r x * q (ix3 0 x c) := by
  rw [sum_halves, ← add_assoc]
  simp only [dkStep, pay1_at, dsB_at, pay21_at, qB_at, pay17_at, pay13_at, qA_at, dkW_eq]
  simp only [kW_eq, vW_eq, pay15_at, pay14_at, pay9_at, pay10_at, qA_at, gA_at, lA_at, gr, wt, named_sl]

/-- The key block's term of the query gradient. -/
def qterm (c : Fin 192) (x : Fin 2048) : EReal := ∑ r : Fin 2048, kt (ix3 0 c r) * gr q k v g l d r x

theorem dqA_at (c : Fin 192) (x : Fin 1024) : dqA q k kt v g l d (ix2 c x) = qterm q k kt v g l d c ⟨x.val, by omega⟩ := by
  simp only [dqA, pay18_at, ktW_eq, qterm, ← dsA_at]; rfl

theorem dqB_at (c : Fin 192) (x : Fin 1024) : k0_pay2 (dsB q k v g l d) (ktW kt) (ix2 c x) = qterm q k kt v g l d c ⟨1024 + x.val, by omega⟩ := by
  simp only [pay2_at, ktW_eq, qterm, dsB_at]

/-- A tile put into the query gradient's block, read back. -/
theorem put_tile (y : Vec Ideal S1x4x192x2048 .f32) (r : Fin 4) (n : Fin 2) (w : Vec Ideal S1x1x192x1024 .f32) (r' : Fin 4) (c : Fin 192) (x : Fin 2048) :
    VecWindow.put y ![0, r.val, 0, 1024 * n.val] S1x1x192x1024.size w (ix4 0 r' c x)
      = if h : r' = r ∧ x.val / 1024 = n.val then w (ix4 0 0 c ⟨x.val % 1024, Nat.mod_lt _ (by norm_num)⟩) else y (ix4 0 r' c x) := by
  unfold VecWindow.put
  by_cases h : r' = r ∧ x.val / 1024 = n.val
  · have h' : ∀ a : Fin 4, (![0, r.val, 0, 1024 * n.val] : Fin 4 → ℕ) a ≤ (ix4 (0 : Fin 1) r' c x a).val
        ∧ (ix4 (0 : Fin 1) r' c x a).val < (![0, r.val, 0, 1024 * n.val] : Fin 4 → ℕ) a + S1x1x192x1024.size a := by
      obtain ⟨rfl, h2⟩ := h
      intro a
      fin_cases a <;> simp [ix4, S1x1x192x1024] <;> omega
    rw [dif_pos h, dif_pos h']
    congr 1
    funext a
    apply Fin.ext
    obtain ⟨rfl, h2⟩ := h
    fin_cases a <;> simp [ix4, Rect.unitLocal] <;> omega
  · have h' : ¬ ∀ a : Fin 4, (![0, r.val, 0, 1024 * n.val] : Fin 4 → ℕ) a ≤ (ix4 (0 : Fin 1) r' c x a).val
        ∧ (ix4 (0 : Fin 1) r' c x a).val < (![0, r.val, 0, 1024 * n.val] : Fin 4 → ℕ) a + S1x1x192x1024.size a := by
      intro H
      apply h
      have h1 := H 1
      have h3 := H 3
      simp [ix4, S1x1x192x1024] at h1 h3
      exact ⟨Fin.ext (by omega), by omega⟩
    rw [dif_neg h, dif_neg h']

theorem window_tile (y : Vec Ideal S1x4x192x2048 .f32) (r : Fin 4) (n : Fin 2) (c : Fin 192) (x : Fin 1024) :
    VecWindow.window y ![0, r.val, 0, 1024 * n.val] S1x1x192x1024.size (tile_inb r n) (ix4 0 0 c x) = y (ix4 0 r c ⟨1024 * n.val + x.val, by omega⟩) := by
  unfold VecWindow.window; congr 1; funext a; apply Fin.ext; fin_cases a <;> simp [Rect.unit, Rect.emb, ix4]

theorem dqSet_at (r : Fin 4) (y : Vec Ideal S1x4x192x2048 .f32) (r' : Fin 4) (c : Fin 192) (x : Fin 2048) :
    dqSet q k kt v g l d r y (ix4 0 r' c x) = if r' = r then qterm q k kt v g l d c x else y (ix4 0 r' c x) := by
  unfold dqSet
  refine (put_tile _ r 1 _ r' c x).trans ?_
  by_cases hr : r' = r
  · by_cases hx : x.val / 1024 = 1
    · rw [dif_pos ⟨hr, hx⟩, if_pos hr, pay3_at, dqB_at]
      congr 1; apply Fin.ext; show 1024 + x.val % 1024 = x.val; omega
    · rw [dif_neg (fun h => hx h.2), if_pos hr]
      refine (put_tile _ r 0 _ r' c x).trans ?_
      rw [dif_pos ⟨hr, by show x.val / 1024 = 0; have := x.isLt; omega⟩, pay19_at, dqA_at]
      congr 1; apply Fin.ext; show x.val % 1024 = x.val; have := x.isLt; omega
  · rw [dif_neg (fun h => hr h.1), if_neg hr]
    refine (put_tile _ r 0 _ r' c x).trans ?_
    rw [dif_neg (fun h => hr h.1)]

theorem dqAdd_at (r : Fin 4) (y : Vec Ideal S1x4x192x2048 .f32) (r' : Fin 4) (c : Fin 192) (x : Fin 2048) :
    dqAdd q k kt v g l d r y (ix4 0 r' c x) = if r' = r then y (ix4 0 r' c x) + qterm q k kt v g l d c x else y (ix4 0 r' c x) := by
  unfold dqAdd
  refine (put_tile _ r 1 _ r' c x).trans ?_
  by_cases hr : r' = r
  · by_cases hx : x.val / 1024 = 1
    · rw [dif_pos ⟨hr, hx⟩, if_pos hr, pay4_at, dqB_at, hr]
      have e : (⟨1024 + x.val % 1024, by omega⟩ : Fin 2048) = x := Fin.ext (by show 1024 + x.val % 1024 = x.val; omega)
      refine congrArg₂ (· + ·) ((window_tile y r 1 c _).trans ?_) ?_
      · exact congrArg (fun z => y (ix4 0 r c z)) e
      · exact congrArg _ e
    · rw [dif_neg (fun h => hx h.2), if_pos hr]
      unfold dqAdd1
      refine (put_tile _ r 0 _ r' c x).trans ?_
      rw [dif_pos ⟨hr, by show x.val / 1024 = 0; have := x.isLt; omega⟩, pay20_at, dqA_at, hr]
      have e : (⟨x.val % 1024, by omega⟩ : Fin 2048) = x := Fin.ext (by show x.val % 1024 = x.val; have := x.isLt; omega)
      refine congrArg₂ (· + ·) ((window_tile y r 0 c _).trans ?_) ?_
      · refine congrArg (fun z => y (ix4 0 r c z)) (Fin.ext ?_)
        show 1024 * 0 + x.val % 1024 = x.val
        have := x.isLt; omega
      · exact congrArg _ e
  · rw [dif_neg (fun h => hr h.1), if_neg hr]
    unfold dqAdd1
    refine (put_tile _ r 0 _ r' c x).trans ?_
    rw [dif_neg (fun h => hr h.1)]

end Joined

end Cert.KernelIdeal.Hand

end
-- ==== Proof.Grid.lean ====
/-
  The blocks as parts of the arrays, and what the running blocks hold when they are written back, as sums over the whole
  arrays. Point t is head t / 16, key block t / 4 % 4, query block t % 4.
-/
module

public import proofs.«01_k».proof.Proof.Body
public import proofs.«01_k».proof.Proof.Block
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise

/-! ## The results as functions of the call's operands -/

section Arrays

variable (Q K : Vec Ideal S8x8192x192 .bf16) (KT : Vec Ideal S8x192x8192 .bf16) (KV : Vec Ideal S8192x2048 .bf16) (G : Vec Ideal S8192x1024 .bf16)
  (L D : Vec Ideal S8x1x8192 .f32)

/-- Head `h`'s column `c` of a 1024-wide array of eight heads. -/
def hcol (h : Fin 8) (c : Fin 128) : Fin 1024 := ⟨h.val * 128 + c.val, by omega⟩
/-- Head `h`'s value column `c` of the array that holds the keys' columns and then the values'. -/
def vcol (h : Fin 8) (c : Fin 128) : Fin 2048 := ⟨(8 + h.val) * 128 + c.val, by omega⟩

/-- The weight of head `h`'s key `k` for its query `q`. -/
def aw (h : Fin 8) (k q : Fin 8192) : EReal := Ideal.exp2 ((∑ c : Fin 192, K (ix3 h k c) * Q (ix3 h q c)) * scl2e - L (ix3 h 0 q) * l2e)

/-- The gradient of the score of head `h`'s key `k` for its query `q`. -/
def ag (h : Fin 8) (k q : Fin 8192) : EReal :=
  aw Q K L h k q * ((∑ c : Fin 128, KV (ix2 k (vcol h c)) * G (ix2 q (hcol h c))) - D (ix3 h 0 q)) * sc

end Arrays

/-! ## A point's blocks -/

/-- The head of a point. -/
def hd (t : Fin cfg0.N) : Fin 8 := ⟨t.val / 16, by have := Nat.lt_of_lt_of_eq t.isLt N_0; omega⟩
/-- Row `r` of a point's key block in the array. -/
def kr (t : Fin cfg0.N) (r : Fin 2048) : Fin 8192 := ⟨t.val / 4 % 4 * 2048 + r.val, by omega⟩
/-- Row `x` of a point's query block in the array. -/
def qr (t : Fin cfg0.N) (x : Fin 2048) : Fin 8192 := ⟨t.val % 4 * 2048 + x.val, by omega⟩

theorem idx0 : ∀ t : Fin grid0.N, win0_0.index t = ![t.val / 16, t.val % 4, 0] := by decide +kernel
theorem idx1 : ∀ t : Fin grid0.N, win0_1.index t = ![t.val / 16, t.val / 4 % 4, 0] := by decide +kernel
theorem idx2 : ∀ t : Fin grid0.N, win0_2.index t = ![t.val / 16, 0, t.val / 4 % 4] := by decide +kernel
theorem idx3 : ∀ t : Fin grid0.N, win0_3.index t = ![t.val / 4 % 4, 8 + t.val / 16] := by decide +kernel
theorem idx4 : ∀ t : Fin grid0.N, win0_4.index t = ![t.val % 4, t.val / 16] := by decide +kernel
theorem idx5 : ∀ t : Fin grid0.N, win0_5.index t = ![t.val / 16, 0, t.val % 4] := by decide +kernel
theorem idx6 : ∀ t : Fin grid0.N, win0_6.index t = ![t.val / 16, 0, t.val % 4] := by decide +kernel
theorem idx7 : ∀ t : Fin grid0.N, win0_7.index t = ![t.val / 16, 0, 0, 0] := by decide +kernel
theorem idx8 : ∀ t : Fin grid0.N, win0_8.index t = ![t.val / 16, t.val / 4 % 4, 0] := by decide +kernel
theorem idx9 : ∀ t : Fin grid0.N, win0_9.index t = ![t.val / 4 % 4, t.val / 16] := by decide +kernel

section Reads

variable {F : FTy → Type} [FloatOps F] [Named F] (m : (ℓ : Loc nD τ sig) → Buf (Elt F) ℓ) (c : Dev nD) (t : Fin cfg0.N)

theorem blk0_at (x : Fin 2048) (d : Fin 192) :
    (iblk m c 0 t : Vec F S1x2048x192 .bf16) (ix3 0 x d) = (V m c main_v3 : Vec F S8x8192x192 .bf16) (ix3 (hd t) (qr t x) d) := by
  blk_ext [iblk, idx0, hd, qr]

theorem blk1_at (r : Fin 2048) (d : Fin 192) :
    (iblk m c 1 t : Vec F S1x2048x192 .bf16) (ix3 0 r d) = (V m c main_v5 : Vec F S8x8192x192 .bf16) (ix3 (hd t) (kr t r) d) := by
  blk_ext [iblk, idx1, hd, kr]

theorem blk2_at (d : Fin 192) (r : Fin 2048) :
    (iblk m c 2 t : Vec F S1x192x2048 .bf16) (ix3 0 d r) = (V m c main_v36 : Vec F S8x192x8192 .bf16) (ix3 (hd t) d (kr t r)) := by
  blk_ext [iblk, idx2, hd, kr]

theorem blk3_at (r : Fin 2048) (d : Fin 128) :
    (iblk m c 3 t : Vec F S2048x128 .bf16) (ix2 r d) = (V m c main_v8 : Vec F S8192x2048 .bf16) (ix2 (kr t r) (vcol (hd t) d)) := by
  blk_ext [iblk, idx3, hd, kr, vcol]

theorem blk4_at (x : Fin 2048) (d : Fin 128) :
    (iblk m c 4 t : Vec F S2048x128 .bf16) (ix2 x d) = (V m c main_arg5 : Vec F S8192x1024 .bf16) (ix2 (qr t x) (hcol (hd t) d)) := by
  blk_ext [iblk, idx4, hd, qr, hcol]

theorem blk5_at (x : Fin 2048) :
    (iblk m c 5 t : Vec F S1x1x2048 .f32) (ix3 0 0 x) = (V m c main_v24 : Vec F S8x1x8192 .f32) (ix3 (hd t) 0 (qr t x)) := by
  blk_ext [iblk, idx5, hd, qr]

theorem blk6_at (x : Fin 2048) :
    (iblk m c 6 t : Vec F S1x1x2048 .f32) (ix3 0 0 x) = (V m c main_v35 : Vec F S8x1x8192 .f32) (ix3 (hd t) 0 (qr t x)) := by
  blk_ext [iblk, idx6, hd, qr]

end Reads

end Cert.KernelIdeal.Hand

end
-- ==== Proof.HostReal.lean ====
/-
  What the kernel's program computes on the host, at arguments that are reals: each row's log-sum and delta.
-/
module

public import proofs.«01_k».proof.Proof.HostVals
public import proofs.«01_k».proof.Proof.Lift
public import proofs.«01_k».proof.Proof.Grid

@[expose] public section

set_option maxRecDepth 16384

noncomputable section

namespace Cert.KernelIdeal.Host

open Cert.KernelIdeal Cert.KernelIdeal.Gen Cert.KernelIdeal.Hand Cert.Lift Cert.Attention Cert.Softmax
open Idealize.ShloMosaic Idealize.ShloMosaic.TcCoe Idealize.ShloMosaic.Pointwise

/-- The arguments' entries as reals, head by head. -/
structure Real6 (x0 x2 x4 : Vec Ideal S8192x8x128 .bf16) (x1 : Vec Ideal S8192x8x64 .bf16) (x3 : Vec Ideal S8192x64 .bf16) (x5 : Vec Ideal S8192x1024 .bf16)
    (q k : Fin 8 → Fin 8192 → Fin 192 → ℝ) (v g : Fin 8 → Fin 8192 → Fin 128 → ℝ) : Prop where
  query : ∀ (h : Fin 8) (i : Fin 8192) (d : Fin 192), qCatV (F := Ideal) x0 x1 (ix3 i h d) = (q h i d : EReal)
  key : ∀ (h : Fin 8) (j : Fin 8192) (d : Fin 192), kCatV (F := Ideal) x2 x3 (ix3 j h d) = (k h j d : EReal)
  value : ∀ (h : Fin 8) (j : Fin 8192) (c : Fin 128), x4 (ix3 j h c) = (v h j c : EReal)
  out : ∀ (h : Fin 8) (i : Fin 8192) (c : Fin 128), x5 (ix2 i (hcol h c)) = (g h i c : EReal)

variable {x0 x2 x4 : Vec Ideal S8192x8x128 .bf16} {x1 : Vec Ideal S8192x8x64 .bf16} {x3 : Vec Ideal S8192x64 .bf16} {x5 : Vec Ideal S8192x1024 .bf16}
  {q k : Fin 8 → Fin 8192 → Fin 192 → ℝ} {v g : Fin 8 → Fin 8192 → Fin 128 → ℝ} (R : Real6 x0 x2 x4 x1 x3 x5 q k v g)

include R

theorem q_real (h : Fin 8) (i : Fin 8192) (d : Fin 192) : qV (F := Ideal) x0 x1 (ix3 h i d) = (q h i d : EReal) := by
  rw [qV_apply, ← R.query]
  exact congrArg _ (funext fun a => match a with | ⟨0, _⟩ => rfl | ⟨1, _⟩ => rfl | ⟨2, _⟩ => rfl)

theorem k_real (h : Fin 8) (j : Fin 8192) (d : Fin 192) : kV (F := Ideal) x2 x3 (ix3 h j d) = (k h j d : EReal) := by
  rw [kV_apply, ← R.key]
  exact congrArg _ (funext fun a => match a with | ⟨0, _⟩ => rfl | ⟨1, _⟩ => rfl | ⟨2, _⟩ => rfl)

theorem kt_real (h : Fin 8) (j : Fin 8192) (d : Fin 192) : ktV (F := Ideal) x2 x3 (ix3 h d j) = (k h j d : EReal) := by
  rw [ktV_apply, ← k_real R]
  exact congrArg _ (funext fun a => match a with | ⟨0, _⟩ => rfl | ⟨1, _⟩ => rfl | ⟨2, _⟩ => rfl)

theorem kv_real (h : Fin 8) (j : Fin 8192) (c : Fin 128) : kvV (F := Ideal) x2 x4 (ix2 j (vcol h c)) = (v h j c : EReal) := by
  unfold kvV
  rw [concatenate_pair_apply_right (t := S8192x2048) (s₁ := S8192x1024) (s₂ := S8192x1024) _ _ _ _ (ix2 j (vcol h c)) rfl rfl (ix2 j (hcol h c))
    (fun b hb => by
      match b with
      | ⟨0, _⟩ => rfl
      | ⟨1, _⟩ => exact absurd rfl hb)
    (by show h.val * 128 + c.val + 1024 = (8 + h.val) * 128 + c.val; omega), vRowsV_apply, ← R.value]
  refine congrArg _ (funext fun a => Fin.ext ?_)
  match a with
  | ⟨0, _⟩ => show (j.val * 1024 + (h.val * 128 + c.val)) / 1024 = j.val; omega
  | ⟨1, _⟩ => show (j.val * 1024 + (h.val * 128 + c.val)) / 128 % 8 = h.val; omega
  | ⟨2, _⟩ => show (j.val * 1024 + (h.val * 128 + c.val)) % 128 = c.val; omega

theorem dots_real (h : Fin 8) (i j : Fin 8192) : dotsV (F := Ideal) x0 x1 x2 x3 (ix3 h i j) = (dot q k h i j : EReal) := by
  unfold dot
  rw [dotsV_apply, ← coe_sum]
  refine Finset.sum_congr rfl fun d _ => ?_
  rw [EReal.coe_mul, ← q_real R, ← k_real R]
  refine congrArg₂ _ ?_ ?_
  · exact congrArg (qV (F := Ideal) x0 x1) (funext fun a => match a with | ⟨0, _⟩ => rfl | ⟨1, _⟩ => rfl | ⟨2, _⟩ => rfl)
  · exact congrArg (kV (F := Ideal) x2 x3) (funext fun a => match a with | ⟨0, _⟩ => rfl | ⟨1, _⟩ => rfl | ⟨2, _⟩ => rfl)

theorem score_real (h : Fin 8) (i j : Fin 8192) : scoreV (F := Ideal) x0 x1 x2 x3 (ix3 h i j) = (score q k h i j : EReal) := by
  rw [scoreV_apply, dots_real R, rootAllV_apply, rootV_apply, dimV_apply, root_eq, Ideal.hostDivf_def, div_coe _ _ rt_ne]
  rfl

theorem top_real (h : Fin 8) (i : Fin 8192) : IsReal (topV (F := Ideal) x0 x1 x2 x3 (ix2 h i)) := by
  unfold topV
  refine reduce_max _ _ _ (by decide) _ _ (by decide) (fun y => ?_) fun _ => bot_eq
  rw [eq_ix3 y]
  exact ⟨_, score_real R (y 0) (y 1) (y 2)⟩

/-- The largest score of a row, as the host finds it. -/
def top (x0 x2 : Vec Ideal S8192x8x128 .bf16) (x1 : Vec Ideal S8192x8x64 .bf16) (x3 : Vec Ideal S8192x64 .bf16) (h : Fin 8) (i : Fin 8192) : ℝ :=
  (topV (F := Ideal) x0 x1 x2 x3 (ix2 h i)).toReal

theorem topCol_real (h : Fin 8) (i : Fin 8192) : topColV (F := Ideal) x0 x1 x2 x3 (ix3 h i 0) = (top x0 x2 x1 x3 h i : EReal) := by
  rw [topColV_apply, show at_topCol (ix3 h i (0 : Fin 1)) = ix2 h i from funext fun a => match a with | ⟨0, _⟩ => rfl | ⟨1, _⟩ => rfl]
  exact (top_real R h i).eq

theorem expo_real (h : Fin 8) (i j : Fin 8192) :
    expoV (F := Ideal) x0 x1 x2 x3 (ix3 h i j) = (Real.exp (score q k h i j - top x0 x2 x1 x3 h i) : EReal) := by
  rw [expoV_apply, shiftedV_apply, score_real R, topAllV_apply,
    show at_topAll (ix3 h i j) = ix3 h i (0 : Fin 1) from funext fun a => match a with | ⟨0, _⟩ => rfl | ⟨1, _⟩ => rfl | ⟨2, _⟩ => rfl,
    topCol_real R, Ideal.subf_def, ← EReal.coe_sub, Ideal.hostUnary_exp_def, Ideal.exp_coe]

theorem mass_real (h : Fin 8) (i : Fin 8192) :
    massV (F := Ideal) x0 x1 x2 x3 (ix2 h i) = (mass (score q k h i) (top x0 x2 x1 x3 h i) : EReal) := by
  unfold mass
  rw [massV_apply, ← coe_sum, nil1V_apply, nil_eq, zero_add]
  refine Finset.sum_congr rfl fun j _ => ?_
  rw [← expo_real R]
  exact congrArg _ (funext fun a => match a with | ⟨0, _⟩ => rfl | ⟨1, _⟩ => rfl | ⟨2, _⟩ => rfl)

theorem massCol_real (h : Fin 8) (i : Fin 8192) :
    massColV (F := Ideal) x0 x1 x2 x3 (ix3 h i 0) = (mass (score q k h i) (top x0 x2 x1 x3 h i) : EReal) := by
  rw [massColV_apply, ← mass_real R]
  exact congrArg _ (funext fun a => match a with | ⟨0, _⟩ => rfl | ⟨1, _⟩ => rfl)

theorem prob_real (h : Fin 8) (i j : Fin 8192) : probV (F := Ideal) x0 x1 x2 x3 (ix3 h i j) = (weight q k h i j : EReal) := by
  rw [probV_apply, expo_real R, massAllV_apply,
    show at_massAll (ix3 h i j) = ix3 h i (0 : Fin 1) from funext fun a => match a with | ⟨0, _⟩ => rfl | ⟨1, _⟩ => rfl | ⟨2, _⟩ => rfl,
    massCol_real R, Ideal.hostDivf_def, div_coe _ _ (mass_pos _ _).ne', shift]
  rfl

theorem lse_real (h : Fin 8) (i : Fin 8192) :
    lseV (F := Ideal) x0 x1 x2 x3 (ix3 h 0 i)
      = ((top x0 x2 x1 x3 h i + Real.log (mass (score q k h i) (top x0 x2 x1 x3 h i)) : ℝ) : EReal) := by
  rw [lseV_apply, show at_lse (ix3 h (0 : Fin 1) i) = ix3 h i (0 : Fin 1) from funext fun a => Fin.ext (by
    match a with
    | ⟨0, _⟩ => show ((h.val * 1 + 0) * 8192 + i.val) / 8192 = h.val; omega
    | ⟨1, _⟩ => show ((h.val * 1 + 0) * 8192 + i.val) / 1 % 8192 = i.val; omega
    | ⟨2, _⟩ => rfl),
    lseColV_apply, logMassV_apply, topCol_real R, massCol_real R, Ideal.hostUnary_log_def, Ideal.log_coe,
    if_neg (not_le.mpr (mass_pos _ _)), Ideal.addf_def, ← EReal.coe_add]

theorem out_real (h : Fin 8) (i : Fin 8192) (c : Fin 128) :
    outV (F := Ideal) x0 x1 x2 x3 x4 (ix3 i h c) = ((∑ j : Fin 8192, v h j c * weight q k h i j : ℝ) : EReal) := by
  rw [outV_apply, outTV_apply, ← coe_sum]
  refine Finset.sum_congr rfl fun j _ => ?_
  rw [EReal.coe_mul, ← R.value, ← prob_real R]
  refine congrArg₂ _ ?_ ?_
  · exact congrArg x4 (funext fun a => match a with | ⟨0, _⟩ => rfl | ⟨1, _⟩ => rfl | ⟨2, _⟩ => rfl)
  · exact congrArg _ (funext fun a => match a with | ⟨0, _⟩ => rfl | ⟨1, _⟩ => rfl | ⟨2, _⟩ => rfl)

theorem doHeads_real (h : Fin 8) (i : Fin 8192) (c : Fin 128) : doHeadsV (F := Ideal) x5 (ix3 i h c) = (g h i c : EReal) := by
  rw [doHeadsV_apply, ← R.out]
  refine congrArg x5 (funext fun a => Fin.ext ?_)
  match a with
  | ⟨0, _⟩ => show ((i.val * 8 + h.val) * 128 + c.val) / 1024 = i.val; omega
  | ⟨1, _⟩ => show ((i.val * 8 + h.val) * 128 + c.val) % 1024 = h.val * 128 + c.val; omega

theorem delta_real (h : Fin 8) (i : Fin 8192) :
    deltaV (F := Ideal) x0 x1 x2 x3 x4 x5 (ix3 h 0 i) = ((∑ j : Fin 8192, weight q k h i j * dweight v g h i j : ℝ) : EReal) := by
  rw [deltaV_apply, show at_delta (ix3 h (0 : Fin 1) i) = ix2 h i from funext fun a => Fin.ext (by
    match a with
    | ⟨0, _⟩ => show ((h.val * 1 + 0) * 8192 + i.val) / 8192 = h.val; omega
    | ⟨1, _⟩ => show ((h.val * 1 + 0) * 8192 + i.val) % 8192 = i.val; omega),
    deltaTV_apply, deltaRowV_apply, nil2V_apply, nil_eq, zero_add]
  unfold dweight
  rw [← delta_eq, ← coe_sum]
  refine Finset.sum_congr rfl fun c _ => ?_
  rw [EReal.coe_mul, ← doHeads_real R, ← out_real R, doOutV_apply, Ideal.mulf_def]
  refine congrArg₂ _ ?_ ?_ <;> exact congrArg _ (funext fun a => match a with | ⟨0, _⟩ => rfl | ⟨1, _⟩ => rfl | ⟨2, _⟩ => rfl)

end Cert.KernelIdeal.Host

end
-- ==== Proof.Gather.lean ====
/-
  What the running blocks hold when they are written back: sums over all the queries (the key and value gradients) and
  over all the keys (the query gradient).
-/
module

public import proofs.«01_k».proof.Proof.Grid

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise

/-- A sum over the sequence, block by block. -/
theorem sum_blocks (f : Fin 8192 → EReal) : ∑ q, f q = ∑ s : Fin 4, ∑ x : Fin 2048, f ⟨s.val * 2048 + x.val, by omega⟩ := by
  rw [← Fintype.sum_prod_type' (f := fun (s : Fin 4) (x : Fin 2048) => f ⟨s.val * 2048 + x.val, by omega⟩)]
  refine (Fintype.sum_equiv (finProdFinEquiv (m := 4) (n := 2048)) _ _ fun p => ?_).symm
  congr 1
  apply Fin.ext
  show p.1.val * 2048 + p.2.val = p.2.val + 2048 * p.1.val
  omega

section Results

variable (Q K : Vec Ideal S8x8192x192 .bf16) (KT : Vec Ideal S8x192x8192 .bf16) (KV : Vec Ideal S8192x2048 .bf16) (G : Vec Ideal S8192x1024 .bf16)
  (L D : Vec Ideal S8x1x8192 .f32)

/-- The key gradient at an entry, a sum over the queries. -/
def dkAt (h : Fin 8) (k : Fin 8192) (d : Fin 192) : EReal := ∑ q : Fin 8192, ag Q K KV G L D h k q * Q (ix3 h q d)

/-- The key gradient. -/
def dkOf : Vec Ideal S8x8192x192 .f32 := fun i => dkAt Q K KV G L D (i 0) (i 1) (i 2)

/-- The head of a column of the value gradient. -/
def chd (n : Fin 1024) : Fin 8 := ⟨n.val / 128, by omega⟩

/-- The value gradient at an entry, a sum over the queries. -/
def dvAt (k : Fin 8192) (n : Fin 1024) : EReal := ∑ q : Fin 8192, aw Q K L (chd n) k q * G (ix2 q n)

/-- The value gradient. -/
def dvOf : Vec Ideal S8192x1024 .bf16 := fun i => dvAt Q K G L (i 0) (i 1)

/-- Row `x` of query block `n` in the array. -/
def qrow (n : Fin 4) (x : Fin 2048) : Fin 8192 := ⟨n.val * 2048 + x.val, by omega⟩

/-- The query gradient at an entry of query block `n`, a sum over the keys. -/
def dqAt (h : Fin 8) (n : Fin 4) (d : Fin 192) (x : Fin 2048) : EReal := ∑ k : Fin 8192, KT (ix3 h d k) * ag Q K KV G L D h k (qrow n x)

/-- The query gradient, block by block and transposed. -/
def dqOf : Vec Ideal S8x4x192x2048 .f32 := fun i => dqAt Q K KT KV G L D (i 0) (i 1) (i 2) (i 3)

end Results

variable (m : (ℓ : Loc nD τ sig) → Buf (Elt Ideal) ℓ) (c : Dev nD)

/-- The operands of the call as it is launched. -/
abbrev oQ : Vec Ideal S8x8192x192 .bf16 := V m c main_v3
abbrev oK : Vec Ideal S8x8192x192 .bf16 := V m c main_v5
abbrev oKT : Vec Ideal S8x192x8192 .bf16 := V m c main_v36
abbrev oKV : Vec Ideal S8192x2048 .bf16 := V m c main_v8
abbrev oG : Vec Ideal S8192x1024 .bf16 := V m c main_arg5
abbrev oL : Vec Ideal S8x1x8192 .f32 := V m c main_v24
abbrev oD : Vec Ideal S8x1x8192 .f32 := V m c main_v35

theorem wt_at (t : Fin cfg0.N) (r x : Fin 2048) :
    wt (iblk m c 0 t) (iblk m c 1 t) (iblk m c 5 t) r x = aw (oQ m c) (oK m c) (oL m c) (hd t) (kr t r) (qr t x) := by
  unfold wt aw
  rw [blk5_at]
  simp only [blk0_at, blk1_at]

theorem gr_at (t : Fin cfg0.N) (r x : Fin 2048) :
    gr (iblk m c 0 t) (iblk m c 1 t) (iblk m c 3 t) (iblk m c 4 t) (iblk m c 5 t) (iblk m c 6 t) r x
      = ag (oQ m c) (oK m c) (oKV m c) (oG m c) (oL m c) (oD m c) (hd t) (kr t r) (qr t x) := by
  unfold gr ag
  rw [wt_at, blk6_at]
  simp only [blk3_at, blk4_at]

/-- What a point adds to the key gradient's running block. -/
def dkTerm (t : Fin cfg0.N) (r : Fin 2048) (d : Fin 192) : EReal :=
  ∑ x : Fin 2048, ag (oQ m c) (oK m c) (oKV m c) (oG m c) (oL m c) (oD m c) (hd t) (kr t r) (qr t x) * oQ m c (ix3 (hd t) (qr t x) d)

/-- What a point adds to the value gradient's running block. -/
def dvTerm (t : Fin cfg0.N) (r : Fin 2048) (d : Fin 128) : EReal :=
  ∑ x : Fin 2048, aw (oQ m c) (oK m c) (oL m c) (hd t) (kr t r) (qr t x) * oG m c (ix2 (qr t x) (hcol (hd t) d))

theorem dkNext_at (t : Fin cfg0.N) (b : Vec Ideal S2048x192 .f32) (r : Fin 2048) (d : Fin 192) :
    dkNext t (iblk m c 0 t) (iblk m c 1 t) (iblk m c 3 t) (iblk m c 4 t) (iblk m c 5 t) (iblk m c 6 t) b (ix2 r d)
      = (if t.val % 4 = 0 then 0 else b (ix2 r d)) + dkTerm m c t r d := by
  unfold dkNext
  rw [dkStep_at]
  simp only [gr_at, blk0_at]
  congr 1
  split
  · exact pay7_at r d
  · rfl

theorem dvNext_at (t : Fin cfg0.N) (b : Vec Ideal S2048x128 .f32) (r : Fin 2048) (d : Fin 128) :
    dvNext t (iblk m c 0 t) (iblk m c 1 t) (iblk m c 4 t) (iblk m c 5 t) b (ix2 r d)
      = (if t.val % 4 = 0 then 0 else b (ix2 r d)) + dvTerm m c t r d := by
  unfold dvNext
  rw [dvStep_at]
  simp only [wt_at, blk4_at]
  congr 1
  split
  · exact pay8_at r d
  · rfl

/-- A point of a key block's run of four. -/
def runPt (t : Fin cfg0.N) (s : Fin 4) : Fin cfg0.N := ⟨4 * (t.val / 4) + s.val, by have := Nat.lt_of_lt_of_eq t.isLt N_0; exact Nat.lt_of_lt_of_eq (by omega) N_0.symm⟩

theorem hd_run (t : Fin cfg0.N) (s : Fin 4) : hd (runPt t s) = hd t := Fin.ext (by show (4 * (t.val / 4) + s.val) / 16 = t.val / 16; omega)
theorem kr_run (t : Fin cfg0.N) (s : Fin 4) (r : Fin 2048) : kr (runPt t s) r = kr t r :=
  Fin.ext (by show (4 * (t.val / 4) + s.val) / 4 % 4 * 2048 + r.val = t.val / 4 % 4 * 2048 + r.val; omega)
theorem qr_run (t : Fin cfg0.N) (s : Fin 4) (x : Fin 2048) : qr (runPt t s) x = ⟨s.val * 2048 + x.val, by omega⟩ :=
  Fin.ext (by show (4 * (t.val / 4) + s.val) % 4 * 2048 + x.val = s.val * 2048 + x.val; omega)

/-- The key gradient's running block at a key block's last query block. -/
theorem accDk_last (t : Fin cfg0.N) (ht : t.val % 4 = 3) (r : Fin 2048) (d : Fin 192) :
    accDk m c t.val t.isLt (ix2 r d) = dkOf (oQ m c) (oK m c) (oKV m c) (oG m c) (oL m c) (oD m c) (ix3 (hd t) (kr t r) d) := by
  have h := Pipeline.eq_sum_fin_of_reset_step_of_flush (fun n h => accDk m c n h (ix2 r d)) 4 (0 : EReal) (fun t => dkTerm m c t r d)
    (fun t h => by
      refine (congrFun (accDk_eq m c t (if h : t.val ≠ 0 then accDk m c (t.val - 1) (by omega) else k0_pay7 (F := Ideal)) fun h => dif_pos h) _).trans ?_
      rw [dkNext_at, if_pos h])
    (fun t h => by
      have h0 : t.val ≠ 0 := fun e => h (by rw [e])
      refine (congrFun (accDk_eq m c t (accDk m c (t.val - 1) (by omega)) fun _ => rfl) _).trans ?_
      rw [dkNext_at, if_neg h])
    t ht
  refine h.trans ?_
  rw [zero_add]
  show _ = dkAt (oQ m c) (oK m c) (oKV m c) (oG m c) (oL m c) (oD m c) (hd t) (kr t r) d
  unfold dkAt
  rw [sum_blocks]
  refine Finset.sum_congr rfl fun s _ => ?_
  refine Finset.sum_congr rfl fun x _ => ?_
  have e1 := hd_run t s
  have e2 := kr_run t s r
  have e3 := qr_run t s x
  unfold runPt at e1 e2 e3
  show ag _ _ _ _ _ _ (hd ⟨4 * (t.val / 4) + s.val, _⟩) (kr ⟨4 * (t.val / 4) + s.val, _⟩ r) (qr ⟨4 * (t.val / 4) + s.val, _⟩ x)
    * oQ m c (ix3 (hd ⟨4 * (t.val / 4) + s.val, _⟩) (qr ⟨4 * (t.val / 4) + s.val, _⟩ x) d) = _
  rw [e1, e2, e3]

theorem chd_hcol (h : Fin 8) (d : Fin 128) : chd (hcol h d) = h := Fin.ext (by show (h.val * 128 + d.val) / 128 = h.val; omega)

/-- The value gradient's running block at a key block's last query block. -/
theorem accDv_last (t : Fin cfg0.N) (ht : t.val % 4 = 3) (r : Fin 2048) (d : Fin 128) :
    accDv m c t.val t.isLt (ix2 r d) = dvOf (oQ m c) (oK m c) (oG m c) (oL m c) (ix2 (kr t r) (hcol (hd t) d)) := by
  have h := Pipeline.eq_sum_fin_of_reset_step_of_flush (fun n h => accDv m c n h (ix2 r d)) 4 (0 : EReal) (fun t => dvTerm m c t r d)
    (fun t h => by
      refine (congrFun (accDv_eq m c t (if h : t.val ≠ 0 then accDv m c (t.val - 1) (by omega) else k0_pay8 (F := Ideal)) fun h => dif_pos h) _).trans ?_
      rw [dvNext_at, if_pos h])
    (fun t h => by
      have h0 : t.val ≠ 0 := fun e => h (by rw [e])
      refine (congrFun (accDv_eq m c t (accDv m c (t.val - 1) (by omega)) fun _ => rfl) _).trans ?_
      rw [dvNext_at, if_neg h])
    t ht
  refine h.trans ?_
  rw [zero_add]
  show _ = dvAt (oQ m c) (oK m c) (oG m c) (oL m c) (kr t r) (hcol (hd t) d)
  unfold dvAt
  rw [sum_blocks, chd_hcol]
  refine Finset.sum_congr rfl fun s _ => ?_
  refine Finset.sum_congr rfl fun x _ => ?_
  have e1 := hd_run t s
  have e2 := kr_run t s r
  have e3 := qr_run t s x
  unfold runPt at e1 e2 e3
  show aw _ _ _ (hd ⟨4 * (t.val / 4) + s.val, _⟩) (kr ⟨4 * (t.val / 4) + s.val, _⟩ r) (qr ⟨4 * (t.val / 4) + s.val, _⟩ x)
    * oG m c (ix2 (qr ⟨4 * (t.val / 4) + s.val, _⟩ x) (hcol (hd ⟨4 * (t.val / 4) + s.val, _⟩) d)) = aw _ _ _ (hd t) _ _ * _
  rw [e1, e2, e3]

/-- A point's term of the query gradient, at its own query block. -/
def dqTerm (d : Fin 192) (x : Fin 2048) (n : ℕ) : EReal :=
  if h : n < cfg0.N then
    ∑ r : Fin 2048, oKT m c (ix3 (hd ⟨n, h⟩) d (kr ⟨n, h⟩ r))
      * ag (oQ m c) (oK m c) (oKV m c) (oG m c) (oL m c) (oD m c) (hd ⟨n, h⟩) (kr ⟨n, h⟩ r) (qr ⟨n, h⟩ x)
  else 0

theorem qterm_at (t : Fin cfg0.N) (d : Fin 192) (x : Fin 2048) :
    qterm (iblk m c 0 t) (iblk m c 1 t) (iblk m c 2 t) (iblk m c 3 t) (iblk m c 4 t) (iblk m c 5 t) (iblk m c 6 t) d x
      = dqTerm m c d x t.val := by
  unfold qterm dqTerm
  rw [dif_pos t.isLt]
  simp only [gr_at, blk2_at]

theorem coord2 (t : Fin cfg0.N) : (grid0.coords t 2).val = t.val % 4 :=
  (fun t => by
    have e2 : (grid0.coords t 2).val = t.val / 1 % 4 := Pipeline.Grid.coords_val t 2 (by decide) rfl
    rw [e2, Nat.div_one] : ∀ t : Fin grid0.N, (grid0.coords t 2).val = t.val % 4) t

theorem dqNext_at (t : Fin cfg0.N) (y : Vec Ideal S1x4x192x2048 .f32) (n : Fin 4) (d : Fin 192) (x : Fin 2048) :
    dqNext t (iblk m c 0 t) (iblk m c 1 t) (iblk m c 2 t) (iblk m c 3 t) (iblk m c 4 t) (iblk m c 5 t) (iblk m c 6 t) y (ix4 0 n d x)
      = if n.val = t.val % 4 then (if t.val / 4 % 4 = 0 then dqTerm m c d x t.val else y (ix4 0 n d x) + dqTerm m c d x t.val) else y (ix4 0 n d x) := by
  have e : (n = grid0.coords t 2) ↔ n.val = t.val % 4 := ⟨fun h => (congrArg Fin.val h).trans (coord2 t), fun h => Fin.ext (h.trans (coord2 t).symm)⟩
  unfold dqNext
  by_cases h : t.val / 4 % 4 = 0
  · rw [if_pos h]
    refine (dqSet_at _ _ _ _ _ _ _ _ _ n d x).trans ?_
    simp only [e, if_pos h, qterm_at]
  · rw [if_neg h]
    refine (dqAdd_at _ _ _ _ _ _ _ _ _ n d x).trans ?_
    simp only [e, if_neg h, qterm_at]

/-- Row `n` of the query gradient's block once it has been set: the terms of the key blocks so far. -/
theorem dqAfter_row (y : Vec Ideal S1x4x192x2048 .f32) (n : Fin 4) (d : Fin 192) (x : Fin 2048) :
    ∀ (u : ℕ) (hu : u < cfg0.N), n.val ≤ u % 16 →
      dqAfter m c y u hu (ix4 0 n d x) = ∑ s ∈ Finset.range ((u % 16 - n.val) / 4 + 1), dqTerm m c d x (16 * (u / 16) + 4 * s + n.val)
  | 0, hu, hn => by
    have hn0 : n.val = 0 := by omega
    rw [show dqAfter m c y 0 hu = _ from dqAfter_first m c y ⟨0, hu⟩ rfl, dqNext_at, if_pos (by show n.val = 0 % 4; omega), if_pos (by show 0 / 4 % 4 = 0; omega)]
    simp [hn0]
  | u + 1, hu, hn => by
    have IH := dqAfter_row y n d x u (Nat.lt_of_succ_lt hu)
    by_cases h16 : (u + 1) % 16 = 0
    · have hn0 : n.val = 0 := by omega
      rw [show dqAfter m c y (u + 1) hu = _ from dqAfter_first m c y ⟨u + 1, hu⟩ h16, dqNext_at,
        if_pos (by show n.val = (u + 1) % 4; omega), if_pos (by show (u + 1) / 4 % 4 = 0; omega)]
      rw [show ((u + 1) % 16 - n.val) / 4 + 1 = 1 by omega, Finset.sum_range_one]
      congr 1
      show u + 1 = 16 * ((u + 1) / 16) + 4 * 0 + n.val
      omega
    · rw [show dqAfter m c y (u + 1) hu = _ from dqAfter_next m c y ⟨u + 1, hu⟩ h16, dqNext_at]
      show (if n.val = (u + 1) % 4 then if (u + 1) / 4 % 4 = 0 then dqTerm m c d x (u + 1) else dqAfter m c y u _ (ix4 0 n d x) + dqTerm m c d x (u + 1)
        else dqAfter m c y u _ (ix4 0 n d x)) = _
      have e16 : (u + 1) / 16 = u / 16 := by omega
      have e44 : (u + 1) / 4 / 4 = (u + 1) / 16 := Nat.div_div_eq_div_mul _ _ _
      by_cases hr : n.val = (u + 1) % 4
      · by_cases hj : (u + 1) / 4 % 4 = 0
        · rw [if_pos hr, if_pos hj, show ((u + 1) % 16 - n.val) / 4 + 1 = 1 by omega, Finset.sum_range_one]
          congr 1
          omega
        · rw [if_pos hr, if_neg hj, IH (by omega), e16, show ((u + 1) % 16 - n.val) / 4 + 1 = ((u % 16 - n.val) / 4 + 1) + 1 by omega,
            Finset.sum_range_succ _ ((u % 16 - n.val) / 4 + 1)]
          have a1 : u % 16 + 1 = (u + 1) % 16 := by omega
          have a2 : (u + 1) % 16 = 4 * ((u + 1) / 4 % 4) + n.val := by omega
          have a3 : (u % 16 - n.val) / 4 + 1 = (u + 1) / 4 % 4 := by omega
          refine congrArg₂ (· + ·) rfl (congrArg (dqTerm m c d x) ?_)
          omega
      · rw [if_neg hr, IH (by omega), e16, show ((u + 1) % 16 - n.val) / 4 = (u % 16 - n.val) / 4 by omega]

/-- The query gradient's block when its head is done. -/
theorem dqAfter_last (y : Vec Ideal S1x4x192x2048 .f32) (t : Fin cfg0.N) (ht : t.val % 16 = 15) (n : Fin 4) (d : Fin 192) (x : Fin 2048) :
    dqAfter m c y t.val t.isLt (ix4 0 n d x)
      = dqOf (oQ m c) (oK m c) (oKT m c) (oKV m c) (oG m c) (oL m c) (oD m c) (ix4 (hd t) n d x) := by
  rw [dqAfter_row m c y n d x t.val t.isLt (by omega), show (t.val % 16 - n.val) / 4 + 1 = 4 by omega, Finset.sum_range]
  show _ = dqAt (oQ m c) (oK m c) (oKT m c) (oKV m c) (oG m c) (oL m c) (oD m c) (hd t) n d x
  unfold dqAt
  rw [sum_blocks]
  refine Finset.sum_congr rfl fun s _ => ?_
  have hlt : 16 * (t.val / 16) + 4 * s.val + n.val < cfg0.N := by
    have := Nat.lt_of_lt_of_eq t.isLt N_0; exact Nat.lt_of_lt_of_eq (by omega) N_0.symm
  unfold dqTerm
  rw [dif_pos hlt]
  refine Finset.sum_congr rfl fun r _ => ?_
  have e1 : hd ⟨16 * (t.val / 16) + 4 * s.val + n.val, hlt⟩ = hd t := Fin.ext (by show (16 * (t.val / 16) + 4 * s.val + n.val) / 16 = t.val / 16; omega)
  have e2 : kr ⟨16 * (t.val / 16) + 4 * s.val + n.val, hlt⟩ r = ⟨s.val * 2048 + r.val, by omega⟩ :=
    Fin.ext (by show (16 * (t.val / 16) + 4 * s.val + n.val) / 4 % 4 * 2048 + r.val = s.val * 2048 + r.val; omega)
  have e3 : qr ⟨16 * (t.val / 16) + 4 * s.val + n.val, hlt⟩ x = qrow n x :=
    Fin.ext (by show (16 * (t.val / 16) + 4 * s.val + n.val) % 4 * 2048 + x.val = n.val * 2048 + x.val; omega)
  rw [e1, e2, e3]

end Cert.KernelIdeal.Hand

end
-- ==== Proof.KernelReal.lean ====
/-
  The kernel's results at arguments that are reals: attention's gradient over the reals.
-/
module

public import proofs.«01_k».proof.Proof.HostReal
public import proofs.«01_k».proof.Proof.Gather

@[expose] public section

set_option maxRecDepth 16384

noncomputable section

namespace Cert.KernelIdeal.Host

open Cert.KernelIdeal Cert.KernelIdeal.Gen Cert.KernelIdeal.Hand Cert.Lift Cert.Attention Cert.Softmax
open Idealize.ShloMosaic Idealize.ShloMosaic.TcCoe Idealize.ShloMosaic.Pointwise

variable {x0 x2 x4 : Vec Ideal S8192x8x128 .bf16} {x1 : Vec Ideal S8192x8x64 .bf16} {x3 : Vec Ideal S8192x64 .bf16} {x5 : Vec Ideal S8192x1024 .bf16}
  {q k : Fin 8 → Fin 8192 → Fin 192 → ℝ} {v g : Fin 8 → Fin 8192 → Fin 128 → ℝ} (R : Real6 x0 x2 x4 x1 x3 x5 q k v g)

include R

/-- The kernel's weight is attention's weight. -/
theorem aw_real (h : Fin 8) (j i : Fin 8192) :
    aw (qV (F := Ideal) x0 x1) (kV (F := Ideal) x2 x3) (lseV (F := Ideal) x0 x1 x2 x3) h j i = (weight q k h i j : EReal) := by
  unfold aw
  rw [lse_real R, show (∑ c : Fin 192, kV (F := Ideal) x2 x3 (ix3 h j c) * qV (F := Ideal) x0 x1 (ix3 h i c)) = (dot q k h i j : EReal) from by
    unfold dot
    rw [← coe_sum]
    refine Finset.sum_congr rfl fun d _ => ?_
    rw [q_real R, k_real R, ← EReal.coe_mul, mul_comm],
    ← EReal.coe_mul, ← EReal.coe_mul, ← EReal.coe_sub, Ideal.exp2_coe]
  exact congrArg _ (exp2_eq _ _ _ _ _ rfl)

/-- The kernel's gradient of a scaled score is attention's. -/
theorem ag_real (h : Fin 8) (j i : Fin 8192) :
    ag (qV (F := Ideal) x0 x1) (kV (F := Ideal) x2 x3) (kvV (F := Ideal) x2 x4) x5 (lseV (F := Ideal) x0 x1 x2 x3) (deltaV (F := Ideal) x0 x1 x2 x3 x4 x5) h j i
      = (ddot q k v g h i j : EReal) := by
  unfold ag
  rw [aw_real R, delta_real R,
    show (∑ c : Fin 128, kvV (F := Ideal) x2 x4 (ix2 j (vcol h c)) * x5 (ix2 i (hcol h c))) = (dweight v g h i j : EReal) from by
      unfold dweight
      rw [← coe_sum]
      refine Finset.sum_congr rfl fun d _ => ?_
      rw [kv_real R, R.out, ← EReal.coe_mul],
    ← EReal.coe_sub, ← EReal.coe_mul, ← EReal.coe_mul]
  rfl

theorem dk_real (h : Fin 8) (j : Fin 8192) (d : Fin 192) :
    dkAt (qV (F := Ideal) x0 x1) (kV (F := Ideal) x2 x3) (kvV (F := Ideal) x2 x4) x5 (lseV (F := Ideal) x0 x1 x2 x3) (deltaV (F := Ideal) x0 x1 x2 x3 x4 x5) h j d
      = (dkey q k v g h j d : EReal) := by
  unfold dkAt dkey
  rw [← coe_sum]
  refine Finset.sum_congr rfl fun i _ => ?_
  rw [ag_real R, q_real R, ← EReal.coe_mul]

theorem dv_real (h : Fin 8) (j : Fin 8192) (c : Fin 128) :
    dvAt (qV (F := Ideal) x0 x1) (kV (F := Ideal) x2 x3) x5 (lseV (F := Ideal) x0 x1 x2 x3) j (hcol h c) = (dvalue q k g h j c : EReal) := by
  unfold dvAt dvalue
  rw [← coe_sum, show chd (hcol h c) = h from Fin.ext (by show (h.val * 128 + c.val) / 128 = h.val; omega)]
  refine Finset.sum_congr rfl fun i _ => ?_
  rw [aw_real R, R.out, ← EReal.coe_mul]

theorem dq_real (h : Fin 8) (n : Fin 4) (d : Fin 192) (x : Fin 2048) :
    dqAt (qV (F := Ideal) x0 x1) (kV (F := Ideal) x2 x3) (ktV (F := Ideal) x2 x3) (kvV (F := Ideal) x2 x4) x5 (lseV (F := Ideal) x0 x1 x2 x3)
        (deltaV (F := Ideal) x0 x1 x2 x3 x4 x5) h n d x
      = (dquery q k v g h (qrow n x) d : EReal) := by
  unfold dqAt dquery
  rw [← coe_sum]
  refine Finset.sum_congr rfl fun j _ => ?_
  rw [ag_real R, kt_real R, ← EReal.coe_mul, mul_comm]

end Cert.KernelIdeal.Host

end
-- ==== Proof.ReferenceReal.lean ====
/-
  The reference's results at arguments that are reals: attention's gradient over the reals.
-/
module

public import proofs.«01_k».proof.Proof.Gen.ReferenceIdeal.Read
public import proofs.«01_k».proof.Proof.HostReal
public import proofs.«01_k».proof.Proof.Gather

@[expose] public section

set_option maxRecDepth 16384

noncomputable section

namespace Cert.ReferenceIdeal.Hand

open Cert.ReferenceIdeal Cert.ReferenceIdeal.Gen Cert.ReferenceIdeal.Read Cert.Lift Cert.Attention Cert.Softmax
open Cert.KernelIdeal.Host (Real6)
open Cert.KernelIdeal.Hand (hcol qrow)
open Idealize.ShloMosaic Idealize.ShloMosaic.TcCoe Idealize.ShloMosaic.Pointwise

variable {x0 x2 x4 : Vec Ideal S8192x8x128 .bf16} {x1 : Vec Ideal S8192x8x64 .bf16} {x3 : Vec Ideal S8192x64 .bf16} {x5 : Vec Ideal S8192x1024 .bf16}
  {q k : Fin 8 → Fin 8192 → Fin 192 → ℝ} {v g : Fin 8 → Fin 8192 → Fin 128 → ℝ} (R : Real6 x0 x2 x4 x1 x3 x5 q k v g)

include R

theorem q_real (h : Fin 8) (i : Fin 8192) (d : Fin 192) : val_main_v3 (F := Ideal) x0 x1 (ix3 i h d) = (q h i d : EReal) := R.query h i d

theorem k_real (h : Fin 8) (j : Fin 8192) (d : Fin 192) : val_main_v5 (F := Ideal) x2 x3 (ix3 j h d) = (k h j d : EReal) := R.key h j d

theorem v_real (h : Fin 8) (j : Fin 8192) (c : Fin 128) : val_main_v8 (F := Ideal) x4 (ix3 j h c) = (v h j c : EReal) := R.value h j c

theorem g_real (h : Fin 8) (i : Fin 8192) (c : Fin 128) : val_main_v43 (F := Ideal) x5 (ix3 h c i) = (g h i c : EReal) := by
  rw [val_main_v43_apply, val_main_v7_apply, ← R.out]
  refine congrArg x5 (funext fun a => Fin.ext ?_)
  match a with
  | ⟨0, _⟩ => show ((i.val * 8 + h.val) * 128 + c.val) / 1024 = i.val; omega
  | ⟨1, _⟩ => show ((i.val * 8 + h.val) * 128 + c.val) % 1024 = h.val * 128 + c.val; omega

theorem dot_real (h : Fin 8) (i j : Fin 8192) : val_main_v9 (F := Ideal) x0 x1 x2 x3 (ix3 h i j) = (dot q k h i j : EReal) := by
  unfold dot
  rw [val_main_v9_apply, ← coe_sum]
  refine Finset.sum_congr rfl fun d _ => ?_
  rw [EReal.coe_mul, ← q_real R, ← k_real R]
  refine congrArg₂ _ ?_ ?_ <;> exact congrArg _ (funext fun a => match a with | ⟨0, _⟩ => rfl | ⟨1, _⟩ => rfl | ⟨2, _⟩ => rfl)

theorem score_real (h : Fin 8) (i j : Fin 8192) : val_main_v12 (F := Ideal) x0 x1 x2 x3 (ix3 h i j) = (score q k h i j : EReal) := by
  rw [val_main_v12_apply, dot_real R, val_main_v11_apply, val_main_v10_apply, val_main_cst_apply, root_eq, Ideal.hostDivf_def, div_coe _ _ rt_ne]
  rfl

theorem top_real (h : Fin 8) (i : Fin 8192) : IsReal (val_main_v20 (F := Ideal) x0 x1 x2 x3 (ix2 h i)) := by
  rw [val_main_v20_apply, val_main_v19_apply, val_main_cst_2_apply, bot_eq, Ideal.maximumf_def, max_bot_left]
  unfold val_main_v13
  refine reduce_max _ _ _ (by decide) _ _ (by decide) (fun y => ?_) fun _ => bot_eq
  rw [eq_ix3 y]
  exact ⟨_, score_real R (y 0) (y 1) (y 2)⟩

/-- The largest score of a row, as the reference finds it. -/
def top (x0 x2 : Vec Ideal S8192x8x128 .bf16) (x1 : Vec Ideal S8192x8x64 .bf16) (x3 : Vec Ideal S8192x64 .bf16) (h : Fin 8) (i : Fin 8192) : ℝ :=
  (val_main_v20 (F := Ideal) x0 x1 x2 x3 (ix2 h i)).toReal

/-- The mass of a row, as the reference shifts it. -/
abbrev rmass (x0 x2 : Vec Ideal S8192x8x128 .bf16) (x1 : Vec Ideal S8192x8x64 .bf16) (x3 : Vec Ideal S8192x64 .bf16)
    (q k : Fin 8 → Fin 8192 → Fin 192 → ℝ) (h : Fin 8) (i : Fin 8192) : ℝ := mass (score q k h i) (top x0 x2 x1 x3 h i)

theorem topCol_real (h : Fin 8) (i : Fin 8192) : val_main_v30 (F := Ideal) x0 x1 x2 x3 (ix3 h i 0) = (top x0 x2 x1 x3 h i : EReal) := by
  rw [val_main_v30_apply, show idx_main_v30 (ix3 h i (0 : Fin 1)) = ix2 h i from funext fun a => match a with | ⟨0, _⟩ => rfl | ⟨1, _⟩ => rfl]
  exact (top_real R h i).eq

theorem expo_real (h : Fin 8) (i j : Fin 8192) :
    val_main_v33 (F := Ideal) x0 x1 x2 x3 (ix3 h i j) = (Real.exp (score q k h i j - top x0 x2 x1 x3 h i) : EReal) := by
  rw [val_main_v33_apply, val_main_v32_apply, score_real R, val_main_v31_apply,
    show idx_main_v31 (ix3 h i j) = ix3 h i (0 : Fin 1) from funext fun a => match a with | ⟨0, _⟩ => rfl | ⟨1, _⟩ => rfl | ⟨2, _⟩ => rfl,
    topCol_real R, Ideal.subf_def, ← EReal.coe_sub, Ideal.hostUnary_exp_def, Ideal.exp_coe]

theorem mass_real (h : Fin 8) (i : Fin 8192) : val_main_v34 (F := Ideal) x0 x1 x2 x3 (ix2 h i) = (rmass x0 x2 x1 x3 q k h i : EReal) := by
  unfold rmass mass
  rw [val_main_v34_apply, ← coe_sum, val_main_cst_8_apply, nil_eq, zero_add]
  refine Finset.sum_congr rfl fun j _ => ?_
  rw [← expo_real R]
  exact congrArg _ (funext fun a => match a with | ⟨0, _⟩ => rfl | ⟨1, _⟩ => rfl | ⟨2, _⟩ => rfl)

theorem massCol_real (h : Fin 8) (i : Fin 8192) : val_main_v35 (F := Ideal) x0 x1 x2 x3 (ix3 h i 0) = (rmass x0 x2 x1 x3 q k h i : EReal) := by
  rw [val_main_v35_apply, ← mass_real R]
  exact congrArg _ (funext fun a => match a with | ⟨0, _⟩ => rfl | ⟨1, _⟩ => rfl)

theorem weight_real (h : Fin 8) (i j : Fin 8192) : val_main_v37 (F := Ideal) x0 x1 x2 x3 (ix3 h i j) = (weight q k h i j : EReal) := by
  rw [val_main_v37_apply, expo_real R, val_main_v36_apply,
    show idx_main_v36 (ix3 h i j) = ix3 h i (0 : Fin 1) from funext fun a => match a with | ⟨0, _⟩ => rfl | ⟨1, _⟩ => rfl | ⟨2, _⟩ => rfl,
    massCol_real R, Ideal.hostDivf_def, div_coe _ _ (mass_pos _ _).ne', shift]
  rfl

theorem dweight_real (h : Fin 8) (i j : Fin 8192) : val_main_v44 (F := Ideal) x4 x5 (ix3 h i j) = (dweight v g h i j : EReal) := by
  unfold dweight
  rw [val_main_v44_apply, ← coe_sum]
  refine Finset.sum_congr rfl fun c _ => ?_
  rw [EReal.coe_mul, ← v_real R, ← g_real R, mul_comm]
  refine congrArg₂ _ ?_ ?_ <;> exact congrArg _ (funext fun a => match a with | ⟨0, _⟩ => rfl | ⟨1, _⟩ => rfl | ⟨2, _⟩ => rfl)

/-- The squared mass's inverse. -/
theorem inv_real (h : Fin 8) (i j : Fin 8192) : val_main_v47 (F := Ideal) x0 x1 x2 x3 (ix3 h i j)
    = ((1 / (rmass x0 x2 x1 x3 q k h i * rmass x0 x2 x1 x3 q k h i) : ℝ) : EReal) := by
  rw [val_main_v47_apply,
    show idx_main_v47 (ix3 h i j) = ix3 h i (0 : Fin 1) from funext fun a => match a with | ⟨0, _⟩ => rfl | ⟨1, _⟩ => rfl | ⟨2, _⟩ => rfl,
    val_main_v40_apply, val_main_v38_apply, massCol_real R, val_main_v39_apply, val_main_cst_9_apply, one_eq, Ideal.mulf_def, ← EReal.coe_mul,
    Ideal.hostDivf_def, div_coe _ _ (mul_ne_zero (mass_pos _ _).ne' (mass_pos _ _).ne')]

/-- The gradient of a row's mass. -/
theorem dmass_real (h : Fin 8) (i : Fin 8192) : val_main_v55 (F := Ideal) x0 x1 x2 x3 x4 x5 (ix2 h i)
    = ((-∑ j : Fin 8192, dweight v g h i j * (1 / (rmass x0 x2 x1 x3 q k h i * rmass x0 x2 x1 x3 q k h i))
        * Real.exp (score q k h i j - top x0 x2 x1 x3 h i) : ℝ) : EReal) := by
  rw [val_main_v55_apply, val_main_cst_11_apply, nil_eq, zero_add, Fin.sum_univ_one, val_main_v52_apply, val_main_v51_apply,
    show idx_main_v51 (idx_main_v55 (ix2 h i) 0) = ix2 h i from funext fun a => Fin.ext (by
      match a with
      | ⟨0, _⟩ => show ((h.val * 8192 + i.val) * 1 + 0) / 8192 = h.val; omega
      | ⟨1, _⟩ => show ((h.val * 8192 + i.val) * 1 + 0) % 8192 = i.val; omega),
    val_main_v50_apply, val_main_cst_10_apply, nil_eq, zero_add, EReal.coe_neg, ← coe_sum]
  refine congrArg Neg.neg (Finset.sum_congr rfl fun j _ => ?_)
  rw [show idx_main_v50 (ix2 h i) j = ix3 h i j from funext fun a => match a with | ⟨0, _⟩ => rfl | ⟨1, _⟩ => rfl | ⟨2, _⟩ => rfl,
    val_main_v49_apply, val_main_v48_apply, dweight_real R, inv_real R, expo_real R, Ideal.mulf_def, Ideal.mulf_def, ← EReal.coe_mul, ← EReal.coe_mul]

/-- The gradient of an inner product of a query and a key. -/
theorem ddot_real (h : Fin 8) (i j : Fin 8192) : val_main_v60 (F := Ideal) x0 x1 x2 x3 x4 x5 (ix3 h i j) = (ddot q k v g h i j : EReal) := by
  rw [val_main_v60_apply, val_main_v59_apply, val_main_v10_apply, val_main_cst_apply, root_eq, val_main_v58_apply, val_main_v57_apply, val_main_v56_apply,
    show idx_main_v56 (ix3 h i j) = ix2 h i from funext fun a => match a with | ⟨0, _⟩ => rfl | ⟨1, _⟩ => rfl,
    val_main_v54_apply, val_main_v53_apply,
    show idx_main_v53 (ix3 h i j) = ix3 h i (0 : Fin 1) from funext fun a => match a with | ⟨0, _⟩ => rfl | ⟨1, _⟩ => rfl | ⟨2, _⟩ => rfl,
    dmass_real R, massCol_real R, dweight_real R, expo_real R, Ideal.hostDivf_def, Ideal.hostDivf_def, div_coe _ _ (mass_pos _ _).ne', Ideal.addf_def,
    ← EReal.coe_add, Ideal.mulf_def, ← EReal.coe_mul, div_coe _ _ rt_ne]
  exact congrArg _ (grad_quotient _ _ _ _ _)

theorem dk_real (h : Fin 8) (j : Fin 8192) (d : Fin 192) : val_main_v68 (F := Ideal) x0 x1 x2 x3 x4 x5 (ix3 h j d) = (dkey q k v g h j d : EReal) := by
  unfold dkey
  rw [val_main_v68_apply, val_main_v62_apply, val_main_v61_apply, ← coe_sum]
  refine Finset.sum_congr rfl fun i _ => ?_
  rw [EReal.coe_mul, ← ddot_real R, ← q_real R]
  refine congrArg₂ _ ?_ ?_ <;> exact congrArg _ (funext fun a => match a with | ⟨0, _⟩ => rfl | ⟨1, _⟩ => rfl | ⟨2, _⟩ => rfl)

theorem dv_real (h : Fin 8) (j : Fin 8192) (c : Fin 128) : val_main_v70 (F := Ideal) x0 x1 x2 x3 x5 (ix2 j (hcol h c)) = (dvalue q k g h j c : EReal) := by
  unfold dvalue
  show val_main_v69 (F := Ideal) x0 x1 x2 x3 x5 (ix2 j (hcol h c)) = _
  rw [val_main_v69_apply, show idx_main_v69 (ix2 j (hcol h c)) = ix3 j h c from funext fun a => Fin.ext (by
      match a with
      | ⟨0, _⟩ => show (j.val * 1024 + (h.val * 128 + c.val)) / 1024 = j.val; omega
      | ⟨1, _⟩ => show (j.val * 1024 + (h.val * 128 + c.val)) / 128 % 8 = h.val; omega
      | ⟨2, _⟩ => show (j.val * 1024 + (h.val * 128 + c.val)) % 128 = c.val; omega),
    val_main_v46_apply, val_main_v45_apply, ← coe_sum]
  refine Finset.sum_congr rfl fun i _ => ?_
  rw [EReal.coe_mul, ← weight_real R, ← g_real R, mul_comm]
  refine congrArg₂ _ ?_ ?_ <;> exact congrArg _ (funext fun a => match a with | ⟨0, _⟩ => rfl | ⟨1, _⟩ => rfl | ⟨2, _⟩ => rfl)

theorem dq_real (h : Fin 8) (n : Fin 4) (d : Fin 192) (x : Fin 2048) :
    val_main_v67 (F := Ideal) x0 x1 x2 x3 x4 x5 (ix4 h n d x) = (dquery q k v g h (qrow n x) d : EReal) := by
  unfold dquery
  rw [val_main_v67_apply, val_main_v66_apply, show idx_main_v66 (idx_main_v67 (ix4 h n d x)) = ix3 h (qrow n x) d from funext fun a => Fin.ext (by
      match a with
      | ⟨0, _⟩ => show (((h.val * 4 + n.val) * 2048 + x.val) * 192 + d.val) / 1572864 = h.val; omega
      | ⟨1, _⟩ => show (((h.val * 4 + n.val) * 2048 + x.val) * 192 + d.val) / 192 % 8192 = n.val * 2048 + x.val; omega
      | ⟨2, _⟩ => show (((h.val * 4 + n.val) * 2048 + x.val) * 192 + d.val) % 192 = d.val; omega),
    val_main_v65_apply, val_main_v64_apply, val_main_v63_apply, ← coe_sum]
  refine Finset.sum_congr rfl fun j _ => ?_
  rw [EReal.coe_mul, ← ddot_real R, ← k_real R]
  refine congrArg₂ _ ?_ ?_ <;> exact congrArg _ (funext fun a => match a with | ⟨0, _⟩ => rfl | ⟨1, _⟩ => rfl | ⟨2, _⟩ => rfl)

end Cert.ReferenceIdeal.Hand

end
-- ==== Proof.Result.lean ====
/-
  What the call leaves in its three results: the gradients `dqOf`, `dkOf`, `dvOf` of the arrays it is given.
-/
module

public import proofs.«01_k».proof.Proof.Gather

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Idealize.SL.Sem
open Idealize.ShloMosaic.Pipeline (Dat RDat)

variable (m : (ℓ : Loc nD τ sig) → Buf (Elt Ideal) ℓ) (ρ : Dev nD → PrngReg) (c : Dev nD)

theorem flush7 : ∀ t : Fin grid0.N, (cfg0.win 7).flush t = true → t.val % 16 = 15 := by decide +kernel
theorem flush8 : ∀ t : Fin grid0.N, (cfg0.win 8).flush t = true → t.val % 4 = 3 := by decide +kernel
theorem flush9 : ∀ t : Fin grid0.N, (cfg0.win 9).flush t = true → t.val % 4 = 3 := by decide +kernel

/-- A finished block of the keys' gradient. -/
theorem dk_block (t : Fin cfg0.N) (ht : t.val % 4 = 3) (y : S1x2048x192.Idx) :
    k0_pay5 (accDk m c t.val t.isLt) y
      = dkOf (oQ m c) (oK m c) (oKV m c) (oG m c) (oL m c) (oD m c) (ix3 (hd t) (kr t (y 1)) (y 2)) := by
  have hy : y = ix3 (0 : Fin 1) (y 1) (y 2) := funext fun a => match a with
    | ⟨0, _⟩ => Subsingleton.elim (α := Fin 1) _ _
    | ⟨1, _⟩ => rfl
    | ⟨2, _⟩ => rfl
  conv_lhs => rw [hy]
  exact (pay5_at _ _ _).trans (accDk_last m c t ht _ _)

/-- A finished block of the values' gradient. -/
theorem dv_block (t : Fin cfg0.N) (ht : t.val % 4 = 3) (y : S2048x128.Idx) :
    k0_pay6 (accDv m c t.val t.isLt) y
      = dvOf (oQ m c) (oK m c) (oG m c) (oL m c) (ix2 (kr t (y 0)) (hcol (hd t) (y 1))) := by
  conv_lhs => rw [eq_ix2 y]
  exact (pay6_at _ _ _).trans (accDv_last m c t ht _ _)

/-- A finished block of the queries' gradient. -/
theorem dq_block (z : Vec Ideal S1x4x192x2048 .f32) (t : Fin cfg0.N) (ht : t.val % 16 = 15) (y : S1x4x192x2048.Idx) :
    dqAfter m c z t.val t.isLt y
      = dqOf (oQ m c) (oK m c) (oKT m c) (oKV m c) (oG m c) (oL m c) (oD m c) (ix4 (hd t) (y 1) (y 2) (y 3)) := by
  have hy : y = ix4 (0 : Fin 1) (y 1) (y 2) (y 3) := funext fun a => match a with
    | ⟨0, _⟩ => Subsingleton.elim (α := Fin 1) _ _
    | ⟨1, _⟩ => rfl
    | ⟨2, _⟩ => rfl
    | ⟨3, _⟩ => rfl
  conv_lhs => rw [hy]
  exact dqAfter_last m c z t ht _ _ _

section Arrays

variable (after : (w' : Fin cfg0.W) → Fin cfg0.N → (cfg0.win w').block.Idx → Elt Ideal (cfg0.win w').elt)

theorem arr7 (hL : ∀ u : Fin cfg0.N, (cfg0.win 7).flush u = true → (rdats m c).Leaves 7 u (after 7 u)) :
    ((rdats m c).withAfter after).arrAt 7 cfg0.N = dqOf (oQ m c) (oK m c) (oKT m c) (oKV m c) (oG m c) (oL m c) (oD m c) := by
  refine Dat.arrAt_eq_of_covers _ 7 _ (by decide +kernel) fun t hf y => ?_
  have h : Rl m c 7 t (after 7 t) := (dats m 0 c).toRRel_leaves (w := 7) rfl (hL t hf)
  obtain ⟨z, hz⟩ := h
  blk_simp
  show after 7 t y = _
  rw [hz]
  refine (dq_block m c z t (flush7 t hf) y).trans (congrArg _ ?_)
  blk_ext [idx7, hd]

theorem arr8 (hL : ∀ u : Fin cfg0.N, (cfg0.win 8).flush u = true → (rdats m c).Leaves 8 u (after 8 u)) :
    ((rdats m c).withAfter after).arrAt 8 cfg0.N = dkOf (oQ m c) (oK m c) (oKV m c) (oG m c) (oL m c) (oD m c) := by
  refine Dat.arrAt_eq_of_covers _ 8 _ (by decide +kernel) fun t hf y => ?_
  have h : Rl m c 8 t (after 8 t) := (dats m 0 c).toRRel_leaves (w := 8) rfl (hL t hf)
  have hz := h (flush8 t hf)
  blk_simp
  show after 8 t y = _
  rw [hz]
  refine (dk_block m c t (flush8 t hf) y).trans (congrArg _ ?_)
  blk_ext [idx8, hd, kr]

theorem arr9 (hL : ∀ u : Fin cfg0.N, (cfg0.win 9).flush u = true → (rdats m c).Leaves 9 u (after 9 u)) :
    ((rdats m c).withAfter after).arrAt 9 cfg0.N = dvOf (oQ m c) (oK m c) (oG m c) (oL m c) := by
  refine Dat.arrAt_eq_of_covers _ 9 _ (by decide +kernel) fun t hf y => ?_
  have h : Rl m c 9 t (after 9 t) := (dats m 0 c).toRRel_leaves (w := 9) rfl (hL t hf)
  have hz := h (flush9 t hf)
  blk_simp
  show after 9 t y = _
  rw [hz]
  refine (dv_block m c t (flush9 t hf) y).trans (congrArg _ ?_)
  blk_ext [idx9, hd, kr, hcol]

end Arrays

/-- The run, with the values. -/
theorem run_value : θ_run defs (onTc (τ := τ) (main (F := Ideal))) ⟨m, fun _ => 0, ρ⟩ (fun r => ∀ c : Dev nD,
      r.2.mem ((c.tc : Thread nD τ).loc main_v37_0) = dqOf (oQ m c) (oK m c) (oKT m c) (oKV m c) (oG m c) (oL m c) (oD m c)
      ∧ r.2.mem ((c.tc : Thread nD τ).loc main_v37_1) = dkOf (oQ m c) (oK m c) (oKV m c) (oG m c) (oL m c) (oD m c)
      ∧ r.2.mem ((c.tc : Thread nD τ).loc main_v37_2) = dvOf (oQ m c) (oK m c) (oG m c) (oL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := RDat.FramePost.exists_exact h.1 c
    exact ⟨(hA 7).trans (arr7 m c after (hL 7)), (hA 8).trans (arr8 m c after (hL 8)), (hA 9).trans (arr9 m c after (hL 9)), kept m h.1 c⟩)
    (run_main m ρ)

end Cert.KernelIdeal.Hand

end
-- ==== Proof.Algebraic.lean ====
/-
  The equation: from memories that agree on six arrays of numbers, the kernel and the reference end with the same
  gradients.
-/
module

public import proofs.«01_k».proof.Defs
public import proofs.«01_k».proof.Proof.Gen.ReferenceIdeal
public import proofs.«01_k».proof.Proof.Finite
public import proofs.«01_k».proof.Proof.KernelReal
public import proofs.«01_k».proof.Proof.ReferenceReal
public import proofs.«01_k».proof.Proof.Result
public import Idealize.ShloMosaic.Lib.Pointwise.SelectCore

@[expose] public section

noncomputable section

namespace Cert.Hand

open Cert.KernelIdeal Cert.KernelIdeal.Gen Cert.KernelIdeal.Hand Cert.KernelIdeal.Host Cert.Lift Cert.Attention
open Idealize.ShloMosaic Idealize.ShloMosaic.TcCoe Idealize.SL.Sem Idealize.ShloMosaic.Pointwise

/-- Arguments whose entries are reals are arrays of reals. -/
theorem real6 (x0 x2 x4 : Vec Ideal S8192x8x128 .bf16) (x1 : Vec Ideal S8192x8x64 .bf16) (x3 : Vec Ideal S8192x64 .bf16) (x5 : Vec Ideal S8192x1024 .bf16)
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    Real6 x0 x2 x4 x1 x3 x5 (fun h i d => (qCatV (F := Ideal) x0 x1 (ix3 i h d)).toReal) (fun h j d => (kCatV (F := Ideal) x2 x3 (ix3 j h d)).toReal)
      (fun h j c => (x4 (ix3 j h c)).toReal) (fun h i c => (x5 (ix2 i (hcol h c))).toReal) where
  query h i d := by
    refine IsReal.eq ?_
    unfold qCatV
    refine concatenate_forall (P := fun x : EReal => IsReal x) _ _ _ _ (fun p hp => ?_) _
    rcases List.mem_cons.1 hp with rfl | hp
    · exact h0
    · rcases List.mem_cons.1 hp with rfl | hp
      · exact h1
      · exact absurd hp (by simp)
  key h i d := by
    refine IsReal.eq ?_
    unfold kCatV
    refine concatenate_forall (P := fun x : EReal => IsReal x) _ _ _ _ (fun p hp => ?_) _
    rcases List.mem_cons.1 hp with rfl | hp
    · exact h2
    · rcases List.mem_cons.1 hp with rfl | hp
      · intro i
        show IsReal (peHeadsV (F := Ideal) x3 i)
        rw [peHeadsV_apply, peRowV_apply]
        exact h3 _
      · exact absurd hp (by simp)
  value h j c := (h4 _).eq
  out h i c := (h5 _).eq

theorem hcol_split (n : Fin 1024) : n = hcol (chd n) ⟨n.val % 128, Nat.mod_lt _ (by decide)⟩ :=
  Fin.ext (by show n.val = n.val / 128 * 128 + n.val % 128; omega)

theorem algebraic : Cert.algebraic_KernelIdeal_ReferenceIdeal_pre_finite := by
  intro m ρ m' ρ' hpre hagree
  refine ⟨_, _, _, run_value m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨h0, h1, h2, h3, h4, h5⟩ := Cert.Pre_finite.Hand.reals _ _ _ _ _ _ (hpre c)
  have R := real6 _ _ _ _ _ _ h0 h1 h2 h3 h4 h5
  obtain ⟨e0, e1, e2, kept⟩ := h c
  have hQ : oQ m c = qV (F := Ideal) (m ((c.tc : Thread nD τ).loc main_arg0)) (m ((c.tc : Thread nD τ).loc main_arg1)) := V_q m c
  have hK : oK m c = kV (F := Ideal) (m ((c.tc : Thread nD τ).loc main_arg2)) (m ((c.tc : Thread nD τ).loc main_arg3)) := V_k m c
  have hKT : oKT m c = ktV (F := Ideal) (m ((c.tc : Thread nD τ).loc main_arg2)) (m ((c.tc : Thread nD τ).loc main_arg3)) := V_kt m c
  have hKV : oKV m c = kvV (F := Ideal) (m ((c.tc : Thread nD τ).loc main_arg2)) (m ((c.tc : Thread nD τ).loc main_arg4)) := V_kv m c
  have hL : oL m c = lseV (F := Ideal) (m ((c.tc : Thread nD τ).loc main_arg0)) (m ((c.tc : Thread nD τ).loc main_arg1)) (m ((c.tc : Thread nD τ).loc main_arg2)) (m ((c.tc : Thread nD τ).loc main_arg3)) := V_lse m c
  have hD : oD m c = deltaV (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := V_delta m c
  have hG : oG m c = m ((c.tc : Thread nD τ).loc main_arg5) := V_main_arg5 m c
  refine ⟨e0.trans ?_, e1.trans ?_, e2.trans ?_, kept⟩
  · rw [Cert.ReferenceIdeal.Read.val_main_v67_eq, a0, a1, a2, a3, a4, a5, hG, hQ, hK, hKT, hKV, hL, hD]
    funext y
    rw [eq_ix4 y]
    exact (Cert.ReferenceIdeal.Hand.dq_real R (y 0) (y 1) (y 2) (y 3)).trans (dq_real R (y 0) (y 1) (y 2) (y 3)).symm
  · rw [Cert.ReferenceIdeal.Read.val_main_v68_eq, a0, a1, a2, a3, a4, a5, hG, hQ, hK, hKV, hL, hD]
    funext y
    rw [eq_ix3 y]
    exact (Cert.ReferenceIdeal.Hand.dk_real R (y 0) (y 1) (y 2)).trans (dk_real R (y 0) (y 1) (y 2)).symm
  · rw [Cert.ReferenceIdeal.Read.val_main_v70_eq, a0, a1, a2, a3, a5, hG, hQ, hK, hL]
    funext y
    rw [eq_ix2 y, hcol_split (y 1)]
    exact (Cert.ReferenceIdeal.Hand.dv_real R (chd (y 1)) (y 0) _).trans (dv_real R (chd (y 1)) (y 0) _).symm

end Cert.Hand

end
-- ==== Proof.CallFrames.lean ====
/-
  The further calls' claims but the value: each program runs, leaves its arguments as they were and every counter at zero,
  and no constant of theirs is replaced.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import Idealize.ShloMosaic.Lib.Quiescent

@[expose] public section

noncomputable section

namespace Cert.Hand

open Idealize.ShloMosaic Idealize.SL.Sem

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)
theorem preserves2 : Cert.preserves_Kernel2_Kernel2Ideal := trivial

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)
theorem preserves3 : Cert.preserves_Kernel3_Kernel3Ideal := trivial

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)
theorem preserves4 : Cert.preserves_Kernel4_Kernel4Ideal := trivial

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)
theorem preserves5 : Cert.preserves_Kernel5_Kernel5Ideal := trivial

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)
theorem preserves6 : Cert.preserves_Kernel6_Kernel6Ideal := trivial

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run (F := Ideal) m ρ)
theorem preserves7 : Cert.preserves_Kernel7_Kernel7Ideal := trivial

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩) (Cert.Reference8Ideal.Value.run (F := Ideal) m ρ)
theorem preserves8 : Cert.preserves_Kernel8_Kernel8Ideal := trivial

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9 : Cert.quiescent_Reference9Ideal := fun m ρ _ =>
  (θ_run Cert.Reference9Ideal.defs _ _).mono
    (fun r h => ⟨fun c => (h c).2.2, Idealize.ShloMosaic.sem_eq_zero_of_no_sems (by decide) r.2⟩) (Cert.Reference9Ideal.Value.run (F := Ideal) m ρ)
theorem preserves9 : Cert.preserves_Kernel9_Kernel9Ideal := trivial

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run (F := Ideal) m ρ)
theorem preserves10 : Cert.preserves_Kernel10_Kernel10Ideal := trivial

theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩) (Cert.Reference11Ideal.Value.run (F := Ideal) m ρ)
theorem preserves11 : Cert.preserves_Kernel11_Kernel11Ideal := trivial

theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩) (Cert.Reference12Ideal.Value.run (F := Ideal) m ρ)
theorem preserves12 : Cert.preserves_Kernel12_Kernel12Ideal := trivial

theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩) (Cert.Reference13Ideal.Value.run (F := Ideal) m ρ)
theorem preserves13 : Cert.preserves_Kernel13_Kernel13Ideal := trivial

theorem frame_kernel14 : Cert.quiescent_Kernel14 := fun m ρ _ => Cert.Kernel14.Gen.frame m ρ
theorem frame_kernel14Ideal : Cert.quiescent_Kernel14Ideal := fun m ρ _ => Cert.Kernel14Ideal.Gen.frame m ρ
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩) (Cert.Reference14Ideal.Value.run (F := Ideal) m ρ)
theorem preserves14 : Cert.preserves_Kernel14_Kernel14Ideal := trivial

theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩) (Cert.Reference15Ideal.Value.run (F := Ideal) m ρ)
theorem preserves15 : Cert.preserves_Kernel15_Kernel15Ideal := trivial

theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩) (Cert.Reference16Ideal.Value.run (F := Ideal) m ρ)
theorem preserves16 : Cert.preserves_Kernel16_Kernel16Ideal := trivial

theorem frame_kernel17 : Cert.quiescent_Kernel17 := fun m ρ _ => Cert.Kernel17.Gen.frame m ρ
theorem frame_kernel17Ideal : Cert.quiescent_Kernel17Ideal := fun m ρ _ => Cert.Kernel17Ideal.Gen.frame m ρ
theorem frame_reference17 : Cert.quiescent_Reference17Ideal := fun m ρ _ =>
  (θ_run Cert.Reference17Ideal.defs _ _).mono
    (fun r h => ⟨fun c => (h c).2.2, Idealize.ShloMosaic.sem_eq_zero_of_no_sems (by decide) r.2⟩) (Cert.Reference17Ideal.Value.run (F := Ideal) m ρ)
theorem preserves17 : Cert.preserves_Kernel17_Kernel17Ideal :=
  ⟨IdealRules.named_const.statement Cert.Kernel17Ideal.κ "scale_log2e" .f32 0x3DD53B95#32 _ rfl,
    IdealRules.named_const.statement Cert.Kernel17Ideal.κ "scale" .f32 0x3D93CD3A#32 _ rfl⟩

theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_reference18 : Cert.quiescent_Reference18Ideal := fun m ρ _ =>
  (θ_run Cert.Reference18Ideal.defs _ _).mono
    (fun r h => ⟨fun c => (h c).2, Idealize.ShloMosaic.sem_eq_zero_of_no_sems (by decide) r.2⟩) (Cert.Reference18Ideal.Value.run (F := Ideal) m ρ)
theorem preserves18 : Cert.preserves_Kernel18_Kernel18Ideal := trivial

theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_reference19 : Cert.quiescent_Reference19Ideal := fun m ρ _ =>
  (θ_run Cert.Reference19Ideal.defs _ _).mono
    (fun r h => ⟨fun c => (h c).2, Idealize.ShloMosaic.sem_eq_zero_of_no_sems (by decide) r.2⟩) (Cert.Reference19Ideal.Value.run (F := Ideal) m ρ)
theorem preserves19 : Cert.preserves_Kernel19_Kernel19Ideal := trivial

theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_reference20 : Cert.quiescent_Reference20Ideal := fun m ρ _ =>
  (θ_run Cert.Reference20Ideal.defs _ _).mono
    (fun r h => ⟨fun c => (h c).2, Idealize.ShloMosaic.sem_eq_zero_of_no_sems (by decide) r.2⟩) (Cert.Reference20Ideal.Value.run (F := Ideal) m ρ)
theorem preserves20 : Cert.preserves_Kernel20_Kernel20Ideal := trivial

theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_reference21 : Cert.quiescent_Reference21Ideal := fun m ρ _ =>
  (θ_run Cert.Reference21Ideal.defs _ _).mono
    (fun r h => ⟨fun c => (h c).2, Idealize.ShloMosaic.sem_eq_zero_of_no_sems (by decide) r.2⟩) (Cert.Reference21Ideal.Value.run (F := Ideal) m ρ)
theorem preserves21 : Cert.preserves_Kernel21_Kernel21Ideal := trivial

theorem frame_kernel22 : Cert.quiescent_Kernel22 := fun m ρ _ => Cert.Kernel22.Gen.frame m ρ
theorem frame_kernel22Ideal : Cert.quiescent_Kernel22Ideal := fun m ρ _ => Cert.Kernel22Ideal.Gen.frame m ρ
theorem frame_reference22 : Cert.quiescent_Reference22Ideal := fun m ρ _ =>
  (θ_run Cert.Reference22Ideal.defs _ _).mono
    (fun r h => ⟨fun c => (h c).2, Idealize.ShloMosaic.sem_eq_zero_of_no_sems (by decide) r.2⟩) (Cert.Reference22Ideal.Value.run (F := Ideal) m ρ)
theorem preserves22 : Cert.preserves_Kernel22_Kernel22Ideal := trivial

theorem frame_kernel23 : Cert.quiescent_Kernel23 := fun m ρ _ => Cert.Kernel23.Gen.frame m ρ
theorem frame_kernel23Ideal : Cert.quiescent_Kernel23Ideal := fun m ρ _ => Cert.Kernel23Ideal.Gen.frame m ρ
theorem frame_reference23 : Cert.quiescent_Reference23Ideal := fun m ρ _ =>
  (θ_run Cert.Reference23Ideal.defs _ _).mono
    (fun r h => ⟨fun c => (h c).2, Idealize.ShloMosaic.sem_eq_zero_of_no_sems (by decide) r.2⟩) (Cert.Reference23Ideal.Value.run (F := Ideal) m ρ)
theorem preserves23 : Cert.preserves_Kernel23_Kernel23Ideal := trivial

end Cert.Hand

end
-- ==== Proof.ActGrad.lean ====
/-
  The call `d_act`, the gradient of the hidden layer: a point multiplies a row block of the cotangent with a row block of the
  second weight, over all 2048 columns at once, and scales each entry by twice the hidden entry's positive part. The reference
  picks zero where the hidden entry is not positive: there the kernel's factor is zero too.
-/
module

public import proofs.«01_k».proof.Defs
public import proofs.«01_k».proof.Proof.Gen.Kernel2Ideal.Value
public import proofs.«01_k».proof.Proof.Gen.Reference2Ideal.Read
public import proofs.«01_k».proof.Proof.Lift
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

/-- Twice the positive part. -/
def rate (h : EReal) : EReal := FloatOps.mulf (F := Ideal) (φ := .f32) (FloatOps.ofBits .f32 0x40000000#32) (FloatOps.maximumf (φ := .f32) h (FloatOps.ofBits .f32 0x00000000#32))

section Body

variable (x0 : Vec Ideal S1024x2048 .f32) (x1 : Vec Ideal S1024x2048 .bf16) (x2 : Vec Ideal S1024x1024 .f32)

theorem out_eq : out0_3 x0 x1 x2 = k0_pay1 x0 x1 x2 := by
  unfold out0_3
  rw [View.canon_unit_zero hz]
  simp only [View.ld_unit_zero (S := S1024x2048) hz, View.ld_unit_zero (S := S1024x1024) hz]

theorem pay1_at (r s : Fin 1024) : k0_pay1 x0 x1 x2 (ix2 r s) = (∑ q : Fin 2048, x0 (ix2 r q) * x1 (ix2 s q)) * rate (x2 (ix2 r s)) := by
  pointwise [k0_pay1, rate]

end Body

variable (m : (ℓ : Loc nD τ sig) → Buf (Elt Ideal) ℓ) (ρ : Dev nD → PrngReg) (c : Dev nD)

theorem idx0 : ∀ t : Fin grid0.N, win0_0.index t = ![t.val / 8, 0] := by decide +kernel
theorem idx1 : ∀ t : Fin grid0.N, win0_1.index t = ![t.val % 8, 0] := by decide +kernel
theorem idx2 : ∀ t : Fin grid0.N, win0_2.index t = ![t.val / 8, t.val % 8] := by decide +kernel
theorem idx3 : ∀ t : Fin grid0.N, win0_3.index t = ![t.val / 8, t.val % 8] := by decide +kernel

/-- The operands of the call as it is launched. -/
abbrev oA : Vec Ideal S8192x2048 .f32 := V m c main_arg2
abbrev oB : Vec Ideal S8192x2048 .bf16 := V m c main_v0
abbrev oH : Vec Ideal S8192x8192 .f32 := V m c main_arg0

/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 8192 := ⟨t.val % 8 * 1024 + s.val, by omega⟩

theorem blk0_at (t : Fin cfg0.N) (r : Fin 1024) (q : Fin 2048) :
    (iblk m c 0 t : Vec Ideal S1024x2048 .f32) (ix2 r q) = oA m c (ix2 (kr t r) q) := by
  blk_ext [iblk, idx0, kr]

theorem blk1_at (t : Fin cfg0.N) (s : Fin 1024) (q : Fin 2048) :
    (iblk m c 1 t : Vec Ideal S1024x2048 .bf16) (ix2 s q) = oB m c (ix2 (ks t s) q) := by
  blk_ext [iblk, idx1, ks]

theorem blk2_at (t : Fin cfg0.N) (r s : Fin 1024) :
    (iblk m c 2 t : Vec Ideal S1024x1024 .f32) (ix2 r s) = oH m c (ix2 (kr t r) (ks t s)) := by
  blk_ext [iblk, idx2, kr, ks]

/-- The scaled product. -/
def prod : Vec Ideal S8192x8192 .bf16 := fun i => (∑ q : Fin 2048, oA m c (ix2 (i 0) q) * oB m c (ix2 (i 1) q)) * rate (oH m c (ix2 (i 0) (i 1)))

theorem out_at (t : Fin cfg0.N) (r s : Fin 1024) :
    out0_3 (iblk m c 0 t) (iblk m c 1 t) (iblk m c 2 t) (ix2 r s) = prod m c (ix2 (kr t r) (ks t s)) := by
  rw [out_eq, pay1_at]
  simp only [blk0_at, blk1_at, blk2_at]
  rfl

theorem arr : (dats m 0 c).arrAt 3 cfg0.N = prod m c := by
  refine Dat.arrAt_eq_of_covers _ 3 _ (by decide +kernel) fun t hf y => ?_
  rw [after0_3]
  blk_simp
  refine (congrArg _ (eq_ix2 y)).trans ((out_at m c t (y 0) (y 1)).trans (congrArg _ ?_))
  blk_ext [idx3, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castV (x : (⟨S8192x2048, .f32⟩ : BufTy).Contents (Elt Ideal)) : (⟨S8192x2048, .bf16⟩ : BufTy).Contents (Elt Ideal) :=
  truncf (F := Ideal) .bf16 x bitsLt_bf16_f32

/-- The region finds the operand cast. -/
theorem V_cast : V m c main_v0 = castV (m ((c.tc : Thread nD τ).loc main_arg1)) := by
  show StableHlo.after hostOps0 (fun b => m (c, b)) (Proc.devRef .tc main_v0) = _
  after_results_simp <;> rfl

end Cert.Kernel2Ideal.Hand

namespace Cert.Hand

open Idealize.ShloMosaic Idealize.ShloMosaic.TcCoe Idealize.ShloMosaic.Pointwise Idealize.SL.Sem
open Cert.Kernel2Ideal.Hand (rate)

/-- Where the hidden entry is not positive, twice its positive part is zero. -/
theorem rate_of_not_pos (h : EReal) (hh : ¬0 < h) : rate h = 0 := by
  show _ * max h (FloatOps.ofBits (F := Ideal) .f32 0x00000000#32) = 0
  rw [Cert.Lift.nil_eq, max_eq_right (not_lt.1 hh), mul_zero]

/-- Choosing zero there is scaling by it. -/
theorem select_rate (p h : EReal) : Scalar.select (FloatOps.cmpf (F := Ideal) (φ := .f32) .ogt h (FloatOps.ofBits .f32 0x00000000#32)) (p * rate h) (FloatOps.ofBits (F := Ideal) .f32 0x00000000#32) = p * rate h := by
  rw [Cert.Lift.nil_eq]
  show Scalar.select (BitVec.ofBool (decide ((0 : EReal) < h))) _ _ = _
  by_cases hh : 0 < h
  · rw [decide_eq_true hh]; rfl
  · rw [decide_eq_false hh, rate_of_not_pos h hh, mul_zero]; rfl

theorem algebraic_act : Cert.algebraic_Kernel2Ideal_Reference2Ideal := by
  intro m ρ m' ρ' hpre hagree
  refine ⟨_, Cert.Kernel2Ideal.Hand.run_value m ρ, ?_⟩
  refine (θ_run Cert.Reference2Ideal.defs _ _).mono (fun _ h c => ?_) (Cert.Reference2Ideal.Value.run (F := Ideal) m' ρ')
  obtain ⟨a0, a1, a2⟩ := hagree c
  obtain ⟨e, kept⟩ := h c
  refine ⟨e.trans ?_, kept⟩
  rw [Cert.Reference2Ideal.Read.val_main_v14_eq, a0, a1, a2]
  have hA : Cert.Kernel2Ideal.Hand.oA m c = m ((c.tc : Thread Cert.Kernel2Ideal.nD Cert.Kernel2Ideal.τ).loc Cert.Kernel2Ideal.main_arg2) := Cert.Kernel2Ideal.Gen.V_main_arg2 m c
  have hB : Cert.Kernel2Ideal.Hand.oB m c = Cert.Kernel2Ideal.Hand.castV (m ((c.tc : Thread Cert.Kernel2Ideal.nD Cert.Kernel2Ideal.τ).loc Cert.Kernel2Ideal.main_arg1)) := Cert.Kernel2Ideal.Hand.V_cast m c
  have hH : Cert.Kernel2Ideal.Hand.oH m c = m ((c.tc : Thread Cert.Kernel2Ideal.nD Cert.Kernel2Ideal.τ).loc Cert.Kernel2Ideal.main_arg0) := Cert.Kernel2Ideal.Gen.V_main_arg0 m c
  funext y
  rw [eq_ix2 y]
  refine (Cert.Reference2Ideal.Read.val_main_v14_apply _ _ _ _).trans ?_
  refine (Cert.Reference2Ideal.Read.val_main_v13_apply _ _ _ _).trans ?_
  rw [Cert.Reference2Ideal.Read.val_main_v2_apply, Cert.Reference2Ideal.Read.val_main_v1_apply, Cert.Reference2Ideal.Read.val_main_cst_apply,
    Cert.Reference2Ideal.Read.val_main_v11_apply, Cert.Reference2Ideal.Read.val_main_v6_apply, Cert.Reference2Ideal.Read.val_main_v5_apply,
    Cert.Reference2Ideal.Read.val_main_cst_1_apply, Cert.Reference2Ideal.Read.val_main_v0_apply, Cert.Reference2Ideal.Read.val_main_call0_v0_apply,
    Cert.Reference2Ideal.Read.val_main_call0_cst_apply, Cert.Reference2Ideal.Read.val_main_v12_apply, Cert.Reference2Ideal.Read.val_main_cst_2_apply]
  refine (select_rate _ _).trans ?_
  unfold Cert.Kernel2Ideal.Hand.prod
  rw [Cert.Reference2Ideal.Read.val_main_v10_apply, hA, hB, hH]
  refine congrArg₂ _ (Finset.sum_congr rfl fun q _ => ?_) rfl
  congr 2 <;> (funext a; fin_cases a <;> rfl)

end Cert.Hand

end
-- ==== Proof.Ff2Grad.lean ====
/-
  The call `d_ff2`, the gradient of the second weight: a point multiplies a block of 2048 rows of the activation, transposed,
  with the same rows of the cotangent; four points add up to the product over all 8192 rows. The reference is the same product
  in the other order.
-/
module

public import proofs.«01_k».proof.Defs
public import proofs.«01_k».proof.Proof.Gather
public import proofs.«01_k».proof.Proof.Gen.Kernel3Ideal.Value
public import proofs.«01_k».proof.Proof.Gen.Reference3Ideal.Read
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .f32) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S2048x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

theorem pay1_at (r s : Fin 1024) : k0_pay1 x0 x1 (ix2 r s) = ∑ q : Fin 2048, x0 (ix2 q r) * x1 (ix2 q s) := by
  pointwise [k0_pay1]

theorem pay2_at (r s : Fin 1024) : k0_pay2 b x0 x1 (ix2 r s) = b (ix2 r s) + ∑ q : Fin 2048, x0 (ix2 q r) * x1 (ix2 q s) := by
  pointwise [k0_pay2]

theorem pay3_at (r s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x8192 .bf16 := V m c main_v3
abbrev oB : Vec Ideal S8192x2048 .f32 := V m c main_arg2

/-- Row `q` of a point's blocks, in the operands. -/
def kq (t : Fin cfg0.N) (q : Fin 2048) : Fin 8192 := ⟨t.val % 4 * 2048 + q.val, by omega⟩
/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (q : Fin 2048) (r : Fin 1024) :
    (iblk m c 0 t : Vec Ideal S2048x1024 .bf16) (ix2 q r) = oA m c (ix2 (kq t q) (kr t r)) := by
  blk_ext [iblk, idx0, kq, kr]

theorem blk1_at (t : Fin cfg0.N) (q : Fin 2048) (s : Fin 1024) :
    (iblk m c 1 t : Vec Ideal S2048x1024 .f32) (ix2 q s) = oB m c (ix2 (kq t q) (ks t s)) := by
  blk_ext [iblk, idx1, kq, ks]

/-- What a point adds. -/
def term (t : Fin cfg0.N) (r s : Fin 1024) : EReal := ∑ q : Fin 2048, oA m c (ix2 (kq t q) (kr t r)) * oB m c (ix2 (kq t q) (ks t s))

/-- The product. -/
def prod : Vec Ideal S8192x2048 .bf16 := fun i => ∑ q : Fin 8192, oA m c (ix2 q (i 0)) * oB m c (ix2 q (i 1))

theorem kr_eq (t u : Fin cfg0.N) (h : u.val / 4 = t.val / 4) (r : Fin 1024) : kr u r = kr t r := Fin.ext (by show u.val / 8 * 1024 + r.val = t.val / 8 * 1024 + r.val; omega)
theorem ks_eq (t u : Fin cfg0.N) (h : u.val / 4 = t.val / 4) (s : Fin 1024) : ks u s = ks t s := Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v4) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- The activation, the square of the hidden layer's positive part. -/
def actV (x0 : (⟨S8192x8192, .f32⟩ : BufTy).Contents (Elt Ideal)) : (⟨S8192x8192, .bf16⟩ : BufTy).Contents (Elt Ideal) :=
  truncf .bf16 (mulf (maximumf x0 (broadcastInDim S8192x8192 ![] bcast_S_S8192x8192 (constant (F := Ideal) S_ .f32 0x00000000#32)))
    (maximumf x0 (broadcastInDim S8192x8192 ![] bcast_S_S8192x8192 (constant (F := Ideal) S_ .f32 0x00000000#32)))) bitsLt_bf16_f32

/-- The region finds the activation. -/
theorem V_act : V m c main_v3 = actV (m ((c.tc : Thread nD τ).loc main_arg0)) := by
  show StableHlo.after hostOps0 (fun b => m (c, b)) (Proc.devRef .tc main_v3) = _
  after_results_simp <;> rfl

end Cert.Kernel3Ideal.Hand

namespace Cert.Hand

open Idealize.ShloMosaic Idealize.ShloMosaic.TcCoe Idealize.ShloMosaic.Pointwise Idealize.SL.Sem

theorem algebraic_ff2 : Cert.algebraic_Kernel3Ideal_Reference3Ideal := by
  intro m ρ m' ρ' hpre hagree
  refine ⟨_, Cert.Kernel3Ideal.Hand.run_value m ρ, ?_⟩
  refine (θ_run Cert.Reference3Ideal.defs _ _).mono (fun _ h c => ?_) (Cert.Reference3Ideal.Value.run (F := Ideal) m' ρ')
  obtain ⟨a0, a1, a2⟩ := hagree c
  obtain ⟨e, kept⟩ := h c
  refine ⟨e.trans ?_, kept⟩
  rw [Cert.Reference3Ideal.Read.val_main_v14_eq, a0, a2]
  have hA : Cert.Kernel3Ideal.Hand.oA m c = Cert.Kernel3Ideal.Hand.actV (m ((c.tc : Thread Cert.Kernel3Ideal.nD Cert.Kernel3Ideal.τ).loc Cert.Kernel3Ideal.main_arg0)) := Cert.Kernel3Ideal.Hand.V_act m c
  have hB : Cert.Kernel3Ideal.Hand.oB m c = m ((c.tc : Thread Cert.Kernel3Ideal.nD Cert.Kernel3Ideal.τ).loc Cert.Kernel3Ideal.main_arg2) := Cert.Kernel3Ideal.Gen.V_main_arg2 m c
  funext y
  rw [eq_ix2 y]
  refine (Cert.Reference3Ideal.Read.val_main_v14_apply _ _ _).trans ?_
  refine (Cert.Reference3Ideal.Read.val_main_v9_apply _ _ _).trans ((Cert.Reference3Ideal.Read.val_main_v8_apply _ _ _).trans ?_)
  unfold Cert.Kernel3Ideal.Hand.prod
  refine Finset.sum_congr rfl fun q _ => ?_
  rw [hA, hB, mul_comm]
  congr 2 <;> (funext a; fin_cases a <;> rfl)

end Cert.Hand

end
-- ==== Proof.Ff1Grad.lean ====
/-
  The call `d_ff1`, the gradient of the first weight: a point multiplies a block of 2048 rows of the normalised input,
  transposed, with the same rows of the cotangent; four points add up to the product over all 8192 rows. The reference is the
  same product in the other order.
-/
module

public import proofs.«01_k».proof.Defs
public import proofs.«01_k».proof.Proof.Gather
public import proofs.«01_k».proof.Proof.Gen.Kernel4Ideal.Value
public import proofs.«01_k».proof.Proof.Gen.Reference4Ideal.Read
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .bf16) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S2048x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

theorem pay1_at (r s : Fin 1024) : k0_pay1 x0 x1 (ix2 r s) = ∑ q : Fin 2048, x0 (ix2 q r) * x1 (ix2 q s) := by
  pointwise [k0_pay1]

theorem pay2_at (r s : Fin 1024) : k0_pay2 b x0 x1 (ix2 r s) = b (ix2 r s) + ∑ q : Fin 2048, x0 (ix2 q r) * x1 (ix2 q s) := by
  pointwise [k0_pay2]

theorem pay3_at (r s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 32] := by decide +kernel
theorem idx1 : ∀ t : Fin grid0.N, win0_1.index t = ![t.val % 4, t.val / 4 % 8] := by decide +kernel
theorem idx2 : ∀ t : Fin grid0.N, win0_2.index t = ![t.val / 32, t.val / 4 % 8] := by decide +kernel

/-- The operands of the call as it is launched. -/
abbrev oA : Vec Ideal S8192x2048 .bf16 := V m c main_v0
abbrev oB : Vec Ideal S8192x8192 .bf16 := V m c main_arg2

/-- Row `q` of a point's blocks, in the operands. -/
def kq (t : Fin cfg0.N) (q : Fin 2048) : Fin 8192 := ⟨t.val % 4 * 2048 + q.val, by omega⟩
/-- Row `r` of a point's result, in the result. -/
def kr (t : Fin cfg0.N) (r : Fin 1024) : Fin 2048 := ⟨t.val / 32 * 1024 + r.val, by have := Nat.lt_of_lt_of_eq t.isLt N_0; omega⟩
/-- Column `s` of a point's result, in the result. -/
def ks (t : Fin cfg0.N) (s : Fin 1024) : Fin 8192 := ⟨t.val / 4 % 8 * 1024 + s.val, by omega⟩

theorem blk0_at (t : Fin cfg0.N) (q : Fin 2048) (r : Fin 1024) :
    (iblk m c 0 t : Vec Ideal S2048x1024 .bf16) (ix2 q r) = oA m c (ix2 (kq t q) (kr t r)) := by
  blk_ext [iblk, idx0, kq, kr]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, kq, ks]

/-- What a point adds. -/
def term (t : Fin cfg0.N) (r s : Fin 1024) : EReal := ∑ q : Fin 2048, oA m c (ix2 (kq t q) (kr t r)) * oB m c (ix2 (kq t q) (ks t s))

/-- The product. -/
def prod : Vec Ideal S2048x8192 .bf16 := fun i => ∑ q : Fin 8192, oA m c (ix2 q (i 0)) * oB m c (ix2 q (i 1))

theorem kr_eq (t u : Fin cfg0.N) (h : u.val / 4 = t.val / 4) (r : Fin 1024) : kr u r = kr t r := Fin.ext (by show u.val / 32 * 1024 + r.val = t.val / 32 * 1024 + r.val; omega)
theorem ks_eq (t u : Fin cfg0.N) (h : u.val / 4 = t.val / 4) (s : Fin 1024) : ks u s = ks t s := Fin.ext (by show u.val / 4 % 8 * 1024 + s.val = t.val / 4 % 8 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castV (x : (⟨S8192x2048, .f32⟩ : BufTy).Contents (Elt Ideal)) : (⟨S8192x2048, .bf16⟩ : BufTy).Contents (Elt Ideal) :=
  truncf (F := Ideal) .bf16 x bitsLt_bf16_f32

/-- The region finds the operand cast. -/
theorem V_cast : V m c main_v0 = castV (m ((c.tc : Thread nD τ).loc main_arg0)) := by
  show StableHlo.after hostOps0 (fun b => m (c, b)) (Proc.devRef .tc main_v0) = _
  after_results_simp <;> rfl

end Cert.Kernel4Ideal.Hand

namespace Cert.Hand

open Idealize.ShloMosaic Idealize.ShloMosaic.TcCoe Idealize.ShloMosaic.Pointwise Idealize.SL.Sem

theorem algebraic_ff1 : Cert.algebraic_Kernel4Ideal_Reference4Ideal := by
  intro m ρ m' ρ' hpre hagree
  refine ⟨_, Cert.Kernel4Ideal.Hand.run_value m ρ, ?_⟩
  refine (θ_run Cert.Reference4Ideal.defs _ _).mono (fun _ h c => ?_) (Cert.Reference4Ideal.Value.run (F := Ideal) m' ρ')
  obtain ⟨a0, a1, a2⟩ := hagree c
  obtain ⟨e, kept⟩ := h c
  refine ⟨e.trans ?_, kept⟩
  rw [Cert.Reference4Ideal.Read.val_main_v5_eq, a0, a2]
  have hA : Cert.Kernel4Ideal.Hand.oA m c = Cert.Kernel4Ideal.Hand.castV (m ((c.tc : Thread Cert.Kernel4Ideal.nD Cert.Kernel4Ideal.τ).loc Cert.Kernel4Ideal.main_arg0)) := Cert.Kernel4Ideal.Hand.V_cast m c
  have hB : Cert.Kernel4Ideal.Hand.oB m c = m ((c.tc : Thread Cert.Kernel4Ideal.nD Cert.Kernel4Ideal.τ).loc Cert.Kernel4Ideal.main_arg2) := Cert.Kernel4Ideal.Gen.V_main_arg2 m c
  funext y
  rw [eq_ix2 y]
  refine (Cert.Reference4Ideal.Read.val_main_v5_apply _ _ _).trans ?_
  refine (Cert.Reference4Ideal.Read.val_main_v3_apply _ _ _).trans ((Cert.Reference4Ideal.Read.val_main_v2_apply _ _ _).trans ?_)
  unfold Cert.Kernel4Ideal.Hand.prod
  refine Finset.sum_congr rfl fun q _ => ?_
  rw [hA, hB, mul_comm]
  congr 2 <;> (funext a; fin_cases a <;> rfl)

end Cert.Hand

end
-- ==== Proof.InputGrad.lean ====
/-
  The call `d_u2`, the gradient of the normalised input: a point multiplies a block of 2048 columns of the cotangent with the
  same columns of the first weight; four points add up to the product over all 8192 columns, which is the reference's.
-/
module

public import proofs.«01_k».proof.Defs
public import proofs.«01_k».proof.Proof.Gather
public import proofs.«01_k».proof.Proof.Gen.Kernel5Ideal.Value
public import proofs.«01_k».proof.Proof.Gen.Reference5Ideal.Read
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole)
  (x0 : Vec Ideal S1024x2048 .bf16) (x1 : Vec Ideal S1024x2048 .bf16) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S1024x2048) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S1024x2048) hz, View.ld_unit_zero (S := S1024x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S1024x1024) hz]

theorem out (k0 : ¬cond0_0 i) (k1 : cond0_1 i) (k2 : cond0_2 i) :
    out0_C_2 c i a3 h3 a4 h4 a5 h5 a6 h6 k0 k1 k2 x0 x1 b = k0_pay2 b x0 x1 := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S1024x1024) hz]

theorem pay1_at (r s : Fin 1024) : k0_pay1 x0 x1 (ix2 r s) = ∑ q : Fin 2048, x0 (ix2 r q) * x1 (ix2 s q) := by
  pointwise [k0_pay1]

theorem pay2_at (r s : Fin 1024) : k0_pay2 b x0 x1 (ix2 r s) = b (ix2 r s) + ∑ q : Fin 2048, x0 (ix2 r q) * x1 (ix2 s q) := by
  pointwise [k0_pay2]

end Body

variable (m : (ℓ : Loc nD τ sig) → Buf (Elt Ideal) ℓ) (ρ : Dev nD → PrngReg) (c : Dev nD)

theorem idx0 : ∀ t : Fin grid0.N, win0_0.index t = ![t.val / 8, t.val % 4] := by decide +kernel
theorem idx1 : ∀ t : Fin grid0.N, win0_1.index t = ![t.val / 4 % 2, t.val % 4] := by decide +kernel
theorem idx2 : ∀ t : Fin grid0.N, win0_2.index t = ![t.val / 8, t.val / 4 % 2] := by decide +kernel

/-- The operands of the call as it is launched. -/
abbrev oA : Vec Ideal S8192x8192 .bf16 := V m c main_arg2
abbrev oB : Vec Ideal S2048x8192 .bf16 := V m c main_v0

/-- Column `q` of a point's blocks, in the operands. -/
def kq (t : Fin cfg0.N) (q : Fin 2048) : Fin 8192 := ⟨t.val % 4 * 2048 + q.val, by omega⟩
/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (r : Fin 1024) (q : Fin 2048) :
    (iblk m c 0 t : Vec Ideal S1024x2048 .bf16) (ix2 r q) = oA m c (ix2 (kr t r) (kq t q)) := by
  blk_ext [iblk, idx0, kq, kr]

theorem blk1_at (t : Fin cfg0.N) (s : Fin 1024) (q : Fin 2048) :
    (iblk m c 1 t : Vec Ideal S1024x2048 .bf16) (ix2 s q) = oB m c (ix2 (ks t s) (kq t q)) := by
  blk_ext [iblk, idx1, kq, ks]

/-- What a point adds. -/
def term (t : Fin cfg0.N) (r s : Fin 1024) : EReal := ∑ q : Fin 2048, oA m c (ix2 (kr t r) (kq t q)) * oB m c (ix2 (ks t s) (kq t q))

/-- The product. -/
def prod : Vec Ideal S8192x2048 .f32 := fun i => ∑ q : Fin 8192, oA m c (ix2 (i 0) q) * oB m c (ix2 (i 1) q)

theorem kr_eq (t u : Fin cfg0.N) (h : u.val / 4 = t.val / 4) (r : Fin 1024) : kr u r = kr t r := Fin.ext (by show u.val / 8 * 1024 + r.val = t.val / 8 * 1024 + r.val; omega)
theorem ks_eq (t u : Fin cfg0.N) (h : u.val / 4 = t.val / 4) (s : Fin 1024) : ks u s = ks t s := Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 (kr t r) q) * oB m c (ix2 (ks t s) q)
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castV (x : (⟨S2048x8192, .f32⟩ : BufTy).Contents (Elt Ideal)) : (⟨S2048x8192, .bf16⟩ : BufTy).Contents (Elt Ideal) :=
  truncf (F := Ideal) .bf16 x bitsLt_bf16_f32

/-- The region finds the operand cast. -/
theorem V_cast : V m c main_v0 = castV (m ((c.tc : Thread nD τ).loc main_arg1)) := by
  show StableHlo.after hostOps0 (fun b => m (c, b)) (Proc.devRef .tc main_v0) = _
  after_results_simp <;> rfl

end Cert.Kernel5Ideal.Hand

namespace Cert.Hand

open Idealize.ShloMosaic Idealize.ShloMosaic.TcCoe Idealize.ShloMosaic.Pointwise Idealize.SL.Sem

theorem algebraic_u2 : Cert.algebraic_Kernel5Ideal_Reference5Ideal := by
  intro m ρ m' ρ' hpre hagree
  refine ⟨_, Cert.Kernel5Ideal.Hand.run_value m ρ, ?_⟩
  refine (θ_run Cert.Reference5Ideal.defs _ _).mono (fun _ h c => ?_) (Cert.Reference5Ideal.Value.run (F := Ideal) m' ρ')
  obtain ⟨a0, a1, a2⟩ := hagree c
  obtain ⟨e, kept⟩ := h c
  refine ⟨e.trans ?_, kept⟩
  rw [Cert.Reference5Ideal.Read.val_main_v4_eq, a1, a2]
  have hA : Cert.Kernel5Ideal.Hand.oA m c = m ((c.tc : Thread Cert.Kernel5Ideal.nD Cert.Kernel5Ideal.τ).loc Cert.Kernel5Ideal.main_arg2) := Cert.Kernel5Ideal.Gen.V_main_arg2 m c
  have hB : Cert.Kernel5Ideal.Hand.oB m c = Cert.Kernel5Ideal.Hand.castV (m ((c.tc : Thread Cert.Kernel5Ideal.nD Cert.Kernel5Ideal.τ).loc Cert.Kernel5Ideal.main_arg1)) := Cert.Kernel5Ideal.Hand.V_cast m c
  funext y
  rw [eq_ix2 y]
  refine (Cert.Reference5Ideal.Read.val_main_v4_apply _ _ _).trans ?_
  unfold Cert.Kernel5Ideal.Hand.prod
  refine Finset.sum_congr rfl fun q _ => ?_
  rw [hA, hB]
  congr 2 <;> (funext a; fin_cases a <;> rfl)

end Cert.Hand

end
-- ==== Proof.InGrad.lean ====
/-
  The call `d_in`, the gradient of the input projection's main columns, transposed: a point multiplies a block of 2048 rows
  of the cotangent, transposed, with the same rows of the normalised input; four points add up to the product over all 8192
  rows, which is the reference's.
-/
module

public import proofs.«01_k».proof.Defs
public import proofs.«01_k».proof.Proof.Gather
public import proofs.«01_k».proof.Proof.Gen.Kernel6Ideal.Value
public import proofs.«01_k».proof.Proof.Gen.Reference6Ideal.Read
public import Idealize.ShloMosaic.Lib.Pointwise

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .bf16) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S1024x1024) hz, View.ld_unit_zero (S := S2048x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S2048x1024) hz]

theorem pay1_at (r s : Fin 1024) : k0_pay1 x0 x1 (ix2 r s) = ∑ q : Fin 2048, x0 (ix2 q r) * x1 (ix2 q s) := by
  pointwise [k0_pay1]

theorem pay2_at (r s : Fin 1024) : k0_pay2 b x0 x1 (ix2 r s) = b (ix2 r s) + ∑ q : Fin 2048, x0 (ix2 q r) * x1 (ix2 q s) := by
  pointwise [k0_pay2]

theorem pay3_at (r s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x8192 .bf16 := V m c main_arg2
abbrev oB : Vec Ideal S8192x2048 .bf16 := V m c main_v0

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (q : Fin 2048) (r : Fin 1024) :
    (iblk m c 0 t : Vec Ideal S2048x1024 .bf16) (ix2 q r) = oA m c (ix2 (kq t q) (kr t r)) := by
  blk_ext [iblk, idx0, kr, kq]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, ks, kq]

/-- The product. -/
def prod : Vec Ideal S8192x2048 .bf16 := fun i => ∑ q : Fin 8192, oA m c (ix2 q (i 0)) * oB m c (ix2 q (i 1))

/-- What a point adds. -/
def term (t : Fin cfg0.N) (r s : Fin 1024) : EReal := ∑ q : Fin 2048, oA m c (ix2 (kq t q) (kr t r)) * oB m c (ix2 (kq t q) (ks t s))

theorem kr_eq (t u : Fin cfg0.N) (h : u.val / 4 = t.val / 4) (r : Fin 1024) : kr u r = kr t r :=
  Fin.ext (by show u.val / 8 * 1024 + r.val = t.val / 8 * 1024 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castB (x : (⟨S8192x2048, .f32⟩ : BufTy).Contents (Elt Ideal)) : (⟨S8192x2048, .bf16⟩ : BufTy).Contents (Elt Ideal) :=
  truncf (F := Ideal) .bf16 x bitsLt_bf16_f32

theorem V_castB : V m c main_v0 = castB (m ((c.tc : Thread nD τ).loc main_arg0)) := by
  show StableHlo.after hostOps0 (fun b => m (c, b)) (Proc.devRef .tc main_v0) = _
  after_results_simp <;> rfl

end Cert.Kernel6Ideal.Hand

namespace Cert.Hand

open Idealize.ShloMosaic Idealize.ShloMosaic.TcCoe Idealize.ShloMosaic.Pointwise Idealize.SL.Sem

theorem algebraic_in : Cert.algebraic_Kernel6Ideal_Reference6Ideal := by
  intro m ρ m' ρ' hpre hagree
  refine ⟨_, Cert.Kernel6Ideal.Hand.run_value m ρ, ?_⟩
  refine (θ_run Cert.Reference6Ideal.defs _ _).mono (fun _ h c => ?_) (Cert.Reference6Ideal.Value.run (F := Ideal) m' ρ')
  obtain ⟨a0, a1, a2⟩ := hagree c
  obtain ⟨e, kept⟩ := h c
  refine ⟨e.trans ?_, kept⟩
  rw [Cert.Reference6Ideal.Read.val_main_v6_eq, a0, a2]
  have hA : Cert.Kernel6Ideal.Hand.oA m c = m ((c.tc : Thread Cert.Kernel6Ideal.nD Cert.Kernel6Ideal.τ).loc Cert.Kernel6Ideal.main_arg2) := Cert.Kernel6Ideal.Gen.V_main_arg2 m c
  have hB : Cert.Kernel6Ideal.Hand.oB m c = Cert.Kernel6Ideal.Hand.castB (m ((c.tc : Thread Cert.Kernel6Ideal.nD Cert.Kernel6Ideal.τ).loc Cert.Kernel6Ideal.main_arg0)) := Cert.Kernel6Ideal.Hand.V_castB m c
  funext y
  rw [eq_ix2 y]
  refine ((Cert.Reference6Ideal.Read.val_main_v6_apply _ _ _).trans ((Cert.Reference6Ideal.Read.val_main_v5_apply _ _ _).trans ((Cert.Reference6Ideal.Read.val_main_v3_apply _ _ _).trans (Cert.Reference6Ideal.Read.val_main_v2_apply _ _ _)))).trans ?_
  unfold Cert.Kernel6Ideal.Hand.prod
  refine Finset.sum_congr rfl fun q _ => ?_
  rw [hA, hB]
  congr 2 <;> (funext a; fin_cases a <;> rfl)

end Cert.Hand

end
-- ==== Proof.UGrad.lean ====
/-
  The call `d_u`, the gradient of the normalised input: a point multiplies a block of 2048 columns of the cotangent with the
  same rows of the transposed weight; four points add up to the product over all 8192, and the last adds the part that comes
  by the other columns.
-/
module

public import proofs.«01_k».proof.Defs
public import proofs.«01_k».proof.Proof.Gather
public import proofs.«01_k».proof.Proof.Gen.Kernel7Ideal.Value
public import proofs.«01_k».proof.Proof.Gen.Reference7Ideal.Read
public import Idealize.ShloMosaic.Lib.Pointwise

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S1024x2048 .bf16) (h3 : a3.IsWhole)
  (a4 : Memref sig .tc .vmem S2048x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec Ideal S1024x2048 .bf16) (x1 : Vec Ideal S2048x1024 .bf16)  (x2 : Vec Ideal S1024x1024 .f32) (b : Vec Ideal S1024x1024 .f32)

theorem first (k0 : cond0_0 i) (k1 : ¬cond0_1 i) (k2 : ¬cond0_2 i) :
    sout0_A_0 c i a3 h3 a4 h4 a5 h5 a6 h6 a7 h7 k0 k1 k2 x0 x1 x2 = k0_pay1 x0 x1 := by
  unfold sout0_A_0
  rw [View.read_writes_eq_canon _ _ _ (scover0_A_0 c i a3 h3 a4 h4 a5 h5 a6 h6 a7 h7 k0 k1 k2 x0 x1 x2)]
  unfold kernelRun0_A
  dsimp only
  sl_unfold_words
  rw [View.canon_unit_zero hz]
  simp only [View.readAt_eq_ld, h3.read_unread, h4.read_unread, h5.read_unread, View.ld_unit_zero (S := S1024x1024) hz, View.ld_unit_zero (S := S1024x2048) hz, View.ld_unit_zero (S := S2048x1024) hz]

theorem next (k0 : ¬cond0_0 i) (k1 : cond0_1 i) (k2 : ¬cond0_2 i) :
    sout0_B_0 c i a3 h3 a4 h4 a5 h5 a6 h6 a7 h7 k0 k1 k2 x0 x1 x2 b = k0_pay2 b x0 x1 := by
  unfold sout0_B_0
  rw [View.read_writes_eq_canon _ _ _ (scover0_B_0 c i a3 h3 a4 h4 a5 h5 a6 h6 a7 h7 k0 k1 k2 x0 x1 x2 b)]
  unfold kernelRun0_B
  dsimp only
  sl_unfold_words
  rw [View.canon_unit_zero hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem last (k0 : ¬cond0_0 i) (k1 : cond0_1 i) (k2 : cond0_2 i) :
    sout0_C_0 c i a3 h3 a4 h4 a5 h5 a6 h6 a7 h7 k0 k1 k2 x0 x1 x2 b = k0_pay2 b x0 x1 := by
  unfold sout0_C_0
  rw [View.read_writes_eq_canon _ _ _ (scover0_C_0 c i a3 h3 a4 h4 a5 h5 a6 h6 a7 h7 k0 k1 k2 x0 x1 x2 b)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem out (k0 : ¬cond0_0 i) (k1 : cond0_1 i) (k2 : cond0_2 i) :
    out0_C_3 c i a3 h3 a4 h4 a5 h5 a6 h6 a7 h7 k0 k1 k2 x0 x1 x2 b = k0_pay3 (k0_pay2 b x0 x1) x2 := by
  unfold out0_C_3
  rw [View.read_writes_eq_canon _ _ _ (cover0_C_3 c i a3 h3 a4 h4 a5 h5 a6 h6 a7 h7 k0 k1 k2 x0 x1 x2 b)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem pay1_at (r s : Fin 1024) : k0_pay1 x0 x1 (ix2 r s) = ∑ q : Fin 2048, x0 (ix2 r q) * x1 (ix2 q s) := by
  pointwise [k0_pay1]

theorem pay2_at (r s : Fin 1024) : k0_pay2 b x0 x1 (ix2 r s) = b (ix2 r s) + ∑ q : Fin 2048, x0 (ix2 r q) * x1 (ix2 q s) := by
  pointwise [k0_pay2]

theorem pay3_at (r s : Fin 1024) : k0_pay3 b x2 (ix2 r s) = b (ix2 r s) + x2 (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val / 8, t.val % 4] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel
theorem idx3 : ∀ t : Fin grid0.N, win0_3.index t = ![t.val / 8, t.val / 4 % 2] := by decide +kernel

/-- The operands of the call as it is launched. -/
abbrev oA : Vec Ideal S8192x8192 .bf16 := V m c main_arg2
abbrev oB : Vec Ideal S8192x2048 .bf16 := V m c main_v1
abbrev oX : Vec Ideal S8192x2048 .f32 := V m c main_arg3

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (r : Fin 1024) (q : Fin 2048) :
    (iblk m c 0 t : Vec Ideal S1024x2048 .bf16) (ix2 r q) = oA m c (ix2 (kr t r) (kq t q)) := by
  blk_ext [iblk, idx0, kr, kq]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, ks, kq]

theorem blk2_at (t : Fin cfg0.N) (r s : Fin 1024) :
    (iblk m c 2 t : Vec Ideal S1024x1024 .f32) (ix2 r s) = oX m c (ix2 (kr t r) (ks t s)) := by
  blk_ext [iblk, idx2, kr, ks]

/-- The product alone. -/
def sum : Vec Ideal S8192x2048 .f32 := fun i => ∑ q : Fin 8192, oA m c (ix2 (i 0) q) * oB m c (ix2 q (i 1))

/-- The product and the part added to it. -/
def prod : Vec Ideal S8192x2048 .f32 := fun i => sum m c i + oX m c (ix2 (i 0) (i 1))

/-- What a point adds. -/
def term (t : Fin cfg0.N) (r s : Fin 1024) : EReal := ∑ q : Fin 2048, oA m c (ix2 (kr t r) (kq t q)) * oB m c (ix2 (kq t q) (ks t s))

theorem kr_eq (t u : Fin cfg0.N) (h : u.val / 4 = t.val / 4) (r : Fin 1024) : kr u r = kr t r :=
  Fin.ext (by show u.val / 8 * 1024 + r.val = t.val / 8 * 1024 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = sum m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 (kr t r) q) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  show _ = sum m c (ix2 (kr t r) (ks t s)) + oX m c (ix2 (kr t r) (ks t s))
  rw [← acc_last m c t ht, ← blk2_at]
  unfold acc
  rw [outsAt0_C m c t (by omega) (by omega) ht]
  dsimp only
  rw [out, pay3_at, last]

theorem arr : (dats m 0 c).arrAt 3 cfg0.N = prod m c := by
  refine Dat.arrAt_eq_of_covers _ 3 _ (by decide +kernel) fun t hf y => ?_
  blk_simp
  show (outsAt0 m c t.val t.isLt).1 y = _
  refine (congrArg _ (eq_ix2 y)).trans ((out_last m c t ((flush0_3 t).mp hf) (y 0) (y 1)).trans (congrArg _ ?_))
  blk_ext [idx3, kr, ks]

theorem run_value : θ_run defs (onTc (τ := τ) (main (F := Ideal))) ⟨m, fun _ => 0, ρ⟩ (fun r => ∀ c : Dev nD,
      r.2.mem ((c.tc : Thread nD τ).loc main_v2) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr m c), (h c).2⟩) (Value.run_blocks m ρ)

/-- An operand as the host transposes and casts it. -/
def transB (x : (⟨S2048x8192, .f32⟩ : BufTy).Contents (Elt Ideal)) : (⟨S8192x2048, .bf16⟩ : BufTy).Contents (Elt Ideal) :=
  truncf (F := Ideal) .bf16 (transpose S8192x2048 [1, 0] x transposes_S2048x8192_S8192x2048_1_0) bitsLt_bf16_f32

theorem transB_at (x : (⟨S2048x8192, .f32⟩ : BufTy).Contents (Elt Ideal)) (a : Fin 8192) (b : Fin 2048) : transB x (ix2 a b) = x (ix2 b a) :=
  transpose_apply [1, 0] x transposes_S2048x8192_S8192x2048_1_0 (ix2 a b) (ix2 b a) (fun d => match d with
    | ⟨0, _⟩ => rfl
    | ⟨1, _⟩ => rfl)

theorem V_transB : V m c main_v1 = transB (m ((c.tc : Thread nD τ).loc main_arg1)) := by
  show StableHlo.after hostOps0 (fun b => m (c, b)) (Proc.devRef .tc main_v1) = _
  after_results_simp <;> rfl

end Cert.Kernel7Ideal.Hand

namespace Cert.Hand

open Idealize.ShloMosaic Idealize.ShloMosaic.TcCoe Idealize.ShloMosaic.Pointwise Idealize.SL.Sem

theorem algebraic_u : Cert.algebraic_Kernel7Ideal_Reference7Ideal := by
  intro m ρ m' ρ' hpre hagree
  refine ⟨_, Cert.Kernel7Ideal.Hand.run_value m ρ, ?_⟩
  refine (θ_run Cert.Reference7Ideal.defs _ _).mono (fun _ h c => ?_) (Cert.Reference7Ideal.Value.run (F := Ideal) m' ρ')
  obtain ⟨a0, a1, a2, a3⟩ := hagree c
  obtain ⟨e, kept⟩ := h c
  refine ⟨e.trans ?_, kept⟩
  rw [Cert.Reference7Ideal.Read.val_main_v5_eq, a1, a2, a3]
  have hA : Cert.Kernel7Ideal.Hand.oA m c = m ((c.tc : Thread Cert.Kernel7Ideal.nD Cert.Kernel7Ideal.τ).loc Cert.Kernel7Ideal.main_arg2) := Cert.Kernel7Ideal.Gen.V_main_arg2 m c
  have hB : Cert.Kernel7Ideal.Hand.oB m c = Cert.Kernel7Ideal.Hand.transB (m ((c.tc : Thread Cert.Kernel7Ideal.nD Cert.Kernel7Ideal.τ).loc Cert.Kernel7Ideal.main_arg1)) := Cert.Kernel7Ideal.Hand.V_transB m c
  have hX : Cert.Kernel7Ideal.Hand.oX m c = m ((c.tc : Thread Cert.Kernel7Ideal.nD Cert.Kernel7Ideal.τ).loc Cert.Kernel7Ideal.main_arg3) := Cert.Kernel7Ideal.Gen.V_main_arg3 m c
  funext y
  rw [eq_ix2 y]
  refine (Cert.Reference7Ideal.Read.val_main_v5_apply _ _ _ _).trans ?_
  unfold Cert.Kernel7Ideal.Hand.prod Cert.Kernel7Ideal.Hand.sum
  refine congrArg₂ (fun a b : EReal => a + b) ((Cert.Reference7Ideal.Read.val_main_v4_apply _ _ _).trans (Finset.sum_congr rfl fun q _ => ?_)) ?_
  · rw [hA, hB]
    refine congrArg₂ (fun a b : EReal => a * b) ?_ (Eq.trans ?_ (Cert.Kernel7Ideal.Hand.transB_at _ _ _).symm) <;>
      (congr 1 <;> (funext a; fin_cases a <;> rfl))
  · rw [hX]
    rfl

end Cert.Hand

end
-- ==== Proof.InFwd.lean ====
/-
  The call `proj`, the input projection's main columns: a point multiplies a row block of the normalised input with a row
  block of the transposed weight, over all 2048 columns at once.
-/
module

public import proofs.«01_k».proof.Defs
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x2048 .bf16) (x1 : Vec Ideal S1024x2048 .bf16)

theorem out_eq : out0_2 x0 x1 = k0_pay1 x0 x1 := by
  unfold out0_2
  rw [View.canon_unit_zero hz]
  simp only [View.ld_unit_zero (S := S1024x1024) hz, View.ld_unit_zero (S := S1024x2048) hz]

theorem pay1_at (r s : Fin 1024) : k0_pay1 x0 x1 (ix2 r s) = ∑ q : Fin 2048, x0 (ix2 r q) * x1 (ix2 s q) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 8, 0] := by decide +kernel
theorem idx1 : ∀ t : Fin grid0.N, win0_1.index t = ![t.val % 8, 0] := by decide +kernel
theorem idx2 : ∀ t : Fin grid0.N, win0_2.index t = ![t.val / 8, t.val % 8] := by decide +kernel

/-- The operands of the call as it is launched. -/
abbrev oA : Vec Ideal S8192x2048 .bf16 := V m c main_v0
abbrev oB : Vec Ideal S8192x2048 .bf16 := V m c main_v2

/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 8192 := ⟨t.val % 8 * 1024 + s.val, by omega⟩

theorem blk0_at (t : Fin cfg0.N) (r : Fin 1024) (q : Fin 2048) :
    (iblk m c 0 t : Vec Ideal S1024x2048 .bf16) (ix2 r q) = oA m c (ix2 (kr t r) q) := by
  blk_ext [iblk, idx0, kr]

theorem blk1_at (t : Fin cfg0.N) (s : Fin 1024) (q : Fin 2048) :
    (iblk m c 1 t : Vec Ideal S1024x2048 .bf16) (ix2 s q) = oB m c (ix2 (ks t s) q) := by
  blk_ext [iblk, idx1, ks]

/-- The product. -/
def prod : Vec Ideal S8192x8192 .f32 := fun i => ∑ q : Fin 2048, oA m c (ix2 (i 0) q) * oB m c (ix2 (i 1) q)

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v3) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr m c), (h c).2⟩) (Value.run_blocks m ρ)

/-- An operand as the host casts it: a cast between formats changes no real. -/
def castA (x : (⟨S8192x2048, .f32⟩ : BufTy).Contents (Elt Ideal)) : (⟨S8192x2048, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

/-- An operand as the host transposes and casts it. -/
def transB (x : (⟨S2048x8192, .f32⟩ : BufTy).Contents (Elt Ideal)) : (⟨S8192x2048, .bf16⟩ : BufTy).Contents (Elt Ideal) :=
  truncf (F := Ideal) .bf16 (transpose S8192x2048 [1, 0] x transposes_S2048x8192_S8192x2048_1_0) bitsLt_bf16_f32

theorem transB_at (x : (⟨S2048x8192, .f32⟩ : BufTy).Contents (Elt Ideal)) (a : Fin 8192) (b : Fin 2048) : transB x (ix2 a b) = x (ix2 b a) :=
  transpose_apply [1, 0] x transposes_S2048x8192_S8192x2048_1_0 (ix2 a b) (ix2 b a) (fun d => match d with
    | ⟨0, _⟩ => rfl
    | ⟨1, _⟩ => rfl)

theorem V_transB : V m c main_v2 = transB (m ((c.tc : Thread nD τ).loc main_arg1)) := by
  show StableHlo.after hostOps0 (fun b => m (c, b)) (Proc.devRef .tc main_v2) = _
  after_results_simp <;> rfl

end Cert.Kernel8Ideal.Hand

namespace Cert.Hand

open Idealize.ShloMosaic Idealize.ShloMosaic.TcCoe Idealize.ShloMosaic.Pointwise Idealize.SL.Sem

theorem algebraic_proj : Cert.algebraic_Kernel8Ideal_Reference8Ideal := by
  intro m ρ m' ρ' hpre hagree
  refine ⟨_, Cert.Kernel8Ideal.Hand.run_value m ρ, ?_⟩
  refine (θ_run Cert.Reference8Ideal.defs _ _).mono (fun _ h c => ?_) (Cert.Reference8Ideal.Value.run (F := Ideal) m' ρ')
  obtain ⟨a0, a1⟩ := hagree c
  obtain ⟨e, kept⟩ := h c
  refine ⟨e.trans ?_, kept⟩
  rw [Cert.Reference8Ideal.Read.val_main_v0_eq, a0, a1]
  have hA : Cert.Kernel8Ideal.Hand.oA m c = Cert.Kernel8Ideal.Hand.castA (m ((c.tc : Thread Cert.Kernel8Ideal.nD Cert.Kernel8Ideal.τ).loc Cert.Kernel8Ideal.main_arg0)) := Cert.Kernel8Ideal.Hand.V_castA m c
  have hB : Cert.Kernel8Ideal.Hand.oB m c = Cert.Kernel8Ideal.Hand.transB (m ((c.tc : Thread Cert.Kernel8Ideal.nD Cert.Kernel8Ideal.τ).loc Cert.Kernel8Ideal.main_arg1)) := Cert.Kernel8Ideal.Hand.V_transB m c
  funext y
  rw [eq_ix2 y]
  refine (Cert.Reference8Ideal.Read.val_main_v0_apply _ _ _).trans ?_
  unfold Cert.Kernel8Ideal.Hand.prod
  refine Finset.sum_congr rfl fun q _ => ?_
  rw [hA, hB]
  refine congrArg₂ (fun a b : EReal => a * b) ?_ (Eq.trans ?_ (Cert.Kernel8Ideal.Hand.transB_at _ _ _).symm) <;>
    (congr 1 <;> (funext a; fin_cases a <;> rfl))

end Cert.Hand

end
-- ==== Proof.Ff1Fwd.lean ====
/-
  The call `ff1`, the first product of the feed-forward layer and its squared ReLU: a point multiplies a row block of the
  normalised input with a column block of the weight, over all 2048 at once, and writes both the product and the square of its
  positive part.
-/
module

public import proofs.«01_k».proof.Defs
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

/-- The square of the positive part. -/
def sq (h : EReal) : EReal := FloatOps.mulf (F := Ideal) (φ := .f32) (FloatOps.maximumf (φ := .f32) h (FloatOps.ofBits .f32 0x00000000#32)) (FloatOps.maximumf (φ := .f32) h (FloatOps.ofBits .f32 0x00000000#32))

section Body

variable (x0 : Vec Ideal S1024x2048 .bf16) (x1 : Vec Ideal S2048x1024 .bf16)

theorem out_eq : out0_2 x0 x1 = k0_pay1 x0 x1 := by
  unfold out0_2
  rw [View.canon_unit_zero hz]
  simp only [View.ld_unit_zero (S := S1024x1024) hz, View.ld_unit_zero (S := S1024x2048) hz, View.ld_unit_zero (S := S2048x1024) hz]

theorem pay1_at (r s : Fin 1024) : k0_pay1 x0 x1 (ix2 r s) = ∑ q : Fin 2048, x0 (ix2 r q) * x1 (ix2 q s) := by
  pointwise [k0_pay1]

theorem out2_eq : out0_3 x0 x1 = k0_pay2 x0 x1 := by
  unfold out0_3
  rw [View.canon_unit_zero hz]
  simp only [View.ld_unit_zero (S := S1024x1024) hz, View.ld_unit_zero (S := S1024x2048) hz, View.ld_unit_zero (S := S2048x1024) hz]

theorem pay2_at (r s : Fin 1024) : k0_pay2 x0 x1 (ix2 r s) = sq (∑ q : Fin 2048, x0 (ix2 r q) * x1 (ix2 q s)) := by
  pointwise [k0_pay2, k0_pay1, sq]

end Body

variable (m : (ℓ : Loc nD τ sig) → Buf (Elt Ideal) ℓ) (ρ : Dev nD → PrngReg) (c : Dev nD)

theorem idx0 : ∀ t : Fin grid0.N, win0_0.index t = ![t.val / 8, 0] := by decide +kernel
theorem idx1 : ∀ t : Fin grid0.N, win0_1.index t = ![0, t.val % 8] := by decide +kernel
theorem idx2 : ∀ t : Fin grid0.N, win0_2.index t = ![t.val / 8, t.val % 8] := by decide +kernel
theorem idx3 : ∀ t : Fin grid0.N, win0_3.index t = ![t.val / 8, t.val % 8] := by decide +kernel

/-- The operands of the call as it is launched. -/
abbrev oA : Vec Ideal S8192x2048 .bf16 := V m c main_v0
abbrev oB : Vec Ideal S2048x8192 .bf16 := V m c main_v1

/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 8192 := ⟨t.val % 8 * 1024 + s.val, by omega⟩

theorem blk0_at (t : Fin cfg0.N) (r : Fin 1024) (q : Fin 2048) :
    (iblk m c 0 t : Vec Ideal S1024x2048 .bf16) (ix2 r q) = oA m c (ix2 (kr t r) q) := by
  blk_ext [iblk, idx0, kr]

theorem blk1_at (t : Fin cfg0.N) (q : Fin 2048) (s : Fin 1024) :
    (iblk m c 1 t : Vec Ideal S2048x1024 .bf16) (ix2 q s) = oB m c (ix2 q (ks t s)) := by
  blk_ext [iblk, idx1, ks]

/-- The product. -/
def prod : Vec Ideal S8192x8192 .f32 := fun i => ∑ q : Fin 2048, oA m c (ix2 (i 0) q) * oB m c (ix2 q (i 1))

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

/-- The square of its positive part. -/
def prod2 : Vec Ideal S8192x8192 .bf16 := fun i => sq (prod m c i)

theorem out2_at (t : Fin cfg0.N) (r s : Fin 1024) :
    out0_3 (iblk m c 0 t) (iblk m c 1 t) (ix2 r s) = prod2 m c (ix2 (kr t r) (ks t s)) := by
  rw [out2_eq, pay2_at]
  simp only [blk0_at, blk1_at]
  rfl

theorem arr2 : (dats m 0 c).arrAt 3 cfg0.N = prod2 m c := by
  refine Dat.arrAt_eq_of_covers _ 3 _ (by decide +kernel) fun t hf y => ?_
  rw [after0_3]
  blk_simp
  refine (congrArg _ (eq_ix2 y)).trans ((out2_at m c t (y 0) (y 1)).trans (congrArg _ ?_))
  blk_ext [idx3, kr, ks]

theorem run_value : θ_run defs (onTc (τ := τ) (main (F := Ideal))) ⟨m, fun _ => 0, ρ⟩ (fun r => ∀ c : Dev nD,
      r.2.mem ((c.tc : Thread nD τ).loc main_v2_0) = prod m c
      ∧ r.2.mem ((c.tc : Thread nD τ).loc main_v2_1) = prod2 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr m c), (h c).2.1.trans (arr2 m c), (h c).2.2⟩) (Value.run_blocks m ρ)

/-- An operand as the host casts it: a cast between formats changes no real. -/
def castA (x : (⟨S8192x2048, .f32⟩ : BufTy).Contents (Elt Ideal)) : (⟨S8192x2048, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

/-- An operand as the host casts it: a cast between formats changes no real. -/
def castB (x : (⟨S2048x8192, .f32⟩ : BufTy).Contents (Elt Ideal)) : (⟨S2048x8192, .bf16⟩ : BufTy).Contents (Elt Ideal) :=
  truncf (F := Ideal) .bf16 x bitsLt_bf16_f32

theorem V_castB : V m c main_v1 = castB (m ((c.tc : Thread nD τ).loc main_arg1)) := by
  show StableHlo.after hostOps0 (fun b => m (c, b)) (Proc.devRef .tc main_v1) = _
  after_results_simp <;> rfl

end Cert.Kernel9Ideal.Hand

namespace Cert.Hand

open Idealize.ShloMosaic Idealize.ShloMosaic.TcCoe Idealize.ShloMosaic.Pointwise Idealize.SL.Sem

theorem algebraic_ff1_fwd : Cert.algebraic_Kernel9Ideal_Reference9Ideal := by
  intro m ρ m' ρ' hpre hagree
  refine ⟨_, _, Cert.Kernel9Ideal.Hand.run_value m ρ, ?_⟩
  refine (θ_run Cert.Reference9Ideal.defs _ _).mono (fun _ h c => ?_) (Cert.Reference9Ideal.Value.run (F := Ideal) m' ρ')
  obtain ⟨a0, a1⟩ := hagree c
  obtain ⟨e1, e2, kept⟩ := h c
  have hA : Cert.Kernel9Ideal.Hand.oA m c = Cert.Kernel9Ideal.Hand.castA (m ((c.tc : Thread Cert.Kernel9Ideal.nD Cert.Kernel9Ideal.τ).loc Cert.Kernel9Ideal.main_arg0)) := Cert.Kernel9Ideal.Hand.V_castA m c
  have hB : Cert.Kernel9Ideal.Hand.oB m c = Cert.Kernel9Ideal.Hand.castB (m ((c.tc : Thread Cert.Kernel9Ideal.nD Cert.Kernel9Ideal.τ).loc Cert.Kernel9Ideal.main_arg1)) := Cert.Kernel9Ideal.Hand.V_castB m c
  have key : Cert.Reference9Ideal.Read.val_main_v0 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) = Cert.Kernel9Ideal.Hand.prod m c := by
    funext y
    rw [eq_ix2 y]
    refine (Cert.Reference9Ideal.Read.val_main_v0_apply _ _ _).trans ?_
    unfold Cert.Kernel9Ideal.Hand.prod
    refine Finset.sum_congr rfl fun q _ => ?_
    rw [hA, hB]
    congr 2 <;> (funext a; fin_cases a <;> rfl)
  refine ⟨e1.trans ?_, e2.trans ?_, kept⟩
  · rw [Cert.Reference9Ideal.Read.val_main_v0_eq, a0, a1, key]
  · rw [Cert.Reference9Ideal.Read.val_main_v3_eq, a0, a1]
    funext y
    refine ((Cert.Reference9Ideal.Read.val_main_v3_apply _ _ _).trans ((Cert.Reference9Ideal.Read.val_main_v2_apply _ _ _))).trans ?_
    rw [Cert.Reference9Ideal.Read.val_main_v1_apply, key, Cert.Reference9Ideal.Read.val_main_call0_v0_apply, Cert.Reference9Ideal.Read.val_main_call0_cst_apply]
    rfl

end Cert.Hand

end
-- ==== Proof.Ff2Fwd.lean ====
/-
  The call `ff2`, the second product of the feed-forward layer and its residual: a point multiplies a block of 2048 columns
  of the activation with the same rows of the weight; four points add up to the product over all 8192, and the last adds the
  residual.
-/
module

public import proofs.«01_k».proof.Defs
public import proofs.«01_k».proof.Proof.Gather
public import proofs.«01_k».proof.Proof.Gen.Kernel10Ideal.Value
public import proofs.«01_k».proof.Proof.Gen.Reference10Ideal.Read
public import Idealize.ShloMosaic.Lib.Pointwise

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S1024x2048 .bf16) (h3 : a3.IsWhole)
  (a4 : Memref sig .tc .vmem S2048x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec Ideal S1024x2048 .bf16) (x1 : Vec Ideal S2048x1024 .bf16)  (x2 : Vec Ideal S1024x1024 .f32) (b : Vec Ideal S1024x1024 .f32)

theorem first (k0 : cond0_0 i) (k1 : ¬cond0_1 i) (k2 : ¬cond0_2 i) :
    sout0_A_0 c i a3 h3 a4 h4 a5 h5 a6 h6 a7 h7 k0 k1 k2 x0 x1 x2 = k0_pay1 x0 x1 := by
  unfold sout0_A_0
  rw [View.read_writes_eq_canon _ _ _ (scover0_A_0 c i a3 h3 a4 h4 a5 h5 a6 h6 a7 h7 k0 k1 k2 x0 x1 x2)]
  unfold kernelRun0_A
  dsimp only
  sl_unfold_words
  rw [View.canon_unit_zero hz]
  simp only [View.readAt_eq_ld, h3.read_unread, h4.read_unread, h5.read_unread, View.ld_unit_zero (S := S1024x1024) hz, View.ld_unit_zero (S := S1024x2048) hz, View.ld_unit_zero (S := S2048x1024) hz]

theorem next (k0 : ¬cond0_0 i) (k1 : cond0_1 i) (k2 : ¬cond0_2 i) :
    sout0_B_0 c i a3 h3 a4 h4 a5 h5 a6 h6 a7 h7 k0 k1 k2 x0 x1 x2 b = k0_pay2 b x0 x1 := by
  unfold sout0_B_0
  rw [View.read_writes_eq_canon _ _ _ (scover0_B_0 c i a3 h3 a4 h4 a5 h5 a6 h6 a7 h7 k0 k1 k2 x0 x1 x2 b)]
  unfold kernelRun0_B
  dsimp only
  sl_unfold_words
  rw [View.canon_unit_zero hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem last (k0 : ¬cond0_0 i) (k1 : cond0_1 i) (k2 : cond0_2 i) :
    sout0_C_0 c i a3 h3 a4 h4 a5 h5 a6 h6 a7 h7 k0 k1 k2 x0 x1 x2 b = k0_pay2 b x0 x1 := by
  unfold sout0_C_0
  rw [View.read_writes_eq_canon _ _ _ (scover0_C_0 c i a3 h3 a4 h4 a5 h5 a6 h6 a7 h7 k0 k1 k2 x0 x1 x2 b)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem out (k0 : ¬cond0_0 i) (k1 : cond0_1 i) (k2 : cond0_2 i) :
    out0_C_3 c i a3 h3 a4 h4 a5 h5 a6 h6 a7 h7 k0 k1 k2 x0 x1 x2 b = k0_pay3 (k0_pay2 b x0 x1) x2 := by
  unfold out0_C_3
  rw [View.read_writes_eq_canon _ _ _ (cover0_C_3 c i a3 h3 a4 h4 a5 h5 a6 h6 a7 h7 k0 k1 k2 x0 x1 x2 b)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz, View.ld_unit_zero (S := S1024x2048) hz, View.ld_unit_zero (S := S2048x1024) hz]

theorem pay1_at (r s : Fin 1024) : k0_pay1 x0 x1 (ix2 r s) = ∑ q : Fin 2048, x0 (ix2 r q) * x1 (ix2 q s) := by
  pointwise [k0_pay1]

theorem pay2_at (r s : Fin 1024) : k0_pay2 b x0 x1 (ix2 r s) = b (ix2 r s) + ∑ q : Fin 2048, x0 (ix2 r q) * x1 (ix2 q s) := by
  pointwise [k0_pay2]

theorem pay3_at (r s : Fin 1024) : k0_pay3 b x2 (ix2 r s) = b (ix2 r s) + x2 (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val / 8, t.val % 4] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel
theorem idx3 : ∀ t : Fin grid0.N, win0_3.index t = ![t.val / 8, t.val / 4 % 2] := by decide +kernel

/-- The operands of the call as it is launched. -/
abbrev oA : Vec Ideal S8192x8192 .bf16 := V m c main_v3
abbrev oB : Vec Ideal S8192x2048 .bf16 := V m c main_v4
abbrev oX : Vec Ideal S8192x2048 .f32 := V m c main_arg2

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 1024) : Fin 8192 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (r : Fin 1024) (q : Fin 2048) :
    (iblk m c 0 t : Vec Ideal S1024x2048 .bf16) (ix2 r q) = oA m c (ix2 (kr t r) (kq t q)) := by
  blk_ext [iblk, idx0, kr, kq]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, ks, kq]

theorem blk2_at (t : Fin cfg0.N) (r s : Fin 1024) :
    (iblk m c 2 t : Vec Ideal S1024x1024 .f32) (ix2 r s) = oX m c (ix2 (kr t r) (ks t s)) := by
  blk_ext [iblk, idx2, kr, ks]

/-- The product alone. -/
def sum : Vec Ideal S8192x2048 .f32 := fun i => ∑ q : Fin 8192, oA m c (ix2 (i 0) q) * oB m c (ix2 q (i 1))

/-- The product and the part added to it. -/
def prod : Vec Ideal S8192x2048 .f32 := fun i => sum m c i + oX m c (ix2 (i 0) (i 1))

/-- What a point adds. -/
def term (t : Fin cfg0.N) (r s : Fin 1024) : EReal := ∑ q : Fin 2048, oA m c (ix2 (kr t r) (kq t q)) * oB m c (ix2 (kq t q) (ks t s))

theorem kr_eq (t u : Fin cfg0.N) (h : u.val / 4 = t.val / 4) (r : Fin 1024) : kr u r = kr t r :=
  Fin.ext (by show u.val / 8 * 1024 + r.val = t.val / 8 * 1024 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = sum m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 (kr t r) q) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  show _ = sum m c (ix2 (kr t r) (ks t s)) + oX m c (ix2 (kr t r) (ks t s))
  rw [← acc_last m c t ht, ← blk2_at]
  unfold acc
  rw [outsAt0_C m c t (by omega) (by omega) ht]
  dsimp only
  rw [out, pay3_at, last]

theorem arr : (dats m 0 c).arrAt 3 cfg0.N = prod m c := by
  refine Dat.arrAt_eq_of_covers _ 3 _ (by decide +kernel) fun t hf y => ?_
  blk_simp
  show (outsAt0 m c t.val t.isLt).1 y = _
  refine (congrArg _ (eq_ix2 y)).trans ((out_last m c t ((flush0_3 t).mp hf) (y 0) (y 1)).trans (congrArg _ ?_))
  blk_ext [idx3, kr, ks]

theorem run_value : θ_run defs (onTc (τ := τ) (main (F := Ideal))) ⟨m, fun _ => 0, ρ⟩ (fun r => ∀ c : Dev nD,
      r.2.mem ((c.tc : Thread nD τ).loc main_v5) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- The activation, the square of the hidden layer's positive part. -/
def actA (x : (⟨S8192x8192, .f32⟩ : BufTy).Contents (Elt Ideal)) : (⟨S8192x8192, .bf16⟩ : BufTy).Contents (Elt Ideal) :=
  truncf .bf16 (mulf (maximumf x (broadcastInDim S8192x8192 ![] bcast_S_S8192x8192 (constant (F := Ideal) S_ .f32 0x00000000#32)))
    (maximumf x (broadcastInDim S8192x8192 ![] bcast_S_S8192x8192 (constant (F := Ideal) S_ .f32 0x00000000#32)))) bitsLt_bf16_f32

theorem V_actA : V m c main_v3 = actA (m ((c.tc : Thread nD τ).loc main_arg0)) := by
  show StableHlo.after hostOps0 (fun b => m (c, b)) (Proc.devRef .tc main_v3) = _
  after_results_simp <;> rfl

/-- An operand as the host casts it: a cast between formats changes no real. -/
def castB (x : (⟨S8192x2048, .f32⟩ : BufTy).Contents (Elt Ideal)) : (⟨S8192x2048, .bf16⟩ : BufTy).Contents (Elt Ideal) :=
  truncf (F := Ideal) .bf16 x bitsLt_bf16_f32

theorem V_castB : V m c main_v4 = castB (m ((c.tc : Thread nD τ).loc main_arg1)) := by
  show StableHlo.after hostOps0 (fun b => m (c, b)) (Proc.devRef .tc main_v4) = _
  after_results_simp <;> rfl

end Cert.Kernel10Ideal.Hand

namespace Cert.Hand

open Idealize.ShloMosaic Idealize.ShloMosaic.TcCoe Idealize.ShloMosaic.Pointwise Idealize.SL.Sem

theorem algebraic_ff2_fwd : Cert.algebraic_Kernel10Ideal_Reference10Ideal := by
  intro m ρ m' ρ' hpre hagree
  refine ⟨_, Cert.Kernel10Ideal.Hand.run_value m ρ, ?_⟩
  refine (θ_run Cert.Reference10Ideal.defs _ _).mono (fun _ h c => ?_) (Cert.Reference10Ideal.Value.run (F := Ideal) m' ρ')
  obtain ⟨a0, a1, a2⟩ := hagree c
  obtain ⟨e, kept⟩ := h c
  refine ⟨e.trans ?_, kept⟩
  rw [Cert.Reference10Ideal.Read.val_main_v3_eq, a0, a1, a2]
  have hA : Cert.Kernel10Ideal.Hand.oA m c = Cert.Kernel10Ideal.Hand.actA (m ((c.tc : Thread Cert.Kernel10Ideal.nD Cert.Kernel10Ideal.τ).loc Cert.Kernel10Ideal.main_arg0)) := Cert.Kernel10Ideal.Hand.V_actA m c
  have hB : Cert.Kernel10Ideal.Hand.oB m c = Cert.Kernel10Ideal.Hand.castB (m ((c.tc : Thread Cert.Kernel10Ideal.nD Cert.Kernel10Ideal.τ).loc Cert.Kernel10Ideal.main_arg1)) := Cert.Kernel10Ideal.Hand.V_castB m c
  have hX : Cert.Kernel10Ideal.Hand.oX m c = m ((c.tc : Thread Cert.Kernel10Ideal.nD Cert.Kernel10Ideal.τ).loc Cert.Kernel10Ideal.main_arg2) := Cert.Kernel10Ideal.Gen.V_main_arg2 m c
  funext y
  rw [eq_ix2 y]
  refine (Cert.Reference10Ideal.Read.val_main_v3_apply _ _ _ _).trans ?_
  refine (add_comm (_ : EReal) _).trans ?_
  unfold Cert.Kernel10Ideal.Hand.prod Cert.Kernel10Ideal.Hand.sum
  refine congrArg₂ (fun a b : EReal => a + b) ((Cert.Reference10Ideal.Read.val_main_v2_apply _ _ _).trans (Finset.sum_congr rfl fun q _ => ?_)) ?_
  · rw [hA, hB]
    congr 2 <;> (funext a; fin_cases a <;> rfl)
  · rw [hX]
    rfl

end Cert.Hand

end
-- ==== Proof.OutGrad.lean ====
/-
  The call `d_out`, the gradient of the output weight: a point multiplies a block of 2048 rows of the merged branches,
  transposed, with the same rows of the cotangent; four points add up to the product over all 8192 rows. The reference is the
  same product in the other order.
-/
module

public import proofs.«01_k».proof.Defs
public import proofs.«01_k».proof.Proof.Gather
public import proofs.«01_k».proof.Proof.Gen.Kernel11Ideal.Value
public import proofs.«01_k».proof.Proof.Gen.Reference11Ideal.Read
public import Idealize.ShloMosaic.Lib.Pointwise

@[expose] public section

set_option maxRecDepth 16384

noncomputable section

namespace Cert.Kernel11Ideal.Hand

open Cert.Kernel11Ideal Cert.Kernel11Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S2048x1024 .bf16) (h3 : a3.IsWhole)
  (a4 : Memref sig .tc .vmem S2048x1024 .f32) (h4 : a4.IsWhole)
  (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .f32) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S1024x1024) hz, View.ld_unit_zero (S := S2048x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S2048x1024) hz]

theorem pay1_at (r s : Fin 1024) : k0_pay1 x0 x1 (ix2 r s) = ∑ q : Fin 2048, x0 (ix2 q r) * x1 (ix2 q s) := by
  pointwise [k0_pay1]

theorem pay2_at (r s : Fin 1024) : k0_pay2 b x0 x1 (ix2 r s) = b (ix2 r s) + ∑ q : Fin 2048, x0 (ix2 q r) * x1 (ix2 q s) := by
  pointwise [k0_pay2]

theorem pay3_at (r s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x2048 .bf16 := V m c main_v0
abbrev oB : Vec Ideal S8192x2048 .f32 := V m c main_arg2

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 1024) : Fin 2048 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (q : Fin 2048) (r : Fin 1024) :
    (iblk m c 0 t : Vec Ideal S2048x1024 .bf16) (ix2 q r) = oA m c (ix2 (kq t q) (kr t r)) := by
  blk_ext [iblk, idx0, kr, kq]

theorem blk1_at (t : Fin cfg0.N) (q : Fin 2048) (s : Fin 1024) :
    (iblk m c 1 t : Vec Ideal S2048x1024 .f32) (ix2 q s) = oB m c (ix2 (kq t q) (ks t s)) := by
  blk_ext [iblk, idx1, ks, kq]

/-- The product. -/
def prod : Vec Ideal S2048x2048 .bf16 := fun i => ∑ q : Fin 8192, oA m c (ix2 q (i 0)) * oB m c (ix2 q (i 1))

/-- What a point adds. -/
def term (t : Fin cfg0.N) (r s : Fin 1024) : EReal := ∑ q : Fin 2048, oA m c (ix2 (kq t q) (kr t r)) * oB m c (ix2 (kq t q) (ks t s))

theorem kr_eq (t u : Fin cfg0.N) (h : u.val / 4 = t.val / 4) (r : Fin 1024) : kr u r = kr t r :=
  Fin.ext (by show u.val / 8 * 1024 + r.val = t.val / 8 * 1024 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castA (x : (⟨S8192x2048, .f32⟩ : BufTy).Contents (Elt Ideal)) : (⟨S8192x2048, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

end Cert.Kernel11Ideal.Hand

namespace Cert.Hand

open Idealize.ShloMosaic Idealize.ShloMosaic.TcCoe Idealize.ShloMosaic.Pointwise Idealize.SL.Sem

theorem algebraic_out : Cert.algebraic_Kernel11Ideal_Reference11Ideal := by
  intro m ρ m' ρ' hpre hagree
  refine ⟨_, Cert.Kernel11Ideal.Hand.run_value m ρ, ?_⟩
  refine (θ_run Cert.Reference11Ideal.defs _ _).mono (fun _ h c => ?_) (Cert.Reference11Ideal.Value.run (F := Ideal) m' ρ')
  obtain ⟨a0, a1, a2⟩ := hagree c
  obtain ⟨e, kept⟩ := h c
  refine ⟨e.trans ?_, kept⟩
  rw [Cert.Reference11Ideal.Read.val_main_v4_eq, a0, a2]
  have hA : Cert.Kernel11Ideal.Hand.oA m c = Cert.Kernel11Ideal.Hand.castA (m ((c.tc : Thread Cert.Kernel11Ideal.nD Cert.Kernel11Ideal.τ).loc Cert.Kernel11Ideal.main_arg0)) := Cert.Kernel11Ideal.Hand.V_castA m c
  have hB : Cert.Kernel11Ideal.Hand.oB m c = m ((c.tc : Thread Cert.Kernel11Ideal.nD Cert.Kernel11Ideal.τ).loc Cert.Kernel11Ideal.main_arg2) := Cert.Kernel11Ideal.Gen.V_main_arg2 m c
  funext y
  rw [eq_ix2 y]
  refine ((Cert.Reference11Ideal.Read.val_main_v4_apply _ _ _).trans ((Cert.Reference11Ideal.Read.val_main_v2_apply _ _ _).trans (Cert.Reference11Ideal.Read.val_main_v1_apply _ _ _))).trans ?_
  unfold Cert.Kernel11Ideal.Hand.prod
  refine Finset.sum_congr rfl fun q _ => ?_
  rw [hA, hB, mul_comm]
  congr 2 <;> (funext a; fin_cases a <;> rfl)

end Cert.Hand

end
-- ==== Proof.MergedGrad.lean ====
/-
  The call `d_merged`, the gradient of the merged branches: a point multiplies a row block of the cotangent with a row block
  of the output weight, over all 2048 columns at once.
-/
module

public import proofs.«01_k».proof.Defs
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit

@[expose] public section

set_option maxRecDepth 16384

noncomputable section

namespace Cert.Kernel12Ideal.Hand

open Cert.Kernel12Ideal Cert.Kernel12Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x2048 .f32) (x1 : Vec Ideal S1024x2048 .bf16)

theorem out_eq : out0_2 x0 x1 = k0_pay1 x0 x1 := by
  unfold out0_2
  rw [View.canon_unit_zero hz]
  simp only [View.ld_unit_zero (S := S1024x1024) hz, View.ld_unit_zero (S := S1024x2048) hz]

theorem pay1_at (r s : Fin 1024) : k0_pay1 x0 x1 (ix2 r s) = ∑ q : Fin 2048, x0 (ix2 r q) * x1 (ix2 s q) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel

/-- The operands of the call as it is launched. -/
abbrev oA : Vec Ideal S8192x2048 .f32 := V m c main_arg2
abbrev oB : Vec Ideal S2048x2048 .bf16 := V m c main_v0

/-- Row `r` of a point's result, in the result. -/
def kr (t : Fin cfg0.N) (r : Fin 1024) : Fin 8192 := ⟨t.val / 2 * 1024 + r.val, by have := Nat.lt_of_lt_of_eq t.isLt N_0; omega⟩
/-- Column `s` of a point's result, in the result. -/
def ks (t : Fin cfg0.N) (s : Fin 1024) : Fin 2048 := ⟨t.val % 2 * 1024 + s.val, by omega⟩

theorem blk0_at (t : Fin cfg0.N) (r : Fin 1024) (q : Fin 2048) :
    (iblk m c 0 t : Vec Ideal S1024x2048 .f32) (ix2 r q) = oA m c (ix2 (kr t r) q) := by
  blk_ext [iblk, idx0, kr]

theorem blk1_at (t : Fin cfg0.N) (s : Fin 1024) (q : Fin 2048) :
    (iblk m c 1 t : Vec Ideal S1024x2048 .bf16) (ix2 s q) = oB m c (ix2 (ks t s) q) := by
  blk_ext [iblk, idx1, ks]

/-- The product. -/
def prod : Vec Ideal S8192x2048 .bf16 := fun i => ∑ q : Fin 2048, oA m c (ix2 (i 0) q) * oB m c (ix2 (i 1) q)

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castB (x : (⟨S2048x2048, .f32⟩ : BufTy).Contents (Elt Ideal)) : (⟨S2048x2048, .bf16⟩ : BufTy).Contents (Elt Ideal) :=
  truncf (F := Ideal) .bf16 x bitsLt_bf16_f32

theorem V_castB : V m c main_v0 = castB (m ((c.tc : Thread nD τ).loc main_arg1)) := by
  show StableHlo.after hostOps0 (fun b => m (c, b)) (Proc.devRef .tc main_v0) = _
  after_results_simp <;> rfl

end Cert.Kernel12Ideal.Hand

namespace Cert.Hand

open Idealize.ShloMosaic Idealize.ShloMosaic.TcCoe Idealize.ShloMosaic.Pointwise Idealize.SL.Sem

theorem algebraic_merged : Cert.algebraic_Kernel12Ideal_Reference12Ideal := by
  intro m ρ m' ρ' hpre hagree
  refine ⟨_, Cert.Kernel12Ideal.Hand.run_value m ρ, ?_⟩
  refine (θ_run Cert.Reference12Ideal.defs _ _).mono (fun _ h c => ?_) (Cert.Reference12Ideal.Value.run (F := Ideal) m' ρ')
  obtain ⟨a0, a1, a2⟩ := hagree c
  obtain ⟨e, kept⟩ := h c
  refine ⟨e.trans ?_, kept⟩
  rw [Cert.Reference12Ideal.Read.val_main_v4_eq, a1, a2]
  have hA : Cert.Kernel12Ideal.Hand.oA m c = m ((c.tc : Thread Cert.Kernel12Ideal.nD Cert.Kernel12Ideal.τ).loc Cert.Kernel12Ideal.main_arg2) := Cert.Kernel12Ideal.Gen.V_main_arg2 m c
  have hB : Cert.Kernel12Ideal.Hand.oB m c = Cert.Kernel12Ideal.Hand.castB (m ((c.tc : Thread Cert.Kernel12Ideal.nD Cert.Kernel12Ideal.τ).loc Cert.Kernel12Ideal.main_arg1)) := Cert.Kernel12Ideal.Hand.V_castB m c
  funext y
  rw [eq_ix2 y]
  refine ((Cert.Reference12Ideal.Read.val_main_v4_apply _ _ _).trans (Cert.Reference12Ideal.Read.val_main_v3_apply _ _ _)).trans ?_
  unfold Cert.Kernel12Ideal.Hand.prod
  refine Finset.sum_congr rfl fun q _ => ?_
  rw [hA, hB]
  congr 2 <;> (funext a; fin_cases a <;> rfl)

end Cert.Hand

end
-- ==== Proof.OutFwd.lean ====
/-
  The call `out`, the output product and the residual: a point multiplies a row block of the merged branches with a column
  block of the weight, over all 2048 at once, and adds the residual.
-/
module

public import proofs.«01_k».proof.Defs
public import proofs.«01_k».proof.Proof.Gen.Kernel13Ideal.Value
public import proofs.«01_k».proof.Proof.Gen.Reference13Ideal.Read
public import Idealize.ShloMosaic.Lib.Pointwise
public import Idealize.ShloMosaic.Lib.Pipeline.ValueKit

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x2048 .bf16) (x1 : Vec Ideal S2048x1024 .bf16)  (x2 : Vec Ideal S1024x1024 .f32)

theorem out_eq : out0_3 x0 x1 x2 = k0_pay1 x0 x1 x2 := by
  unfold out0_3
  rw [View.canon_unit_zero hz]
  simp only [View.ld_unit_zero (S := S1024x1024) hz, View.ld_unit_zero (S := S1024x2048) hz, View.ld_unit_zero (S := S2048x1024) hz]

theorem pay1_at (r s : Fin 1024) : k0_pay1 x0 x1 x2 (ix2 r s) = (∑ q : Fin 2048, x0 (ix2 r q) * x1 (ix2 q s)) + x2 (ix2 r s) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel
theorem idx3 : ∀ t : Fin grid0.N, win0_3.index t = ![t.val / 2, t.val % 2] := by decide +kernel

/-- The operands of the call as it is launched. -/
abbrev oA : Vec Ideal S8192x2048 .bf16 := V m c main_v0
abbrev oB : Vec Ideal S2048x2048 .bf16 := V m c main_v1
abbrev oX : Vec Ideal S8192x2048 .f32 := V m c main_arg2

/-- Row `r` of a point's result, in the result. -/
def kr (t : Fin cfg0.N) (r : Fin 1024) : Fin 8192 := ⟨t.val / 2 * 1024 + r.val, by have := Nat.lt_of_lt_of_eq t.isLt N_0; omega⟩
/-- Column `s` of a point's result, in the result. -/
def ks (t : Fin cfg0.N) (s : Fin 1024) : Fin 2048 := ⟨t.val % 2 * 1024 + s.val, by omega⟩

theorem blk0_at (t : Fin cfg0.N) (r : Fin 1024) (q : Fin 2048) :
    (iblk m c 0 t : Vec Ideal S1024x2048 .bf16) (ix2 r q) = oA m c (ix2 (kr t r) q) := by
  blk_ext [iblk, idx0, kr]

theorem blk1_at (t : Fin cfg0.N) (q : Fin 2048) (s : Fin 1024) :
    (iblk m c 1 t : Vec Ideal S2048x1024 .bf16) (ix2 q s) = oB m c (ix2 q (ks t s)) := by
  blk_ext [iblk, idx1, ks]

theorem blk2_at (t : Fin cfg0.N) (r s : Fin 1024) :
    (iblk m c 2 t : Vec Ideal S1024x1024 .f32) (ix2 r s) = oX m c (ix2 (kr t r) (ks t s)) := by
  blk_ext [iblk, idx2, kr, ks]

/-- The product and the part added to it. -/
def prod : Vec Ideal S8192x2048 .f32 := fun i => (∑ q : Fin 2048, oA m c (ix2 (i 0) q) * oB m c (ix2 q (i 1))) + oX m c (ix2 (i 0) (i 1))

theorem out_at (t : Fin cfg0.N) (r s : Fin 1024) :
    out0_3 (iblk m c 0 t) (iblk m c 1 t) (iblk m c 2 t) (ix2 r s) = prod m c (ix2 (kr t r) (ks t s)) := by
  rw [out_eq, pay1_at]
  simp only [blk0_at, blk1_at, blk2_at]
  rfl

theorem arr : (dats m 0 c).arrAt 3 cfg0.N = prod m c := by
  refine Dat.arrAt_eq_of_covers _ 3 _ (by decide +kernel) fun t hf y => ?_
  rw [after0_3]
  blk_simp
  refine (congrArg _ (eq_ix2 y)).trans ((out_at m c t (y 0) (y 1)).trans (congrArg _ ?_))
  blk_ext [idx3, kr, ks]

theorem run_value : θ_run defs (onTc (τ := τ) (main (F := Ideal))) ⟨m, fun _ => 0, ρ⟩ (fun r => ∀ c : Dev nD,
      r.2.mem ((c.tc : Thread nD τ).loc main_v2) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castA (x : (⟨S8192x2048, .f32⟩ : BufTy).Contents (Elt Ideal)) : (⟨S8192x2048, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

/-- An operand as the host casts it: a cast between formats changes no real. -/
def castB (x : (⟨S2048x2048, .f32⟩ : BufTy).Contents (Elt Ideal)) : (⟨S2048x2048, .bf16⟩ : BufTy).Contents (Elt Ideal) :=
  truncf (F := Ideal) .bf16 x bitsLt_bf16_f32

theorem V_castB : V m c main_v1 = castB (m ((c.tc : Thread nD τ).loc main_arg1)) := by
  show StableHlo.after hostOps0 (fun b => m (c, b)) (Proc.devRef .tc main_v1) = _
  after_results_simp <;> rfl

end Cert.Kernel13Ideal.Hand

namespace Cert.Hand

open Idealize.ShloMosaic Idealize.ShloMosaic.TcCoe Idealize.ShloMosaic.Pointwise Idealize.SL.Sem

theorem algebraic_out_fwd : Cert.algebraic_Kernel13Ideal_Reference13Ideal := by
  intro m ρ m' ρ' hpre hagree
  refine ⟨_, Cert.Kernel13Ideal.Hand.run_value m ρ, ?_⟩
  refine (θ_run Cert.Reference13Ideal.defs _ _).mono (fun _ h c => ?_) (Cert.Reference13Ideal.Value.run (F := Ideal) m' ρ')
  obtain ⟨a0, a1, a2⟩ := hagree c
  obtain ⟨e, kept⟩ := h c
  refine ⟨e.trans ?_, kept⟩
  rw [Cert.Reference13Ideal.Read.val_main_v1_eq, a0, a1, a2]
  have hA : Cert.Kernel13Ideal.Hand.oA m c = Cert.Kernel13Ideal.Hand.castA (m ((c.tc : Thread Cert.Kernel13Ideal.nD Cert.Kernel13Ideal.τ).loc Cert.Kernel13Ideal.main_arg0)) := Cert.Kernel13Ideal.Hand.V_castA m c
  have hB : Cert.Kernel13Ideal.Hand.oB m c = Cert.Kernel13Ideal.Hand.castB (m ((c.tc : Thread Cert.Kernel13Ideal.nD Cert.Kernel13Ideal.τ).loc Cert.Kernel13Ideal.main_arg1)) := Cert.Kernel13Ideal.Hand.V_castB m c
  have hX : Cert.Kernel13Ideal.Hand.oX m c = m ((c.tc : Thread Cert.Kernel13Ideal.nD Cert.Kernel13Ideal.τ).loc Cert.Kernel13Ideal.main_arg2) := Cert.Kernel13Ideal.Gen.V_main_arg2 m c
  funext y
  rw [eq_ix2 y]
  refine (Cert.Reference13Ideal.Read.val_main_v1_apply _ _ _ _).trans ?_
  refine (add_comm (_ : EReal) _).trans ?_
  unfold Cert.Kernel13Ideal.Hand.prod
  refine congrArg₂ (fun a b : EReal => a + b) ((Cert.Reference13Ideal.Read.val_main_v0_apply _ _ _).trans (Finset.sum_congr rfl fun q _ => ?_)) ?_
  · rw [hA, hB]
    congr 2 <;> (funext a; fin_cases a <;> rfl)
  · rw [hX]
    rfl

end Cert.Hand

end
-- ==== Proof.BranchGrad.lean ====
/-
  The calls `d_o_mla` and `d_o_na`, the gradient of a branch's output weight: a point multiplies a block of 2048 rows of the
  branch's heads, transposed, with the same rows of the cotangent; four points add up to the product over all 8192 rows. The
  reference is the same product in the other order.
-/
module

public import proofs.«01_k».proof.Defs
public import proofs.«01_k».proof.Proof.Gather
public import proofs.«01_k».proof.Proof.Gen.Kernel14Ideal.Value
public import proofs.«01_k».proof.Proof.Gen.Reference14Ideal.Read
public import Idealize.ShloMosaic.Lib.Pointwise

@[expose] public section

set_option maxRecDepth 16384

noncomputable section

namespace Cert.Kernel14Ideal.Hand

open Cert.Kernel14Ideal Cert.Kernel14Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S2048x1024 .f32) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S2048x1024 .f32) (x1 : Vec Ideal S2048x1024 .bf16) (b : Vec Ideal S1024x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S1024x1024) hz, View.ld_unit_zero (S := S2048x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S2048x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S2048x1024) hz]

theorem pay1_at (r s : Fin 1024) : k0_pay1 x0 x1 (ix2 r s) = ∑ q : Fin 2048, x0 (ix2 q r) * x1 (ix2 q s) := by
  pointwise [k0_pay1]

theorem pay2_at (r s : Fin 1024) : k0_pay2 b x0 x1 (ix2 r s) = b (ix2 r s) + ∑ q : Fin 2048, x0 (ix2 q r) * x1 (ix2 q s) := by
  pointwise [k0_pay2]

theorem pay3_at (r s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x1024 .f32 := V m c main_arg0
abbrev oB : Vec Ideal S8192x2048 .bf16 := V m c main_arg2

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 1024) : Fin 1024 := ⟨t.val / 8 * 1024 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (q : Fin 2048) (r : Fin 1024) :
    (iblk m c 0 t : Vec Ideal S2048x1024 .f32) (ix2 q r) = oA m c (ix2 (kq t q) (kr t r)) := by
  blk_ext [iblk, idx0, kr, kq]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, ks, kq]

/-- The product. -/
def prod : Vec Ideal S1024x2048 .bf16 := fun i => ∑ q : Fin 8192, oA m c (ix2 q (i 0)) * oB m c (ix2 q (i 1))

/-- What a point adds. -/
def term (t : Fin cfg0.N) (r s : Fin 1024) : EReal := ∑ q : Fin 2048, oA m c (ix2 (kq t q) (kr t r)) * oB m c (ix2 (kq t q) (ks t s))

theorem kr_eq (t u : Fin cfg0.N) (h : u.val / 4 = t.val / 4) (r : Fin 1024) : kr u r = kr t r :=
  Fin.ext (by show u.val / 8 * 1024 + r.val = t.val / 8 * 1024 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r s : Fin 1024) : EReal := (outsAt0 m c n h).2 (ix2 r s)

theorem acc_reset (t : Fin cfg0.N) (h : t.val % 4 = 0) (r s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v0) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

end Cert.Kernel14Ideal.Hand

namespace Cert.Hand

open Idealize.ShloMosaic Idealize.ShloMosaic.TcCoe Idealize.ShloMosaic.Pointwise Idealize.SL.Sem

theorem algebraic_branch : Cert.algebraic_Kernel14Ideal_Reference14Ideal := by
  intro m ρ m' ρ' hpre hagree
  refine ⟨_, Cert.Kernel14Ideal.Hand.run_value m ρ, ?_⟩
  refine (θ_run Cert.Reference14Ideal.defs _ _).mono (fun _ h c => ?_) (Cert.Reference14Ideal.Value.run (F := Ideal) m' ρ')
  obtain ⟨a0, a1, a2⟩ := hagree c
  obtain ⟨e, kept⟩ := h c
  refine ⟨e.trans ?_, kept⟩
  rw [Cert.Reference14Ideal.Read.val_main_v5_eq, a0, a2]
  have hA : Cert.Kernel14Ideal.Hand.oA m c = m ((c.tc : Thread Cert.Kernel14Ideal.nD Cert.Kernel14Ideal.τ).loc Cert.Kernel14Ideal.main_arg0) := Cert.Kernel14Ideal.Gen.V_main_arg0 m c
  have hB : Cert.Kernel14Ideal.Hand.oB m c = m ((c.tc : Thread Cert.Kernel14Ideal.nD Cert.Kernel14Ideal.τ).loc Cert.Kernel14Ideal.main_arg2) := Cert.Kernel14Ideal.Gen.V_main_arg2 m c
  funext y
  rw [eq_ix2 y]
  refine ((Cert.Reference14Ideal.Read.val_main_v5_apply _ _ _).trans ((Cert.Reference14Ideal.Read.val_main_v3_apply _ _ _).trans (Cert.Reference14Ideal.Read.val_main_v2_apply _ _ _))).trans ?_
  unfold Cert.Kernel14Ideal.Hand.prod
  refine Finset.sum_congr rfl fun q _ => ?_
  rw [hA, hB, mul_comm]
  congr 2 <;> (funext a; fin_cases a <;> rfl)

end Cert.Hand

end
-- ==== Proof.HeadsGrad.lean ====
/-
  The calls `d_oa` and `d_ob`, the gradient of a branch's heads: a point multiplies a row block of the cotangent with the
  branch's output weight, transposed, over all 2048 columns at once.
-/
module

public import proofs.«01_k».proof.Defs
public import proofs.«01_k».proof.Proof.Gen.Kernel15Ideal.Value
public import proofs.«01_k».proof.Proof.Gen.Reference15Ideal.Read
public import Idealize.ShloMosaic.Lib.Pointwise
public import Idealize.ShloMosaic.Lib.Pipeline.ValueKit

@[expose] public section

set_option maxRecDepth 16384

noncomputable section

namespace Cert.Kernel15Ideal.Hand

open Cert.Kernel15Ideal Cert.Kernel15Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x2048 .bf16) (x1 : Vec Ideal S1024x2048 .bf16)

theorem out_eq : out0_2 x0 x1 = k0_pay1 x0 x1 := by
  unfold out0_2
  rw [View.canon_unit_zero hz]
  simp only [View.ld_unit_zero (S := S1024x1024) hz, View.ld_unit_zero (S := S1024x2048) hz]

theorem pay1_at (r s : Fin 1024) : k0_pay1 x0 x1 (ix2 r s) = ∑ q : Fin 2048, x0 (ix2 r q) * x1 (ix2 s q) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 1, 0] := by decide +kernel
theorem idx1 : ∀ t : Fin grid0.N, win0_1.index t = ![t.val % 1, 0] := by decide +kernel
theorem idx2 : ∀ t : Fin grid0.N, win0_2.index t = ![t.val / 1, t.val % 1] := by decide +kernel

/-- The operands of the call as it is launched. -/
abbrev oA : Vec Ideal S8192x2048 .bf16 := V m c main_arg2
abbrev oB : Vec Ideal S1024x2048 .bf16 := V m c main_v0

/-- Row `r` of a point's result, in the result. -/
def kr (t : Fin cfg0.N) (r : Fin 1024) : Fin 8192 := ⟨t.val / 1 * 1024 + r.val, by have := Nat.lt_of_lt_of_eq t.isLt N_0; omega⟩
/-- Column `s` of a point's result, in the result. -/
def ks (t : Fin cfg0.N) (s : Fin 1024) : Fin 1024 := ⟨t.val % 1 * 1024 + s.val, by omega⟩

theorem blk0_at (t : Fin cfg0.N) (r : Fin 1024) (q : Fin 2048) :
    (iblk m c 0 t : Vec Ideal S1024x2048 .bf16) (ix2 r q) = oA m c (ix2 (kr t r) q) := by
  blk_ext [iblk, idx0, kr]

theorem blk1_at (t : Fin cfg0.N) (s : Fin 1024) (q : Fin 2048) :
    (iblk m c 1 t : Vec Ideal S1024x2048 .bf16) (ix2 s q) = oB m c (ix2 (ks t s) q) := by
  blk_ext [iblk, idx1, ks]

/-- The product. -/
def prod : Vec Ideal S8192x1024 .bf16 := fun i => ∑ q : Fin 2048, oA m c (ix2 (i 0) q) * oB m c (ix2 (i 1) q)

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castB (x : (⟨S1024x2048, .f32⟩ : BufTy).Contents (Elt Ideal)) : (⟨S1024x2048, .bf16⟩ : BufTy).Contents (Elt Ideal) :=
  truncf (F := Ideal) .bf16 x bitsLt_bf16_f32

theorem V_castB : V m c main_v0 = castB (m ((c.tc : Thread nD τ).loc main_arg1)) := by
  show StableHlo.after hostOps0 (fun b => m (c, b)) (Proc.devRef .tc main_v0) = _
  after_results_simp <;> rfl

end Cert.Kernel15Ideal.Hand

namespace Cert.Hand

open Idealize.ShloMosaic Idealize.ShloMosaic.TcCoe Idealize.ShloMosaic.Pointwise Idealize.SL.Sem

theorem algebraic_heads : Cert.algebraic_Kernel15Ideal_Reference15Ideal := by
  intro m ρ m' ρ' hpre hagree
  refine ⟨_, Cert.Kernel15Ideal.Hand.run_value m ρ, ?_⟩
  refine (θ_run Cert.Reference15Ideal.defs _ _).mono (fun _ h c => ?_) (Cert.Reference15Ideal.Value.run (F := Ideal) m' ρ')
  obtain ⟨a0, a1, a2⟩ := hagree c
  obtain ⟨e, kept⟩ := h c
  refine ⟨e.trans ?_, kept⟩
  rw [Cert.Reference15Ideal.Read.val_main_v5_eq, a1, a2]
  have hA : Cert.Kernel15Ideal.Hand.oA m c = m ((c.tc : Thread Cert.Kernel15Ideal.nD Cert.Kernel15Ideal.τ).loc Cert.Kernel15Ideal.main_arg2) := Cert.Kernel15Ideal.Gen.V_main_arg2 m c
  have hB : Cert.Kernel15Ideal.Hand.oB m c = Cert.Kernel15Ideal.Hand.castB (m ((c.tc : Thread Cert.Kernel15Ideal.nD Cert.Kernel15Ideal.τ).loc Cert.Kernel15Ideal.main_arg1)) := Cert.Kernel15Ideal.Hand.V_castB m c
  funext y
  rw [eq_ix2 y]
  refine ((Cert.Reference15Ideal.Read.val_main_v5_apply _ _ _).trans (Cert.Reference15Ideal.Read.val_main_v4_apply _ _ _)).trans ?_
  unfold Cert.Kernel15Ideal.Hand.prod
  refine Finset.sum_congr rfl fun q _ => ?_
  rw [hA, hB]
  congr 2 <;> (funext a; fin_cases a <;> rfl)

end Cert.Hand

end
-- ==== Proof.BranchFwd.lean ====
/-
  The calls `o_mla` and `o_na`, a branch's heads times its output weight: a point multiplies a row block of the heads with a
  column block of the weight, over all 1024 at once.
-/
module

public import proofs.«01_k».proof.Defs
public import proofs.«01_k».proof.Proof.Gen.Kernel16Ideal.Value
public import proofs.«01_k».proof.Proof.Gen.Reference16Ideal.Read
public import Idealize.ShloMosaic.Lib.Pointwise
public import Idealize.ShloMosaic.Lib.Pipeline.ValueKit

@[expose] public section

set_option maxRecDepth 16384

noncomputable section

namespace Cert.Kernel16Ideal.Hand

open Cert.Kernel16Ideal Cert.Kernel16Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x1024 .f32) (x1 : Vec Ideal S1024x1024 .bf16)

theorem out_eq : out0_2 x0 x1 = k0_pay1 x0 x1 := by
  unfold out0_2
  rw [View.canon_unit_zero hz]
  simp only [View.ld_unit_zero (S := S1024x1024) hz]

theorem pay1_at (r s : Fin 1024) : k0_pay1 x0 x1 (ix2 r s) = ∑ q : Fin 1024, x0 (ix2 r q) * x1 (ix2 q s) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

/-- The operands of the call as it is launched. -/
abbrev oA : Vec Ideal S8192x1024 .f32 := V m c main_arg0
abbrev oB : Vec Ideal S1024x2048 .bf16 := V m c main_v0

/-- Row `r` of a point's result, in the result. -/
def kr (t : Fin cfg0.N) (r : Fin 1024) : Fin 8192 := ⟨t.val / 2 * 1024 + r.val, by have := Nat.lt_of_lt_of_eq t.isLt N_0; omega⟩
/-- Column `s` of a point's result, in the result. -/
def ks (t : Fin cfg0.N) (s : Fin 1024) : Fin 2048 := ⟨t.val % 2 * 1024 + s.val, by omega⟩

theorem blk0_at (t : Fin cfg0.N) (r : Fin 1024) (q : Fin 1024) :
    (iblk m c 0 t : Vec Ideal S1024x1024 .f32) (ix2 r q) = oA m c (ix2 (kr t r) q) := by
  blk_ext [iblk, idx0, kr]

theorem blk1_at (t : Fin cfg0.N) (q : Fin 1024) (s : Fin 1024) :
    (iblk m c 1 t : Vec Ideal S1024x1024 .bf16) (ix2 q s) = oB m c (ix2 q (ks t s)) := by
  blk_ext [iblk, idx1, ks]

/-- The product. -/
def prod : Vec Ideal S8192x2048 .bf16 := fun i => ∑ q : Fin 1024, oA m c (ix2 (i 0) q) * oB m c (ix2 q (i 1))

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr m c), (h c).2⟩) (Value.run_blocks m ρ)

/-- An operand as the host casts it: a cast between formats changes no real. -/
def castB (x : (⟨S1024x2048, .f32⟩ : BufTy).Contents (Elt Ideal)) : (⟨S1024x2048, .bf16⟩ : BufTy).Contents (Elt Ideal) :=
  truncf (F := Ideal) .bf16 x bitsLt_bf16_f32

theorem V_castB : V m c main_v0 = castB (m ((c.tc : Thread nD τ).loc main_arg1)) := by
  show StableHlo.after hostOps0 (fun b => m (c, b)) (Proc.devRef .tc main_v0) = _
  after_results_simp <;> rfl

end Cert.Kernel16Ideal.Hand

namespace Cert.Hand

open Idealize.ShloMosaic Idealize.ShloMosaic.TcCoe Idealize.ShloMosaic.Pointwise Idealize.SL.Sem

theorem algebraic_branch_fwd : Cert.algebraic_Kernel16Ideal_Reference16Ideal := by
  intro m ρ m' ρ' hpre hagree
  refine ⟨_, Cert.Kernel16Ideal.Hand.run_value m ρ, ?_⟩
  refine (θ_run Cert.Reference16Ideal.defs _ _).mono (fun _ h c => ?_) (Cert.Reference16Ideal.Value.run (F := Ideal) m' ρ')
  obtain ⟨a0, a1⟩ := hagree c
  obtain ⟨e, kept⟩ := h c
  refine ⟨e.trans ?_, kept⟩
  rw [Cert.Reference16Ideal.Read.val_main_v1_eq, a0, a1]
  have hA : Cert.Kernel16Ideal.Hand.oA m c = m ((c.tc : Thread Cert.Kernel16Ideal.nD Cert.Kernel16Ideal.τ).loc Cert.Kernel16Ideal.main_arg0) := Cert.Kernel16Ideal.Gen.V_main_arg0 m c
  have hB : Cert.Kernel16Ideal.Hand.oB m c = Cert.Kernel16Ideal.Hand.castB (m ((c.tc : Thread Cert.Kernel16Ideal.nD Cert.Kernel16Ideal.τ).loc Cert.Kernel16Ideal.main_arg1)) := Cert.Kernel16Ideal.Hand.V_castB m c
  funext y
  rw [eq_ix2 y]
  refine ((Cert.Reference16Ideal.Read.val_main_v1_apply _ _ _).trans (Cert.Reference16Ideal.Read.val_main_v0_apply _ _ _)).trans ?_
  unfold Cert.Kernel16Ideal.Hand.prod
  refine Finset.sum_congr rfl fun q _ => ?_
  rw [hA, hB]
  congr 2 <;> (funext a; fin_cases a <;> rfl)

end Cert.Hand

end
-- ==== Proof.MlaStep.lean ====
/-
  The call `mla`: what its body computes for one column of 512 queries, element by element. The body keeps, for each
  query of its block, the largest score so far, the mass (the sum of the exponentials) relative to it, and the
  numerator of the output relative to it; for each block of keys it brings all three up to date.
-/
module

public import proofs.«01_k».proof.Proof.Gen.Kernel17Ideal.Skeleton
public import Idealize.ShloMosaic.Lib.VecWindow
public import Idealize.ShloMosaic.Lib.WholeRead
public import Idealize.ShloMosaic.Lib.Pointwise
public import Idealize.ShloMosaic.PureOps.IdealRules
public import Idealize.ShloMosaic.PureOps.Ideal.Laws

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Pointwise

/-- `(√192)⁻¹`. -/
abbrev scale : EReal := (((Real.sqrt 192)⁻¹ : ℝ) : EReal)
/-- `(√192)⁻¹ · log₂ e`. -/
abbrev scl2e : EReal := (((Real.sqrt 192)⁻¹ * (Real.log 2)⁻¹ : ℝ) : EReal)

theorem named_sl : Named.named (F := Ideal) κ "scale_log2e" (φ := .f32) 0x3DD53B95#32 = scl2e := IdealRules.named_const.ideal_named_scalar _ _ _ _ rfl
theorem named_s : Named.named (F := Ideal) κ "scale" (φ := .f32) 0x3D93CD3A#32 = scale := IdealRules.named_const.ideal_named_scalar _ _ _ _ rfl

section Spec

variable (q k : Vec Ideal S1x4096x192 .bf16) (vt : Vec Ideal S1x128x4096 .bf16) (y l : Vec Ideal S1x4096 .f32) (a : Vec Ideal S128x4096 .f32)

/-- The score of key `r` for query `x`, unscaled. -/
def st (r x : Fin 4096) : EReal := ∑ d : Fin 192, k (ix3 0 r d) * q (ix3 0 x d)

/-- The largest score so far. -/
def mNew (x : Fin 4096) : EReal := max (y (ix2 0 x)) ((Finset.univ : Finset (Fin 4096)).fold max (⊥ : EReal) fun r => st q k r x)

/-- The factor that brings what was summed before to the new largest score. -/
def alpha (x : Fin 4096) : EReal := Ideal.exp2 ((y (ix2 0 x) - mNew q k y x) * scl2e)

/-- A key's exponential relative to the new largest score. -/
def pt (r x : Fin 4096) : EReal := Ideal.exp2 ((st q k r x - mNew q k y x) * scl2e)

/-- The mass. -/
def lNew (x : Fin 4096) : EReal := alpha q k y x * l (ix2 0 x) + ∑ r : Fin 4096, pt q k y r x

/-- The numerator. -/
def aNew (c : Fin 128) (x : Fin 4096) : EReal := alpha q k y x * a (ix2 c x) + ∑ r : Fin 4096, vt (ix3 0 c r) * pt q k y r x

/-- The three rows as blocks. -/
def mG : Vec Ideal S1x4096 .f32 := fun i => mNew q k y (i 1)
def lG : Vec Ideal S1x4096 .f32 := fun i => lNew q k y l (i 1)
def aG : Vec Ideal S128x4096 .f32 := fun i => aNew q k vt y a (i 0) (i 1)

end Spec

theorem bot_eq : FloatOps.ofBits (F := Ideal) .f32 0xFF800000#32 = (⊥ : EReal) := by
  show Ideal.ofBits .f32 0xFF800000#32 = _
  simp [Ideal.ofBits, Ideal.ieee, -EReal.coe_mul]

section Columns

variable (kw : Vec Ideal S1x4096x192 .bf16) (qw : Vec Ideal S1x512x192 .bf16) (s : FVec Ideal S4096x512 .f32) (mw lw : Vec Ideal S1x512 .f32)
  (aw : Vec Ideal S128x512 .f32) (vt : Vec Ideal S1x128x4096 .bf16)

theorem pay10_at (r : Fin 4096) (x : Fin 512) : k0_pay10 kw qw (ix2 r x) = ∑ d : Fin 192, kw (ix3 0 r d) * qw (ix3 0 x d) := by
  pointwise [k0_pay10]

theorem top_at (x : Fin 512) :
    multiReduction .maximumf [0] S512 s 0xFF800000#32 reduces_S4096x512_S512 (.inl rfl) rfl (ix1 x)
      = (Finset.univ : Finset (Fin 4096)).fold max (⊥ : EReal) fun r => s (ix2 r x) := by
  refine (Ideal.multiReduction_maximumf_single s _ _ _ _ (ix1 x)).trans ?_
  rw [bot_eq]
  refine Finset.fold_congr fun r _ => congrArg s ?_
  funext a
  fin_cases a <;> rfl

theorem pay19_at (x : Fin 512) :
    k0_pay19 s mw (ix2 0 x) = max (mw (ix2 0 x)) ((Finset.univ : Finset (Fin 4096)).fold max (⊥ : EReal) fun r => s (ix2 r x)) := by
  rw [← top_at s x]
  show maximumf mw (shapeCast S1x512 (multiReduction .maximumf [0] S512 s 0xFF800000#32 reduces_S4096x512_S512 (.inl rfl) rfl) shapeCasts_S512_S1x512) (ix2 0 x) = _
  generalize multiReduction .maximumf [0] S512 s 0xFF800000#32 reduces_S4096x512_S512 (.inl rfl) rfl = z
  pointwise []

theorem pay20_at (x : Fin 512) : k0_pay20 s mw (ix2 0 x) = Ideal.exp2 ((mw (ix2 0 x) - k0_pay19 s mw (ix2 0 x)) * scl2e) := by
  unfold k0_pay20
  generalize k0_pay19 s mw = z
  pointwise [named_sl]
  rfl

theorem pay21_at (r : Fin 4096) (x : Fin 512) : k0_pay21 s mw (ix2 r x) = (s (ix2 r x) - k0_pay19 s mw (ix2 0 x)) * scl2e := by
  unfold k0_pay21
  generalize k0_pay19 s mw = z
  pointwise [named_sl]

theorem pay22_at (r : Fin 4096) (x : Fin 512) : k0_pay22 s (ix2 r x) = Ideal.exp2 (s (ix2 r x)) := by
  pointwise [k0_pay22]
  rfl

theorem pay23_at (b : FVec Ideal S1x512 .f32) (x : Fin 512) :
    k0_pay23 b s lw (ix2 0 x) = b (ix2 0 x) * lw (ix2 0 x) + ∑ r : Fin 4096, k0_pay22 s (ix2 r x) := by
  unfold k0_pay23
  generalize k0_pay22 s = z
  pointwise []

theorem pay24_at (b : FVec Ideal S1x512 .f32) (c : Fin 128) (x : Fin 512) :
    k0_pay24 b s aw vt (ix2 c x) = b (ix2 0 x) * aw (ix2 c x) + ∑ r : Fin 4096, vt (ix3 0 c r) * k0_pay22 s (ix2 r x) := by
  unfold k0_pay24
  generalize k0_pay22 s = z
  pointwise []

theorem pay25_at (x : Fin 512) : k0_pay25 (F := Ideal) mw (ix2 0 x) = mw (ix2 0 x) := by
  pointwise [k0_pay25]

end Columns

theorem pay4_at (a : Vec Ideal S128x4096 .f32) (l : Vec Ideal S1x4096 .f32) (x : Fin 4096) (c : Fin 128) :
    k0_pay4 a l (ix2 x c) = Ideal.div (a (ix2 c x)) (l (ix2 0 x)) := by
  pointwise [k0_pay4]

theorem pay5_at (y l : Vec Ideal S1x4096 .f32) (x : Fin 4096) :
    k0_pay5 y l (ix3 0 0 x) = y (ix2 0 x) * scale + Ideal.log (l (ix2 0 x)) := by
  pointwise [k0_pay5, named_s]

end Cert.Kernel17Ideal.Hand

end
-- ==== Proof.MlaRun.lean ====
/-
  The call `mla`: what one run of the body leaves in the three running blocks and in the two results. The body works
  through its block of 4096 queries in eight columns of 512, and each column's stores are blocks of one function.
-/
module

public import proofs.«01_k».proof.Proof.Gen.Kernel17Ideal.Frame
public import proofs.«01_k».proof.Proof.MlaStep
public import Idealize.ShloMosaic.Lib.Pipeline.ReadBack

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic Idealize.ShloMosaic.Pointwise
open Idealize.SL.Sem

/-- Query `x` of the column that starts at `o`. -/
def col (o : ℕ) (ho : o + 512 ≤ 4096) (x : Fin 512) : Fin 4096 := ⟨o + x.val, by omega⟩

section Columns

variable (q k : Vec Ideal S1x4096x192 .bf16) (vt : Vec Ideal S1x128x4096 .bf16) (y l : Vec Ideal S1x4096 .f32) (a : Vec Ideal S128x4096 .f32)
  (kw : Vec Ideal S1x4096x192 .bf16) (qw : Vec Ideal S1x512x192 .bf16) (mw lw : Vec Ideal S1x512 .f32)
  (aw : Vec Ideal S128x512 .f32) (vw : Vec Ideal S1x128x4096 .bf16) (o : ℕ) (ho : o + 512 ≤ 4096)
  (hk : kw = k) (hv : vw = vt) (hq : ∀ x d, qw (ix3 0 x d) = q (ix3 0 (col o ho x) d))
  (hm : ∀ x, mw (ix2 0 x) = y (ix2 0 (col o ho x))) (hl : ∀ x, lw (ix2 0 x) = l (ix2 0 (col o ho x)))
  (ha : ∀ c x, aw (ix2 c x) = a (ix2 c (col o ho x)))

include hk hq in
theorem st_col (r : Fin 4096) (x : Fin 512) : k0_pay10 kw qw (ix2 r x) = st q k r (col o ho x) := by
  rw [pay10_at]; unfold st; simp only [hk, hq]

include hk hq hm in
theorem m_col (x : Fin 512) : k0_pay19 (k0_pay10 kw qw) mw (ix2 0 x) = mNew q k y (col o ho x) := by
  rw [pay19_at]; unfold mNew; simp only [hm, st_col q k kw qw o ho hk hq]

include hk hq hm in
theorem alpha_col (x : Fin 512) : k0_pay20 (k0_pay10 kw qw) mw (ix2 0 x) = alpha q k y (col o ho x) := by
  rw [pay20_at, m_col q k y kw qw mw o ho hk hq hm, hm]; rfl

include hk hq hm in
theorem pt_col (r : Fin 4096) (x : Fin 512) : k0_pay22 (k0_pay21 (k0_pay10 kw qw) mw) (ix2 r x) = pt q k y r (col o ho x) := by
  rw [pay22_at, pay21_at, m_col q k y kw qw mw o ho hk hq hm, st_col q k kw qw o ho hk hq]; rfl

theorem idx_row (i : S1x512.Idx) : ∃ x : Fin 512, i = ix2 0 x :=
  ⟨i 1, funext fun b => by
    fin_cases b
    · exact Subsingleton.elim (α := Fin 1) _ _
    · rfl⟩

theorem idx_tile (i : S128x512.Idx) : ∃ (c : Fin 128) (x : Fin 512), i = ix2 c x :=
  ⟨i 0, i 1, funext fun b => by fin_cases b <;> rfl⟩

theorem emb_row (inb) (x : Fin 512) : ((Rect.unit (s := S1x4096) ![0, o] S1x512.size inb).emb (ix2 0 x)) 1 = col o ho x :=
  Fin.ext (by show o + 1 * x.val = o + x.val; omega)

theorem emb_tile0 (inb) (c : Fin 128) (x : Fin 512) : ((Rect.unit (s := S128x4096) ![0, o] S128x512.size inb).emb (ix2 c x)) 0 = c :=
  Fin.ext (by show 0 + 1 * c.val = c.val; omega)

theorem emb_tile1 (inb) (c : Fin 128) (x : Fin 512) : ((Rect.unit (s := S128x4096) ![0, o] S128x512.size inb).emb (ix2 c x)) 1 = col o ho x :=
  Fin.ext (by show o + 1 * x.val = o + x.val; omega)

include hk hq hm in
theorem m_piece (inb) (i : S1x512.Idx) :
    k0_pay25 (k0_pay19 (k0_pay10 kw qw) mw) i = mG q k y ((Rect.unit (s := S1x4096) ![0, o] S1x512.size inb).emb i) := by
  obtain ⟨x, rfl⟩ := idx_row i
  refine Eq.trans ?_ (congrArg (mNew q k y) (emb_row o ho inb x).symm)
  rw [pay25_at, m_col q k y kw qw mw o ho hk hq hm]

include hk hq hm hl in
theorem l_piece (inb) (i : S1x512.Idx) :
    k0_pay23 (k0_pay20 (k0_pay10 kw qw) mw) (k0_pay21 (k0_pay10 kw qw) mw) lw i
      = lG q k y l ((Rect.unit (s := S1x4096) ![0, o] S1x512.size inb).emb i) := by
  obtain ⟨x, rfl⟩ := idx_row i
  refine Eq.trans ?_ (congrArg (lNew q k y l) (emb_row o ho inb x).symm)
  rw [pay23_at, alpha_col q k y kw qw mw o ho hk hq hm, hl]
  simp only [pt_col q k y kw qw mw o ho hk hq hm]; rfl

include hk hq hm hv ha in
theorem a_piece (inb) (i : S128x512.Idx) :
    k0_pay24 (k0_pay20 (k0_pay10 kw qw) mw) (k0_pay21 (k0_pay10 kw qw) mw) aw vw i
      = aG q k vt y a ((Rect.unit (s := S128x4096) ![0, o] S128x512.size inb).emb i) := by
  obtain ⟨c, x, rfl⟩ := idx_tile i
  refine Eq.trans ?_ (congrArg₂ (aNew q k vt y a) (emb_tile0 o inb c x).symm (emb_tile1 o ho inb c x).symm)
  rw [pay24_at, alpha_col q k y kw qw mw o ho hk hq hm, ha]
  simp only [pt_col q k y kw qw mw o ho hk hq hm, hv]; rfl

end Columns

section Canon

/-- Eight stores side by side that are blocks of one function leave that function, over any earlier stores. -/
theorem canon_row (G : S1x4096.Idx → Elt Ideal .f32) (L' : List (View.Piece (Elt Ideal) S1x4096 .f32))
    {w0 w1 w2 w3 w4 w5 w6 w7 : S1x512.Idx → Elt Ideal .f32} {b0 b1 b2 b3 b4 b5 b6 b7}
    (h7 : ∀ i, w7 i = G ((Rect.unit (s := S1x4096) ![0, 3584] S1x512.size b7).emb i))
    (h6 : ∀ i, w6 i = G ((Rect.unit (s := S1x4096) ![0, 3072] S1x512.size b6).emb i))
    (h5 : ∀ i, w5 i = G ((Rect.unit (s := S1x4096) ![0, 2560] S1x512.size b5).emb i))
    (h4 : ∀ i, w4 i = G ((Rect.unit (s := S1x4096) ![0, 2048] S1x512.size b4).emb i))
    (h3 : ∀ i, w3 i = G ((Rect.unit (s := S1x4096) ![0, 1536] S1x512.size b3).emb i))
    (h2 : ∀ i, w2 i = G ((Rect.unit (s := S1x4096) ![0, 1024] S1x512.size b2).emb i))
    (h1 : ∀ i, w1 i = G ((Rect.unit (s := S1x4096) ![0, 512] S1x512.size b1).emb i))
    (h0 : ∀ i, w0 i = G ((Rect.unit (s := S1x4096) ![0, 0] S1x512.size b0).emb i)) :
    View.canon (Val := Elt Ideal) (e := .f32)
      (⟨Rect.unit (s := S1x4096) ![0, 3584] S1x512.size b7, w7⟩ :: ⟨Rect.unit (s := S1x4096) ![0, 3072] S1x512.size b6, w6⟩
        :: ⟨Rect.unit (s := S1x4096) ![0, 2560] S1x512.size b5, w5⟩ :: ⟨Rect.unit (s := S1x4096) ![0, 2048] S1x512.size b4, w4⟩
        :: ⟨Rect.unit (s := S1x4096) ![0, 1536] S1x512.size b3, w3⟩ :: ⟨Rect.unit (s := S1x4096) ![0, 1024] S1x512.size b2, w2⟩
        :: ⟨Rect.unit (s := S1x4096) ![0, 512] S1x512.size b1, w1⟩ :: ⟨Rect.unit (s := S1x4096) ![0, 0] S1x512.size b0, w0⟩ :: L') = G := by
  funext y
  refine View.canon_append_of_piecesOf G L' [⟨Rect.unit (s := S1x4096) ![0, 3584] S1x512.size b7, w7⟩, ⟨Rect.unit (s := S1x4096) ![0, 3072] S1x512.size b6, w6⟩,
        ⟨Rect.unit (s := S1x4096) ![0, 2560] S1x512.size b5, w5⟩, ⟨Rect.unit (s := S1x4096) ![0, 2048] S1x512.size b4, w4⟩,
        ⟨Rect.unit (s := S1x4096) ![0, 1536] S1x512.size b3, w3⟩, ⟨Rect.unit (s := S1x4096) ![0, 1024] S1x512.size b2, w2⟩,
        ⟨Rect.unit (s := S1x4096) ![0, 512] S1x512.size b1, w1⟩, ⟨Rect.unit (s := S1x4096) ![0, 0] S1x512.size b0, w0⟩]
    ⟨h7, h6, h5, h4, h3, h2, h1, h0, trivial⟩ y ?_
  exact View.cover_of_tiledL (s := S1x4096) (Val := Elt Ideal) (e := .f32) _ S1x512.size (by sl_kernel_rfl) y

theorem canon_tile (G : S128x4096.Idx → Elt Ideal .f32) (L' : List (View.Piece (Elt Ideal) S128x4096 .f32))
    {w0 w1 w2 w3 w4 w5 w6 w7 : S128x512.Idx → Elt Ideal .f32} {b0 b1 b2 b3 b4 b5 b6 b7}
    (h7 : ∀ i, w7 i = G ((Rect.unit (s := S128x4096) ![0, 3584] S128x512.size b7).emb i))
    (h6 : ∀ i, w6 i = G ((Rect.unit (s := S128x4096) ![0, 3072] S128x512.size b6).emb i))
    (h5 : ∀ i, w5 i = G ((Rect.unit (s := S128x4096) ![0, 2560] S128x512.size b5).emb i))
    (h4 : ∀ i, w4 i = G ((Rect.unit (s := S128x4096) ![0, 2048] S128x512.size b4).emb i))
    (h3 : ∀ i, w3 i = G ((Rect.unit (s := S128x4096) ![0, 1536] S128x512.size b3).emb i))
    (h2 : ∀ i, w2 i = G ((Rect.unit (s := S128x4096) ![0, 1024] S128x512.size b2).emb i))
    (h1 : ∀ i, w1 i = G ((Rect.unit (s := S128x4096) ![0, 512] S128x512.size b1).emb i))
    (h0 : ∀ i, w0 i = G ((Rect.unit (s := S128x4096) ![0, 0] S128x512.size b0).emb i)) :
    View.canon (Val := Elt Ideal) (e := .f32)
      (⟨Rect.unit (s := S128x4096) ![0, 3584] S128x512.size b7, w7⟩ :: ⟨Rect.unit (s := S128x4096) ![0, 3072] S128x512.size b6, w6⟩
        :: ⟨Rect.unit (s := S128x4096) ![0, 2560] S128x512.size b5, w5⟩ :: ⟨Rect.unit (s := S128x4096) ![0, 2048] S128x512.size b4, w4⟩
        :: ⟨Rect.unit (s := S128x4096) ![0, 1536] S128x512.size b3, w3⟩ :: ⟨Rect.unit (s := S128x4096) ![0, 1024] S128x512.size b2, w2⟩
        :: ⟨Rect.unit (s := S128x4096) ![0, 512] S128x512.size b1, w1⟩ :: ⟨Rect.unit (s := S128x4096) ![0, 0] S128x512.size b0, w0⟩ :: L') = G := by
  funext y
  refine View.canon_append_of_piecesOf G L' [⟨Rect.unit (s := S128x4096) ![0, 3584] S128x512.size b7, w7⟩, ⟨Rect.unit (s := S128x4096) ![0, 3072] S128x512.size b6, w6⟩,
        ⟨Rect.unit (s := S128x4096) ![0, 2560] S128x512.size b5, w5⟩, ⟨Rect.unit (s := S128x4096) ![0, 2048] S128x512.size b4, w4⟩,
        ⟨Rect.unit (s := S128x4096) ![0, 1536] S128x512.size b3, w3⟩, ⟨Rect.unit (s := S128x4096) ![0, 1024] S128x512.size b2, w2⟩,
        ⟨Rect.unit (s := S128x4096) ![0, 512] S128x512.size b1, w1⟩, ⟨Rect.unit (s := S128x4096) ![0, 0] S128x512.size b0, w0⟩]
    ⟨h7, h6, h5, h4, h3, h2, h1, h0, trivial⟩ y ?_
  exact View.cover_of_tiledL (s := S128x4096) (Val := Elt Ideal) (e := .f32) _ S128x512.size (by sl_kernel_rfl) y

end Canon

section Reads

theorem rd_k (mr : Memref sig .tc .vmem S1x4096x192 .bf16) (h : mr.IsWhole) (x : Vec Ideal S1x4096x192 .bf16) (inb) :
    View.readAt (Elt Ideal) mr.view (Rect.unit (s := S1x4096x192) ![0, 0, 0] S1x4096x192.size inb).toLoadRect (h.unread x) = x := by
  rw [View.readAt_full, h.read_unread]

theorem rd_v (mr : Memref sig .tc .vmem S1x128x4096 .bf16) (h : mr.IsWhole) (x : Vec Ideal S1x128x4096 .bf16) (inb) :
    View.readAt (Elt Ideal) mr.view (Rect.unit (s := S1x128x4096) ![0, 0, 0] S1x128x4096.size inb).toLoadRect (h.unread x) = x := by
  rw [View.readAt_full, h.read_unread]

theorem rd_q (mr : Memref sig .tc .vmem S1x4096x192 .bf16) (h : mr.IsWhole) (x : Vec Ideal S1x4096x192 .bf16) (o : ℕ) (ho : o + 512 ≤ 4096) (inb)
    (z : Fin 512) (d : Fin 192) :
    View.readAt (Elt Ideal) mr.view (Rect.unit (s := S1x4096x192) ![0, o, 0] S1x512x192.size inb).toLoadRect (h.unread x) (ix3 0 z d) = x (ix3 0 (col o ho z) d) := by
  rw [View.readAt_unit _ _ inb rfl inb, h.read_unread]
  refine congrArg x (funext fun a => Fin.ext ?_)
  fin_cases a <;> simp [Rect.unit, Rect.emb, ix3, col]

theorem rd_m (mr : Memref sig .tc .vmem S1x4096 .f32) (h : mr.IsWhole) (x : Vec Ideal S1x4096 .f32) (o : ℕ) (ho : o + 512 ≤ 4096) (inb)
    (z : Fin 512) :
    View.readAt (Elt Ideal) mr.view (Rect.unit (s := S1x4096) ![0, o] S1x512.size inb).toLoadRect (h.unread x) (ix2 0 z) = x (ix2 0 (col o ho z)) := by
  rw [View.readAt_unit _ _ inb rfl inb, h.read_unread]
  refine congrArg x (funext fun a => Fin.ext ?_)
  fin_cases a <;> simp [Rect.unit, Rect.emb, ix2, col]

theorem rd_a (mr : Memref sig .tc .vmem S128x4096 .f32) (h : mr.IsWhole) (x : Vec Ideal S128x4096 .f32) (o : ℕ) (ho : o + 512 ≤ 4096) (inb)
    (c : Fin 128) (z : Fin 512) :
    View.readAt (Elt Ideal) mr.view (Rect.unit (s := S128x4096) ![0, o] S128x512.size inb).toLoadRect (h.unread x) (ix2 c z) = x (ix2 c (col o ho z)) := by
  rw [View.readAt_unit _ _ inb rfl inb, h.read_unread]
  refine congrArg x (funext fun a => Fin.ext ?_)
  fin_cases a <;> simp [Rect.unit, Rect.emb, ix2, col]

end Reads

end Cert.Kernel17Ideal.Hand

end
-- ==== Proof.MlaCases.lean ====
/-
  The call `mla`: what the two cases of the body leave in the running blocks, and what the second leaves in the results.
-/
module

public import proofs.«01_k».proof.Proof.MlaRun

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic Idealize.ShloMosaic.Pointwise
open Idealize.SL.Sem

variable (c : Dev nD) (i : grid0.Coords) (arg3 : Memref sig .tc .vmem S1x4096x192 .bf16) (harg3 : arg3.IsWhole) (arg4 : Memref sig .tc .vmem S1x4096x192 .bf16) (harg4 : arg4.IsWhole) (arg5 : Memref sig .tc .vmem S1x128x4096 .bf16) (harg5 : arg5.IsWhole) (arg6 : Memref sig .tc .vmem S4096x128 .f32) (harg6 : arg6.IsWhole) (arg7 : Memref sig .tc .vmem S1x1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S128x4096 .f32) (harg10 : arg10.IsWhole)
  (q k : Vec Ideal S1x4096x192 .bf16) (vt : Vec Ideal S1x128x4096 .bf16)

section First

variable (hc0 : cond0_0 i) (hc1 : ¬cond0_1 i)

theorem pay6_const (i j : S1x4096.Idx) : k0_pay6 (F := Ideal) i = k0_pay6 j := rfl
theorem pay7_const (i j : S1x4096.Idx) : k0_pay7 (F := Ideal) i = k0_pay7 j := rfl
theorem pay8_const (i j : S128x4096.Idx) : k0_pay8 (F := Ideal) i = k0_pay8 j := rfl

set_option maxHeartbeats 1000000 in
theorem canon_A_0 : View.canon (kernelRun0_A c i arg3 harg3 arg4 harg4 arg5 harg5 arg6 harg6 arg7 harg7 arg8 harg8 arg9 harg9 arg10 harg10 hc0 hc1 q k vt).2.2.1 = mG q k (k0_pay6 (F := Ideal)) := by
  unfold kernelRun0_A
  dsimp only
  sl_unfold_words
  refine canon_row (mG q k (k0_pay6 (F := Ideal))) _ ?_ ?_ ?_ ?_ ?_ ?_ ?_ ?_
  · refine m_piece q k (k0_pay6 (F := Ideal)) _ _ _ 3584 (by norm_num) (rd_k _ harg4 k _) (rd_q _ harg3 q 3584 (by norm_num) _) ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 3072 (by norm_num) (rd_k _ harg4 k _) (rd_q _ harg3 q 3072 (by norm_num) _) ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 2560 (by norm_num) (rd_k _ harg4 k _) (rd_q _ harg3 q 2560 (by norm_num) _) ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 2048 (by norm_num) (rd_k _ harg4 k _) (rd_q _ harg3 q 2048 (by norm_num) _) ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 1536 (by norm_num) (rd_k _ harg4 k _) (rd_q _ harg3 q 1536 (by norm_num) _) ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 1024 (by norm_num) (rd_k _ harg4 k _) (rd_q _ harg3 q 1024 (by norm_num) _) ?_ _
    · intro z
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 512 (by norm_num) (rd_k _ harg4 k _) (rd_q _ harg3 q 512 (by norm_num) _) ?_ _
    · intro z
      refine (congrFun (View.readCov_skip _ _ _ _ _ rfl) _).trans ?_
      refine (congrFun (View.readCov_fill _ _ _ _ _ (by decide)) _).trans ?_
      exact pay6_const _ _
  · refine m_piece q k (k0_pay6 (F := Ideal)) _ _ _ 0 (by norm_num) (rd_k _ harg4 k _) (rd_q _ harg3 q 0 (by norm_num) _) ?_ _
    · intro z
      refine (congrFun (View.readCov_fill _ _ _ _ _ (by decide)) _).trans ?_
      exact pay6_const _ _

theorem sout_A_0 : sout0_A_0 c i arg3 harg3 arg4 harg4 arg5 harg5 arg6 harg6 arg7 harg7 arg8 harg8 arg9 harg9 arg10 harg10 hc0 hc1 q k vt = mG q k (k0_pay6 (F := Ideal)) := by
  unfold sout0_A_0
  rw [View.read_writes_junk_eq_canon]
  exact canon_A_0 c i arg3 harg3 arg4 harg4 arg5 harg5 arg6 harg6 arg7 harg7 arg8 harg8 arg9 harg9 arg10 harg10 q k vt hc0 hc1

set_option maxHeartbeats 1000000 in
theorem canon_A_1 : View.canon (kernelRun0_A c i arg3 harg3 arg4 harg4 arg5 harg5 arg6 harg6 arg7 harg7 arg8 harg8 arg9 harg9 arg10 harg10 hc0 hc1 q k vt).2.2.2.1 = lG q k (k0_pay6 (F := Ideal)) (k0_pay7 (F := Ideal)) := by
  unfold kernelRun0_A
  dsimp only
  sl_unfold_words
  refine canon_row (lG q k (k0_pay6 (F := Ideal)) (k0_pay7 (F := Ideal))) _ ?_ ?_ ?_ ?_ ?_ ?_ ?_ ?_
  · refine l_piece q k (k0_pay6 (F := Ideal)) (k0_pay7 (F := Ideal)) _ _ _ _ 3584 (by norm_num) (rd_k _ harg4 k _) (rd_q _ harg3 q 3584 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 3072 (by norm_num) (rd_k _ harg4 k _) (rd_q _ harg3 q 3072 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 2560 (by norm_num) (rd_k _ harg4 k _) (rd_q _ harg3 q 2560 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 2048 (by norm_num) (rd_k _ harg4 k _) (rd_q _ harg3 q 2048 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 1536 (by norm_num) (rd_k _ harg4 k _) (rd_q _ harg3 q 1536 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 1024 (by norm_num) (rd_k _ harg4 k _) (rd_q _ harg3 q 1024 (by norm_num) _) ?_ ?_ _
    · intro z
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 512 (by norm_num) (rd_k _ harg4 k _) (rd_q _ harg3 q 512 (by norm_num) _) ?_ ?_ _
    · intro z
      refine (congrFun (View.readCov_skip _ _ _ _ _ rfl) _).trans ?_
      refine (congrFun (View.readCov_fill _ _ _ _ _ (by decide)) _).trans ?_
      exact pay6_const _ _
    · intro z
      refine (congrFun (View.readCov_skip _ _ _ _ _ rfl) _).trans ?_
      refine (congrFun (View.readCov_fill _ _ _ _ _ (by decide)) _).trans ?_
      exact pay7_const _ _
  · refine l_piece q k (k0_pay6 (F := Ideal)) (k0_pay7 (F := Ideal)) _ _ _ _ 0 (by norm_num) (rd_k _ harg4 k _) (rd_q _ harg3 q 0 (by norm_num) _) ?_ ?_ _
    · intro z
      refine (congrFun (View.readCov_fill _ _ _ _ _ (by decide)) _).trans ?_
      exact pay6_const _ _
    · intro z
      refine (congrFun (View.readCov_fill _ _ _ _ _ (by decide)) _).trans ?_
      exact pay7_const _ _

theorem sout_A_1 : sout0_A_1 c i arg3 harg3 arg4 harg4 arg5 harg5 arg6 harg6 arg7 harg7 arg8 harg8 arg9 harg9 arg10 harg10 hc0 hc1 q k vt = lG q k (k0_pay6 (F := Ideal)) (k0_pay7 (F := Ideal)) := by
  unfold sout0_A_1
  rw [View.read_writes_junk_eq_canon]
  exact canon_A_1 c i arg3 harg3 arg4 harg4 arg5 harg5 arg6 harg6 arg7 harg7 arg8 harg8 arg9 harg9 arg10 harg10 q k vt hc0 hc1

set_option maxHeartbeats 1000000 in
theorem canon_A_2 : View.canon (kernelRun0_A c i arg3 harg3 arg4 harg4 arg5 harg5 arg6 harg6 arg7 harg7 arg8 harg8 arg9 harg9 arg10 harg10 hc0 hc1 q k vt).2.2.2.2.1 = aG q k vt (k0_pay6 (F := Ideal)) (k0_pay8 (F := Ideal)) := by
  unfold kernelRun0_A
  dsimp only
  sl_unfold_words
  refine canon_tile (aG q k vt (k0_pay6 (F := Ideal)) (k0_pay8 (F := Ideal))) _ ?_ ?_ ?_ ?_ ?_ ?_ ?_ ?_
  · refine a_piece q k vt (k0_pay6 (F := Ideal)) (k0_pay8 (F := Ideal)) _ _ _ _ _ 3584 (by norm_num) (rd_k _ harg4 k _) (rd_v _ harg5 vt _) (rd_q _ harg3 q 3584 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 3072 (by norm_num) (rd_k _ harg4 k _) (rd_v _ harg5 vt _) (rd_q _ harg3 q 3072 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 2560 (by norm_num) (rd_k _ harg4 k _) (rd_v _ harg5 vt _) (rd_q _ harg3 q 2560 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 2048 (by norm_num) (rd_k _ harg4 k _) (rd_v _ harg5 vt _) (rd_q _ harg3 q 2048 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 1536 (by norm_num) (rd_k _ harg4 k _) (rd_v _ harg5 vt _) (rd_q _ harg3 q 1536 (by norm_num) _) ?_ ?_ _
    · intro z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 1024 (by norm_num) (rd_k _ harg4 k _) (rd_v _ harg5 vt _) (rd_q _ harg3 q 1024 (by norm_num) _) ?_ ?_ _
    · intro z
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 512 (by norm_num) (rd_k _ harg4 k _) (rd_v _ harg5 vt _) (rd_q _ harg3 q 512 (by norm_num) _) ?_ ?_ _
    · intro z
      refine (congrFun (View.readCov_skip _ _ _ _ _ rfl) _).trans ?_
      refine (congrFun (View.readCov_fill _ _ _ _ _ (by decide)) _).trans ?_
      exact pay6_const _ _
    · intro d z
      refine (congrFun (View.readCov_skip _ _ _ _ _ rfl) _).trans ?_
      refine (congrFun (View.readCov_fill _ _ _ _ _ (by decide)) _).trans ?_
      exact pay8_const _ _
  · refine a_piece q k vt (k0_pay6 (F := Ideal)) (k0_pay8 (F := Ideal)) _ _ _ _ _ 0 (by norm_num) (rd_k _ harg4 k _) (rd_v _ harg5 vt _) (rd_q _ harg3 q 0 (by norm_num) _) ?_ ?_ _
    · intro z
      refine (congrFun (View.readCov_fill _ _ _ _ _ (by decide)) _).trans ?_
      exact pay6_const _ _
    · intro d z
      refine (congrFun (View.readCov_fill _ _ _ _ _ (by decide)) _).trans ?_
      exact pay8_const _ _

theorem sout_A_2 : sout0_A_2 c i arg3 harg3 arg4 harg4 arg5 harg5 arg6 harg6 arg7 harg7 arg8 harg8 arg9 harg9 arg10 harg10 hc0 hc1 q k vt = aG q k vt (k0_pay6 (F := Ideal)) (k0_pay8 (F := Ideal)) := by
  unfold sout0_A_2
  rw [View.read_writes_junk_eq_canon]
  exact canon_A_2 c i arg3 harg3 arg4 harg4 arg5 harg5 arg6 harg6 arg7 harg7 arg8 harg8 arg9 harg9 arg10 harg10 q k vt hc0 hc1

end First

section Last

variable (hc0 : ¬cond0_0 i) (hc1 : cond0_1 i) (y l : Vec Ideal S1x4096 .f32) (a : Vec Ideal S128x4096 .f32)

set_option maxHeartbeats 1000000 in
theorem canon_B_0 : View.canon (kernelRun0_B c i arg3 harg3 arg4 harg4 arg5 harg5 arg6 harg6 arg7 harg7 arg8 harg8 arg9 harg9 arg10 harg10 hc0 hc1 q k vt y l a).2.2.1 = mG q k y := by
  unfold kernelRun0_B
  dsimp only
  sl_unfold_words
  refine canon_row (mG q k y) _ ?_ ?_ ?_ ?_ ?_ ?_ ?_ ?_
  · exact m_piece q k y _ _ _ 3584 (by norm_num) (rd_k _ harg4 k _) (rd_q _ harg3 q 3584 (by norm_num) _) (rd_m _ harg8 y 3584 (by norm_num) _) _
  · exact m_piece q k y _ _ _ 3072 (by norm_num) (rd_k _ harg4 k _) (rd_q _ harg3 q 3072 (by norm_num) _) (rd_m _ harg8 y 3072 (by norm_num) _) _
  · exact m_piece q k y _ _ _ 2560 (by norm_num) (rd_k _ harg4 k _) (rd_q _ harg3 q 2560 (by norm_num) _) (rd_m _ harg8 y 2560 (by norm_num) _) _
  · exact m_piece q k y _ _ _ 2048 (by norm_num) (rd_k _ harg4 k _) (rd_q _ harg3 q 2048 (by norm_num) _) (rd_m _ harg8 y 2048 (by norm_num) _) _
  · exact m_piece q k y _ _ _ 1536 (by norm_num) (rd_k _ harg4 k _) (rd_q _ harg3 q 1536 (by norm_num) _) (rd_m _ harg8 y 1536 (by norm_num) _) _
  · exact m_piece q k y _ _ _ 1024 (by norm_num) (rd_k _ harg4 k _) (rd_q _ harg3 q 1024 (by norm_num) _) (rd_m _ harg8 y 1024 (by norm_num) _) _
  · exact m_piece q k y _ _ _ 512 (by norm_num) (rd_k _ harg4 k _) (rd_q _ harg3 q 512 (by norm_num) _) (rd_m _ harg8 y 512 (by norm_num) _) _
  · exact m_piece q k y _ _ _ 0 (by norm_num) (rd_k _ harg4 k _) (rd_q _ harg3 q 0 (by norm_num) _) (rd_m _ harg8 y 0 (by norm_num) _) _

theorem sout_B_0 : sout0_B_0 c i arg3 harg3 arg4 harg4 arg5 harg5 arg6 harg6 arg7 harg7 arg8 harg8 arg9 harg9 arg10 harg10 hc0 hc1 q k vt y l a = mG q k y := by
  unfold sout0_B_0
  rw [View.read_writes_junk_eq_canon]
  exact canon_B_0 c i arg3 harg3 arg4 harg4 arg5 harg5 arg6 harg6 arg7 harg7 arg8 harg8 arg9 harg9 arg10 harg10 q k vt hc0 hc1 y l a

set_option maxHeartbeats 1000000 in
theorem canon_B_1 : View.canon (kernelRun0_B c i arg3 harg3 arg4 harg4 arg5 harg5 arg6 harg6 arg7 harg7 arg8 harg8 arg9 harg9 arg10 harg10 hc0 hc1 q k vt y l a).2.2.2.1 = lG q k y l := by
  unfold kernelRun0_B
  dsimp only
  sl_unfold_words
  refine canon_row (lG q k y l) _ ?_ ?_ ?_ ?_ ?_ ?_ ?_ ?_
  · exact l_piece q k y l _ _ _ _ 3584 (by norm_num) (rd_k _ harg4 k _) (rd_q _ harg3 q 3584 (by norm_num) _) (rd_m _ harg8 y 3584 (by norm_num) _) (rd_m _ harg9 l 3584 (by norm_num) _) _
  · exact l_piece q k y l _ _ _ _ 3072 (by norm_num) (rd_k _ harg4 k _) (rd_q _ harg3 q 3072 (by norm_num) _) (rd_m _ harg8 y 3072 (by norm_num) _) (rd_m _ harg9 l 3072 (by norm_num) _) _
  · exact l_piece q k y l _ _ _ _ 2560 (by norm_num) (rd_k _ harg4 k _) (rd_q _ harg3 q 2560 (by norm_num) _) (rd_m _ harg8 y 2560 (by norm_num) _) (rd_m _ harg9 l 2560 (by norm_num) _) _
  · exact l_piece q k y l _ _ _ _ 2048 (by norm_num) (rd_k _ harg4 k _) (rd_q _ harg3 q 2048 (by norm_num) _) (rd_m _ harg8 y 2048 (by norm_num) _) (rd_m _ harg9 l 2048 (by norm_num) _) _
  · exact l_piece q k y l _ _ _ _ 1536 (by norm_num) (rd_k _ harg4 k _) (rd_q _ harg3 q 1536 (by norm_num) _) (rd_m _ harg8 y 1536 (by norm_num) _) (rd_m _ harg9 l 1536 (by norm_num) _) _
  · exact l_piece q k y l _ _ _ _ 1024 (by norm_num) (rd_k _ harg4 k _) (rd_q _ harg3 q 1024 (by norm_num) _) (rd_m _ harg8 y 1024 (by norm_num) _) (rd_m _ harg9 l 1024 (by norm_num) _) _
  · exact l_piece q k y l _ _ _ _ 512 (by norm_num) (rd_k _ harg4 k _) (rd_q _ harg3 q 512 (by norm_num) _) (rd_m _ harg8 y 512 (by norm_num) _) (rd_m _ harg9 l 512 (by norm_num) _) _
  · exact l_piece q k y l _ _ _ _ 0 (by norm_num) (rd_k _ harg4 k _) (rd_q _ harg3 q 0 (by norm_num) _) (rd_m _ harg8 y 0 (by norm_num) _) (rd_m _ harg9 l 0 (by norm_num) _) _

theorem sout_B_1 : sout0_B_1 c i arg3 harg3 arg4 harg4 arg5 harg5 arg6 harg6 arg7 harg7 arg8 harg8 arg9 harg9 arg10 harg10 hc0 hc1 q k vt y l a = lG q k y l := by
  unfold sout0_B_1
  rw [View.read_writes_junk_eq_canon]
  exact canon_B_1 c i arg3 harg3 arg4 harg4 arg5 harg5 arg6 harg6 arg7 harg7 arg8 harg8 arg9 harg9 arg10 harg10 q k vt hc0 hc1 y l a

set_option maxHeartbeats 1000000 in
theorem canon_B_2 : View.canon (kernelRun0_B c i arg3 harg3 arg4 harg4 arg5 harg5 arg6 harg6 arg7 harg7 arg8 harg8 arg9 harg9 arg10 harg10 hc0 hc1 q k vt y l a).2.2.2.2.1 = aG q k vt y a := by
  unfold kernelRun0_B
  dsimp only
  sl_unfold_words
  refine canon_tile (aG q k vt y a) _ ?_ ?_ ?_ ?_ ?_ ?_ ?_ ?_
  · exact a_piece q k vt y a _ _ _ _ _ 3584 (by norm_num) (rd_k _ harg4 k _) (rd_v _ harg5 vt _) (rd_q _ harg3 q 3584 (by norm_num) _) (rd_m _ harg8 y 3584 (by norm_num) _) (rd_a _ harg10 a 3584 (by norm_num) _) _
  · exact a_piece q k vt y a _ _ _ _ _ 3072 (by norm_num) (rd_k _ harg4 k _) (rd_v _ harg5 vt _) (rd_q _ harg3 q 3072 (by norm_num) _) (rd_m _ harg8 y 3072 (by norm_num) _) (rd_a _ harg10 a 3072 (by norm_num) _) _
  · exact a_piece q k vt y a _ _ _ _ _ 2560 (by norm_num) (rd_k _ harg4 k _) (rd_v _ harg5 vt _) (rd_q _ harg3 q 2560 (by norm_num) _) (rd_m _ harg8 y 2560 (by norm_num) _) (rd_a _ harg10 a 2560 (by norm_num) _) _
  · exact a_piece q k vt y a _ _ _ _ _ 2048 (by norm_num) (rd_k _ harg4 k _) (rd_v _ harg5 vt _) (rd_q _ harg3 q 2048 (by norm_num) _) (rd_m _ harg8 y 2048 (by norm_num) _) (rd_a _ harg10 a 2048 (by norm_num) _) _
  · exact a_piece q k vt y a _ _ _ _ _ 1536 (by norm_num) (rd_k _ harg4 k _) (rd_v _ harg5 vt _) (rd_q _ harg3 q 1536 (by norm_num) _) (rd_m _ harg8 y 1536 (by norm_num) _) (rd_a _ harg10 a 1536 (by norm_num) _) _
  · exact a_piece q k vt y a _ _ _ _ _ 1024 (by norm_num) (rd_k _ harg4 k _) (rd_v _ harg5 vt _) (rd_q _ harg3 q 1024 (by norm_num) _) (rd_m _ harg8 y 1024 (by norm_num) _) (rd_a _ harg10 a 1024 (by norm_num) _) _
  · exact a_piece q k vt y a _ _ _ _ _ 512 (by norm_num) (rd_k _ harg4 k _) (rd_v _ harg5 vt _) (rd_q _ harg3 q 512 (by norm_num) _) (rd_m _ harg8 y 512 (by norm_num) _) (rd_a _ harg10 a 512 (by norm_num) _) _
  · exact a_piece q k vt y a _ _ _ _ _ 0 (by norm_num) (rd_k _ harg4 k _) (rd_v _ harg5 vt _) (rd_q _ harg3 q 0 (by norm_num) _) (rd_m _ harg8 y 0 (by norm_num) _) (rd_a _ harg10 a 0 (by norm_num) _) _

theorem sout_B_2 : sout0_B_2 c i arg3 harg3 arg4 harg4 arg5 harg5 arg6 harg6 arg7 harg7 arg8 harg8 arg9 harg9 arg10 harg10 hc0 hc1 q k vt y l a = aG q k vt y a := by
  unfold sout0_B_2
  rw [View.read_writes_junk_eq_canon]
  exact canon_B_2 c i arg3 harg3 arg4 harg4 arg5 harg5 arg6 harg6 arg7 harg7 arg8 harg8 arg9 harg9 arg10 harg10 q k vt hc0 hc1 y l a

set_option maxHeartbeats 1000000 in
theorem out_B_3 : out0_B_3 c i arg3 harg3 arg4 harg4 arg5 harg5 arg6 harg6 arg7 harg7 arg8 harg8 arg9 harg9 arg10 harg10 hc0 hc1 q k vt y l a = k0_pay4 (aG q k vt y a) (lG q k y l) := by
  unfold out0_B_3 kernelRun0_B
  dsimp only
  sl_unfold_words
  refine (View.read_writes_full _ _ _ _ _).trans ?_
  refine congrArg₂ k0_pay4 ?_ ?_
  · refine (View.readCov_eq_canon' _ _ _).trans (funext fun j => ?_)
    refine (congrFun (canon_B_2 c i arg3 harg3 arg4 harg4 arg5 harg5 arg6 harg6 arg7 harg7 arg8 harg8 arg9 harg9 arg10 harg10 q k vt hc0 hc1 y l a) _).trans (congrArg (aG q k vt y a) ?_)
    exact Rect.emb_unit_full _ j
  · refine (View.readCov_eq_canon' _ _ _).trans (funext fun j => ?_)
    refine (congrFun (canon_B_1 c i arg3 harg3 arg4 harg4 arg5 harg5 arg6 harg6 arg7 harg7 arg8 harg8 arg9 harg9 arg10 harg10 q k vt hc0 hc1 y l a) _).trans (congrArg (lG q k y l) ?_)
    exact Rect.emb_unit_full _ j

set_option maxHeartbeats 1000000 in
theorem out_B_4 : out0_B_4 c i arg3 harg3 arg4 harg4 arg5 harg5 arg6 harg6 arg7 harg7 arg8 harg8 arg9 harg9 arg10 harg10 hc0 hc1 q k vt y l a = k0_pay5 (mG q k y) (lG q k y l) := by
  unfold out0_B_4 kernelRun0_B
  dsimp only
  sl_unfold_words
  refine (View.read_writes_full _ _ _ _ _).trans ?_
  refine congrArg₂ k0_pay5 ?_ ?_
  · refine (View.readCov_eq_canon' _ _ _).trans (funext fun j => ?_)
    refine (congrFun (canon_B_0 c i arg3 harg3 arg4 harg4 arg5 harg5 arg6 harg6 arg7 harg7 arg8 harg8 arg9 harg9 arg10 harg10 q k vt hc0 hc1 y l a) _).trans (congrArg (mG q k y) ?_)
    exact Rect.emb_unit_full _ j
  · refine (View.readCov_eq_canon' _ _ _).trans (funext fun j => ?_)
    refine (congrFun (canon_B_1 c i arg3 harg3 arg4 harg4 arg5 harg5 arg6 harg6 arg7 harg7 arg8 harg8 arg9 harg9 arg10 harg10 q k vt hc0 hc1 y l a) _).trans (congrArg (lG q k y l) ?_)
    exact Rect.emb_unit_full _ j

end Last

end Cert.Kernel17Ideal.Hand

end
-- ==== Proof.MlaReal.lean ====
/-
  The call `mla` at blocks of reals: the running mass and numerator are the sums of the exponentials of the scores, times
  the exponential of minus the largest score so far, and that factor leaves the results.
-/
module

public import proofs.«01_k».proof.Proof.MlaStep
public import proofs.«01_k».proof.Proof.Lift

@[expose] public section

set_option maxRecDepth 16384

noncomputable section

namespace Cert.Kernel17Ideal.Hand

open Cert.Kernel17Ideal Cert.Kernel17Ideal.Gen Cert.Lift Cert.Attention
open Idealize.ShloMosaic Idealize.ShloMosaic.TcCoe Idealize.ShloMosaic.Pointwise

/-- The power of two of a scaled difference is the exponential of the difference over the root. -/
theorem exp2_scaled (z : ℝ) : Ideal.exp2 ((z : EReal) * scl2e) = (Real.exp (z / rt) : EReal) := by
  rw [← EReal.coe_mul, Ideal.exp2_coe]
  refine congrArg _ ((Real.rpow_def_of_pos (by norm_num) _).trans (congrArg _ ?_))
  have h2 : Real.log 2 ≠ 0 := (Real.log_pos (by norm_num)).ne'
  unfold rt
  field_simp

theorem least_real : IsReal (FloatOps.ofBits (F := Ideal) .f32 0xF149F2CA#32) := by
  show IsReal (Ideal.ofBits .f32 0xF149F2CA#32)
  simp [Ideal.ofBits, Ideal.ieee, -EReal.coe_mul]
  exact ⟨_, rfl⟩

section Step

variable {q k : Vec Ideal S1x4096x192 .bf16} {vt : Vec Ideal S1x128x4096 .bf16} {y l : Vec Ideal S1x4096 .f32} {a : Vec Ideal S128x4096 .f32}
  {S : Fin 4096 → ℝ} {V : Fin 128 → Fin 4096 → ℝ} {x : Fin 4096} {Y L : ℝ} {A : Fin 128 → ℝ}

theorem mNew_real (hS : ∀ r, st q k r x = (S r : EReal)) (hy : y (ix2 0 x) = (Y : EReal)) : ∃ M : ℝ, mNew q k y x = (M : EReal) := by
  unfold mNew
  rcases fold_max (Finset.univ : Finset (Fin 4096)) (fun r => st q k r x) (fun r => ⟨_, hS r⟩) with ⟨e, _⟩ | ⟨F, e⟩
  · exact absurd (Finset.mem_univ (0 : Fin 4096)) (by rw [e]; simp)
  · rw [e, hy]
    rcases max_choice (Y : EReal) (F : EReal) with e | e <;> exact ⟨_, e⟩

/-- One block of keys: mass and numerator gain the block's terms, all relative to the new largest score. -/
theorem step (hS : ∀ r, st q k r x = (S r : EReal)) (hV : ∀ c r, vt (ix3 0 c r) = (V c r : EReal)) (hy : y (ix2 0 x) = (Y : EReal))
    (hl : l (ix2 0 x) = ((Real.exp (-Y / rt) * L : ℝ) : EReal)) (ha : ∀ c, a (ix2 c x) = ((Real.exp (-Y / rt) * A c : ℝ) : EReal)) :
    ∃ M : ℝ, mG q k y (ix2 0 x) = (M : EReal)
      ∧ lG q k y l (ix2 0 x) = ((Real.exp (-M / rt) * (L + ∑ r, Real.exp (S r / rt)) : ℝ) : EReal)
      ∧ ∀ c, aG q k vt y a (ix2 c x) = ((Real.exp (-M / rt) * (A c + ∑ r, V c r * Real.exp (S r / rt)) : ℝ) : EReal) := by
  obtain ⟨M, hM⟩ := mNew_real hS hy
  have hal : alpha q k y x = ((Real.exp ((Y - M) / rt) : ℝ) : EReal) := by
    unfold alpha
    rw [hM, hy, ← EReal.coe_sub, exp2_scaled]
  have hpt : ∀ r, pt q k y r x = ((Real.exp ((S r - M) / rt) : ℝ) : EReal) := fun r => by
    unfold pt
    rw [hM, hS, ← EReal.coe_sub, exp2_scaled]
  have e1 : Real.exp ((Y - M) / rt) * Real.exp (-Y / rt) = Real.exp (-M / rt) := by
    rw [← Real.exp_add]; congr 1; ring
  have e2 : ∀ r, Real.exp ((S r - M) / rt) = Real.exp (-M / rt) * Real.exp (S r / rt) := fun r => by
    rw [← Real.exp_add]; congr 1; ring
  refine ⟨M, hM, ?_, fun c => ?_⟩
  · show lNew q k y l x = _
    unfold lNew
    simp only [hpt]
    rw [hal, hl, coe_sum, ← EReal.coe_mul, ← EReal.coe_add, ← mul_assoc, e1, mul_add, Finset.mul_sum]
    simp only [e2]
  · show aNew q k vt y a c x = _
    unfold aNew
    simp only [hpt, hV, ← EReal.coe_mul]
    rw [hal, ha, coe_sum, ← EReal.coe_mul, ← EReal.coe_add, ← mul_assoc, e1, mul_add, Finset.mul_sum]
    simp only [e2]
    exact congrArg (fun z : ℝ => ((Real.exp (-M / rt) * A c + z : ℝ) : EReal)) (Finset.sum_congr rfl fun r _ => by ring)

end Step

section Both

variable {q0 q1 k0 k1 : Vec Ideal S1x4096x192 .bf16} {v0 v1 : Vec Ideal S1x128x4096 .bf16}
  {S0 S1 : Fin 4096 → ℝ} {V0 V1 : Fin 128 → Fin 4096 → ℝ} {x : Fin 4096}

/-- What the two blocks of keys leave of a query. -/
theorem both (h0 : ∀ r, st q0 k0 r x = (S0 r : EReal)) (h1 : ∀ r, st q1 k1 r x = (S1 r : EReal))
    (g0 : ∀ c r, v0 (ix3 0 c r) = (V0 c r : EReal)) (g1 : ∀ c r, v1 (ix3 0 c r) = (V1 c r : EReal)) :
    ∃ M : ℝ, mG q1 k1 (mG q0 k0 (k0_pay6 (F := Ideal))) (ix2 0 x) = (M : EReal)
      ∧ lG q1 k1 (mG q0 k0 (k0_pay6 (F := Ideal))) (lG q0 k0 (k0_pay6 (F := Ideal)) (k0_pay7 (F := Ideal))) (ix2 0 x)
          = ((Real.exp (-M / rt) * (∑ r, Real.exp (S0 r / rt) + ∑ r, Real.exp (S1 r / rt)) : ℝ) : EReal)
      ∧ ∀ c, aG q1 k1 v1 (mG q0 k0 (k0_pay6 (F := Ideal))) (aG q0 k0 v0 (k0_pay6 (F := Ideal)) (k0_pay8 (F := Ideal))) (ix2 c x)
          = ((Real.exp (-M / rt) * (∑ r, V0 c r * Real.exp (S0 r / rt) + ∑ r, V1 c r * Real.exp (S1 r / rt)) : ℝ) : EReal) := by
  obtain ⟨Y, hY⟩ := least_real
  obtain ⟨M, hm, hl, ha⟩ := step (y := k0_pay6 (F := Ideal)) (l := k0_pay7 (F := Ideal)) (a := k0_pay8 (F := Ideal)) (Y := Y) (L := 0) (A := fun _ => 0) h0 g0 hY
    (by rw [mul_zero]; exact nil_eq) (fun c => by rw [mul_zero]; exact nil_eq)
  simp only [zero_add] at hl ha
  exact step h1 g1 hm hl ha

theorem mass2_pos (S0 S1 : Fin 4096 → ℝ) : 0 < ∑ r, Real.exp (S0 r / rt) + ∑ r, Real.exp (S1 r / rt) :=
  add_pos (Finset.sum_pos (fun r _ => Real.exp_pos _) ⟨0, Finset.mem_univ _⟩) (Finset.sum_pos (fun r _ => Real.exp_pos _) ⟨0, Finset.mem_univ _⟩)

variable (h0 : ∀ r, st q0 k0 r x = (S0 r : EReal)) (h1 : ∀ r, st q1 k1 r x = (S1 r : EReal))
    (g0 : ∀ c r, v0 (ix3 0 c r) = (V0 c r : EReal)) (g1 : ∀ c r, v1 (ix3 0 c r) = (V1 c r : EReal))

include h0 h1 g0 g1

theorem out_real (c : Fin 128) :
    k0_pay4 (aG q1 k1 v1 (mG q0 k0 (k0_pay6 (F := Ideal))) (aG q0 k0 v0 (k0_pay6 (F := Ideal)) (k0_pay8 (F := Ideal))))
        (lG q1 k1 (mG q0 k0 (k0_pay6 (F := Ideal))) (lG q0 k0 (k0_pay6 (F := Ideal)) (k0_pay7 (F := Ideal)))) (ix2 x c)
      = (((∑ r, V0 c r * Real.exp (S0 r / rt) + ∑ r, V1 c r * Real.exp (S1 r / rt)) / (∑ r, Real.exp (S0 r / rt) + ∑ r, Real.exp (S1 r / rt)) : ℝ) : EReal) := by
  obtain ⟨M, _, hl, ha⟩ := both h0 h1 g0 g1
  rw [pay4_at, hl, ha, div_coe _ _ (mul_pos (Real.exp_pos _) (mass2_pos S0 S1)).ne', mul_div_mul_left _ _ (Real.exp_pos _).ne']

theorem lse_real :
    k0_pay5 (mG q1 k1 (mG q0 k0 (k0_pay6 (F := Ideal))))
        (lG q1 k1 (mG q0 k0 (k0_pay6 (F := Ideal))) (lG q0 k0 (k0_pay6 (F := Ideal)) (k0_pay7 (F := Ideal)))) (ix3 0 0 x)
      = ((Real.log (∑ r, Real.exp (S0 r / rt) + ∑ r, Real.exp (S1 r / rt)) : ℝ) : EReal) := by
  obtain ⟨M, hm, hl, _⟩ := both h0 h1 g0 g1
  have hp := mul_pos (Real.exp_pos (-M / rt)) (mass2_pos S0 S1)
  rw [pay5_at, hm, hl, Ideal.log_coe, if_neg (not_le.2 hp), ← EReal.coe_mul, ← EReal.coe_add,
    Real.log_mul (Real.exp_pos _).ne' (mass2_pos S0 S1).ne', Real.log_exp]
  refine congrArg _ ?_
  unfold rt
  ring

end Both

end Cert.Kernel17Ideal.Hand

end
-- ==== Proof.MlaRef.lean ====
/-
  The call `mla`, its reference at arguments that are reals: attention and the logarithm of its mass, over the reals.
-/
module

public import proofs.«01_k».proof.Proof.Gen.Reference17Ideal.Read
public import proofs.«01_k».proof.Proof.Lift
public import proofs.«01_k».proof.Proof.Gather

@[expose] public section

set_option maxRecDepth 16384

noncomputable section

namespace Cert.Attention

open Cert.Softmax

variable (q k : Fin 8 → Fin 8192 → Fin 192 → ℝ) (v : Fin 8 → Fin 8192 → Fin 128 → ℝ)

/-- The output of attention: the weighted sum of the values. -/
def attend (h : Fin 8) (i : Fin 8192) (c : Fin 128) : ℝ := ∑ j : Fin 8192, v h j c * weight q k h i j

/-- The logarithm of the sum of the scores' exponentials. -/
def logmass (h : Fin 8) (i : Fin 8192) : ℝ := Real.log (∑ j : Fin 8192, Real.exp (score q k h i j))

end Cert.Attention

namespace Cert.Reference17Ideal.Hand

open Cert.Reference17Ideal Cert.Reference17Ideal.Gen Cert.Reference17Ideal.Read Cert.Lift Cert.Attention Cert.Softmax
open Cert.KernelIdeal.Hand (hcol)
open Idealize.ShloMosaic Idealize.ShloMosaic.TcCoe Idealize.ShloMosaic.Pointwise

/-- The queries, keys and values the arguments give, as reals. -/
structure Real5 (x0 x2 x4 : Vec Ideal S8192x8x128 .bf16) (x1 : Vec Ideal S8192x8x64 .bf16) (x3 : Vec Ideal S8192x64 .bf16)
    (q k : Fin 8 → Fin 8192 → Fin 192 → ℝ) (v : Fin 8 → Fin 8192 → Fin 128 → ℝ) : Prop where
  query : ∀ h i d, val_main_v2 (F := Ideal) x0 x1 (ix3 i h d) = (q h i d : EReal)
  key : ∀ h j d, val_main_v4 (F := Ideal) x2 x3 (ix3 j h d) = (k h j d : EReal)
  value : ∀ h j c, x4 (ix3 j h c) = (v h j c : EReal)

/-- Arguments whose entries are reals give them. -/
theorem real5 (x0 x2 x4 : Vec Ideal S8192x8x128 .bf16) (x1 : Vec Ideal S8192x8x64 .bf16) (x3 : Vec Ideal S8192x64 .bf16)
    (h0 : ∀ i, IsReal (x0 i)) (h1 : ∀ i, IsReal (x1 i)) (h2 : ∀ i, IsReal (x2 i)) (h3 : ∀ i, IsReal (x3 i)) (h4 : ∀ i, IsReal (x4 i)) :
    Real5 x0 x2 x4 x1 x3 (fun h i d => (val_main_v2 (F := Ideal) x0 x1 (ix3 i h d)).toReal) (fun h j d => (val_main_v4 (F := Ideal) x2 x3 (ix3 j h d)).toReal)
      (fun h j c => (x4 (ix3 j h c)).toReal) where
  query h i d := by
    refine IsReal.eq ?_
    unfold val_main_v2
    refine concatenate_forall (P := fun x : EReal => IsReal x) _ _ _ _ (fun p hp => ?_) _
    rcases List.mem_cons.1 hp with rfl | hp
    · exact h0
    · rcases List.mem_cons.1 hp with rfl | hp
      · exact h1
      · exact absurd hp (by simp)
  key h i d := by
    refine IsReal.eq ?_
    unfold val_main_v4
    refine concatenate_forall (P := fun x : EReal => IsReal x) _ _ _ _ (fun p hp => ?_) _
    rcases List.mem_cons.1 hp with rfl | hp
    · exact h2
    · rcases List.mem_cons.1 hp with rfl | hp
      · intro i
        show IsReal (val_main_v1 (F := Ideal) x3 i)
        rw [val_main_v1_apply, val_main_v0_apply]
        exact h3 _
      · exact absurd hp (by simp)
  value h j c := (h4 _).eq

variable {x0 x2 x4 : Vec Ideal S8192x8x128 .bf16} {x1 : Vec Ideal S8192x8x64 .bf16} {x3 : Vec Ideal S8192x64 .bf16}
  {q k : Fin 8 → Fin 8192 → Fin 192 → ℝ} {v : Fin 8 → Fin 8192 → Fin 128 → ℝ} (R : Real5 x0 x2 x4 x1 x3 q k v)

include R

theorem q_real (h : Fin 8) (i : Fin 8192) (d : Fin 192) : val_main_v3 (F := Ideal) x0 x1 (ix3 i h d) = (q h i d : EReal) := R.query h i d

theorem k_real (h : Fin 8) (j : Fin 8192) (d : Fin 192) : val_main_v5 (F := Ideal) x2 x3 (ix3 j h d) = (k h j d : EReal) := R.key h j d

theorem v_real (h : Fin 8) (j : Fin 8192) (c : Fin 128) : val_main_v10 (F := Ideal) x4 (ix3 j h c) = (v h j c : EReal) := R.value h j c

theorem dot_real (h : Fin 8) (i j : Fin 8192) : val_main_v6 (F := Ideal) x0 x1 x2 x3 (ix3 h i j) = (dot q k h i j : EReal) := by
  unfold dot
  rw [val_main_v6_apply, ← coe_sum]
  refine Finset.sum_congr rfl fun d _ => ?_
  rw [EReal.coe_mul, ← q_real R, ← k_real R]
  refine congrArg₂ _ ?_ ?_ <;> exact congrArg _ (funext fun a => match a with | ⟨0, _⟩ => rfl | ⟨1, _⟩ => rfl | ⟨2, _⟩ => rfl)

theorem dot_real' (h : Fin 8) (i j : Fin 8192) : val_main_v11 (F := Ideal) x0 x1 x2 x3 (ix3 h i j) = (dot q k h i j : EReal) := by
  unfold dot
  rw [val_main_v11_apply, ← coe_sum]
  refine Finset.sum_congr rfl fun d _ => ?_
  rw [EReal.coe_mul, ← q_real R, ← k_real R]
  refine congrArg₂ _ ?_ ?_ <;> exact congrArg _ (funext fun a => match a with | ⟨0, _⟩ => rfl | ⟨1, _⟩ => rfl | ⟨2, _⟩ => rfl)

theorem score_real (h : Fin 8) (i j : Fin 8192) : val_main_v9 (F := Ideal) x0 x1 x2 x3 (ix3 h i j) = (score q k h i j : EReal) := by
  rw [val_main_v9_apply, dot_real R, val_main_v8_apply, val_main_v7_apply, val_main_cst_apply, root_eq, Ideal.hostDivf_def, div_coe _ _ rt_ne]
  rfl

theorem score_real' (h : Fin 8) (i j : Fin 8192) : val_main_v14 (F := Ideal) x0 x1 x2 x3 (ix3 h i j) = (score q k h i j : EReal) := by
  rw [val_main_v14_apply, dot_real' R, val_main_v13_apply, val_main_v12_apply, val_main_cst_0_apply, root_eq, Ideal.hostDivf_def, div_coe _ _ rt_ne]
  rfl

theorem top_real (h : Fin 8) (i : Fin 8192) : IsReal (val_main_v17 (F := Ideal) x0 x1 x2 x3 (ix2 h i)) := by
  rw [val_main_v17_apply, val_main_v16_apply, val_main_cst_2_apply, bot_eq, Ideal.maximumf_def, max_bot_left]
  unfold val_main_v15
  refine reduce_max _ _ _ (by decide) _ _ (by decide) (fun y => ?_) fun _ => bot_eq
  rw [eq_ix3 y]
  exact ⟨_, score_real' R (y 0) (y 1) (y 2)⟩

/-- The largest score of a row, as the reference finds it. -/
def top (x0 x2 : Vec Ideal S8192x8x128 .bf16) (x1 : Vec Ideal S8192x8x64 .bf16) (x3 : Vec Ideal S8192x64 .bf16) (h : Fin 8) (i : Fin 8192) : ℝ :=
  (val_main_v17 (F := Ideal) x0 x1 x2 x3 (ix2 h i)).toReal

theorem topCol_real (h : Fin 8) (i : Fin 8192) : val_main_v18 (F := Ideal) x0 x1 x2 x3 (ix3 h i 0) = (top x0 x2 x1 x3 h i : EReal) := by
  rw [val_main_v18_apply, show idx_main_v18 (ix3 h i (0 : Fin 1)) = ix2 h i from funext fun a => match a with | ⟨0, _⟩ => rfl | ⟨1, _⟩ => rfl]
  exact (top_real R h i).eq

theorem expo_real (h : Fin 8) (i j : Fin 8192) :
    val_main_v21 (F := Ideal) x0 x1 x2 x3 (ix3 h i j) = (Real.exp (score q k h i j - top x0 x2 x1 x3 h i) : EReal) := by
  rw [val_main_v21_apply, val_main_v20_apply, score_real' R, val_main_v19_apply,
    show idx_main_v19 (ix3 h i j) = ix3 h i (0 : Fin 1) from funext fun a => match a with | ⟨0, _⟩ => rfl | ⟨1, _⟩ => rfl | ⟨2, _⟩ => rfl,
    topCol_real R, Ideal.subf_def, ← EReal.coe_sub, Ideal.hostUnary_exp_def, Ideal.exp_coe]

theorem mass_real (h : Fin 8) (i : Fin 8192) :
    val_main_v22 (F := Ideal) x0 x1 x2 x3 (ix2 h i) = (mass (score q k h i) (top x0 x2 x1 x3 h i) : EReal) := by
  unfold mass
  rw [val_main_v22_apply, ← coe_sum, val_main_cst_3_apply, nil_eq, zero_add]
  refine Finset.sum_congr rfl fun j _ => ?_
  rw [← expo_real R]
  exact congrArg _ (funext fun a => match a with | ⟨0, _⟩ => rfl | ⟨1, _⟩ => rfl | ⟨2, _⟩ => rfl)

theorem massCol_real (h : Fin 8) (i : Fin 8192) :
    val_main_v23 (F := Ideal) x0 x1 x2 x3 (ix3 h i 0) = (mass (score q k h i) (top x0 x2 x1 x3 h i) : EReal) := by
  rw [val_main_v23_apply, ← mass_real R]
  exact congrArg _ (funext fun a => match a with | ⟨0, _⟩ => rfl | ⟨1, _⟩ => rfl)

theorem weight_real (h : Fin 8) (i j : Fin 8192) : val_main_v25 (F := Ideal) x0 x1 x2 x3 (ix3 h i j) = (weight q k h i j : EReal) := by
  rw [val_main_v25_apply, expo_real R, val_main_v24_apply,
    show idx_main_v24 (ix3 h i j) = ix3 h i (0 : Fin 1) from funext fun a => match a with | ⟨0, _⟩ => rfl | ⟨1, _⟩ => rfl | ⟨2, _⟩ => rfl,
    massCol_real R, Ideal.hostDivf_def, div_coe _ _ (mass_pos _ _).ne', shift]
  rfl

theorem out_real (h : Fin 8) (i : Fin 8192) (c : Fin 128) :
    val_main_v28 (F := Ideal) x0 x1 x2 x3 x4 (ix2 i (hcol h c)) = (attend q k v h i c : EReal) := by
  unfold attend
  rw [val_main_v28_apply, show idx_main_v28 (ix2 i (hcol h c)) = ix3 i h c from funext fun a => Fin.ext (by
      match a with
      | ⟨0, _⟩ => show (i.val * 1024 + (h.val * 128 + c.val)) / 1024 = i.val; omega
      | ⟨1, _⟩ => show (i.val * 1024 + (h.val * 128 + c.val)) / 128 % 8 = h.val; omega
      | ⟨2, _⟩ => show (i.val * 1024 + (h.val * 128 + c.val)) % 128 = c.val; omega),
    val_main_v27_apply, val_main_v26_apply, ← coe_sum]
  refine Finset.sum_congr rfl fun j _ => ?_
  rw [EReal.coe_mul, ← v_real R, ← weight_real R]
  refine congrArg₂ _ ?_ ?_ <;> exact congrArg _ (funext fun a => match a with | ⟨0, _⟩ => rfl | ⟨1, _⟩ => rfl | ⟨2, _⟩ => rfl)

theorem lse_real (h : Fin 8) (i : Fin 8192) : val_main_v32 (F := Ideal) x0 x1 x2 x3 (ix3 h 0 i) = (logmass q k h i : EReal) := by
  have hp : 0 < ∑ j : Fin 8192, Real.exp (score q k h i j) := Finset.sum_pos (fun j _ => Real.exp_pos _) ⟨0, Finset.mem_univ _⟩
  have e : val_main_v30 (F := Ideal) x0 x1 x2 x3 (ix2 h i) = ((∑ j : Fin 8192, Real.exp (score q k h i j) : ℝ) : EReal) := by
    rw [val_main_v30_apply, ← coe_sum, val_main_cst_4_apply, nil_eq, zero_add]
    refine Finset.sum_congr rfl fun j _ => ?_
    rw [val_main_v29_apply, show idx_main_v30 (ix2 h i) j = ix3 h i j from funext fun a => match a with | ⟨0, _⟩ => rfl | ⟨1, _⟩ => rfl | ⟨2, _⟩ => rfl,
      score_real R, Ideal.hostUnary_exp_def, Ideal.exp_coe]
  unfold logmass
  rw [val_main_v32_apply, show idx_main_v32 (ix3 h (0 : Fin 1) i) = ix2 h i from funext fun a => Fin.ext (by
      match a with
      | ⟨0, _⟩ => show ((h.val * 1 + 0) * 8192 + i.val) / 8192 = h.val; omega
      | ⟨1, _⟩ => show ((h.val * 1 + 0) * 8192 + i.val) % 8192 = i.val; omega),
    val_main_v31_apply, e, Ideal.hostUnary_log_def, Ideal.log_coe, if_neg (not_le.2 hp)]

end Cert.Reference17Ideal.Hand

end
-- ==== Proof.MlaGrid.lean ====
/-
  The call `mla` over its grid: a point is a head, a block of 4096 queries and a block of 4096 keys; the second block of keys
  closes the head's queries. With reals for operands the two result arrays are attention and the logarithm of its mass.
-/
module

public import proofs.«01_k».proof.Proof.Gen.Kernel17Ideal.Value
public import proofs.«01_k».proof.Proof.MlaCases
public import proofs.«01_k».proof.Proof.MlaReal
public import proofs.«01_k».proof.Proof.MlaRef
public import Idealize.ShloMosaic.Lib.Pipeline.ValueKit

@[expose] public section

set_option maxRecDepth 16384

noncomputable section

namespace Cert.Kernel17Ideal.Hand

open Cert.Kernel17Ideal Cert.Kernel17Ideal.Gen Cert.Lift Cert.Attention Cert.Softmax
open Cert.KernelIdeal.Hand (hcol chd)
open Idealize.ShloMosaic Idealize.ShloMosaic.TcCoe Idealize.ShloMosaic.Pointwise Idealize.SL.Sem
open Idealize.ShloMosaic.Pipeline (Dat)

variable (m : (ℓ : Loc nD τ sig) → Buf (Elt Ideal) ℓ) (c : Dev nD)

theorem idx0 : ∀ t : Fin grid0.N, win0_0.index t = ![t.val / 4, t.val / 2 % 2, 0] := by decide +kernel
theorem idx1 : ∀ t : Fin grid0.N, win0_1.index t = ![t.val / 4, t.val % 2, 0] := by decide +kernel
theorem idx2 : ∀ t : Fin grid0.N, win0_2.index t = ![t.val / 4, 0, t.val % 2] := by decide +kernel
theorem idx3 : ∀ t : Fin grid0.N, win0_3.index t = ![t.val / 2 % 2, t.val / 4] := by decide +kernel
theorem idx4 : ∀ t : Fin grid0.N, win0_4.index t = ![t.val / 4, 0, t.val / 2 % 2] := by decide +kernel

/-- The operands of the call as it is launched: queries, keys, values. -/
abbrev oQ : Vec Ideal S8x8192x192 .bf16 := V m c main_v3
abbrev oK : Vec Ideal S8x8192x192 .bf16 := V m c main_v5
abbrev oV : Vec Ideal S8x128x8192 .bf16 := V m c main_v6

/-- A point's head. -/
def hd (t : Fin cfg0.N) : Fin 8 := ⟨t.val / 4, by have := Nat.lt_of_lt_of_eq t.isLt N_0; omega⟩
/-- Query `x` of a point's block, in the sequence. -/
def qr (t : Fin cfg0.N) (x : Fin 4096) : Fin 8192 := ⟨t.val / 2 % 2 * 4096 + x.val, by omega⟩
/-- Key `r` of a point's block, in the sequence. -/
def kr (t : Fin cfg0.N) (r : Fin 4096) : Fin 8192 := ⟨t.val % 2 * 4096 + r.val, by omega⟩

theorem blk0_at (t : Fin cfg0.N) (x : Fin 4096) (d : Fin 192) :
    (iblk m c 0 t : Vec Ideal S1x4096x192 .bf16) (ix3 0 x d) = oQ m c (ix3 (hd t) (qr t x) d) := by
  blk_ext [iblk, idx0, hd, qr]

theorem blk1_at (t : Fin cfg0.N) (r : Fin 4096) (d : Fin 192) :
    (iblk m c 1 t : Vec Ideal S1x4096x192 .bf16) (ix3 0 r d) = oK m c (ix3 (hd t) (kr t r) d) := by
  blk_ext [iblk, idx1, hd, kr]

theorem blk2_at (t : Fin cfg0.N) (e : Fin 128) (r : Fin 4096) :
    (iblk m c 2 t : Vec Ideal S1x128x4096 .bf16) (ix3 0 e r) = oV m c (ix3 (hd t) e (kr t r)) := by
  blk_ext [iblk, idx2, hd, kr]

section First

variable (p : Fin cfg0.N) (g0 : p.val % 2 = 0) (g1 : ¬p.val % 2 = 1)

include g0 g1

theorem first_m : (outsAt0 m c p.val p.isLt).2.2.1
    = mG (iblk m c 0 p) (iblk m c 1 p) (k0_pay6 (F := Ideal)) := by
  rw [outsAt0_A m c p g0 g1]
  dsimp only
  exact sout_A_0 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) (iblk m c 0 p) (iblk m c 1 p) (iblk m c 2 p) ((hcond0_0 p).mpr g0) (fun h => g1 ((hcond0_1 p).mp h))

theorem first_l : (outsAt0 m c p.val p.isLt).2.2.2.1
    = lG (iblk m c 0 p) (iblk m c 1 p) (k0_pay6 (F := Ideal)) (k0_pay7 (F := Ideal)) := by
  rw [outsAt0_A m c p g0 g1]
  dsimp only
  exact sout_A_1 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) (iblk m c 0 p) (iblk m c 1 p) (iblk m c 2 p) ((hcond0_0 p).mpr g0) (fun h => g1 ((hcond0_1 p).mp h))

theorem first_a : (outsAt0 m c p.val p.isLt).2.2.2.2
    = aG (iblk m c 0 p) (iblk m c 1 p) (iblk m c 2 p) (k0_pay6 (F := Ideal)) (k0_pay8 (F := Ideal)) := by
  rw [outsAt0_A m c p g0 g1]
  dsimp only
  exact sout_A_2 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) (iblk m c 0 p) (iblk m c 1 p) (iblk m c 2 p) ((hcond0_0 p).mpr g0) (fun h => g1 ((hcond0_1 p).mp h))

end First

/-- The point before. -/
def prev (t : Fin cfg0.N) : Fin cfg0.N := ⟨t.val - 1, Nat.lt_of_le_of_lt (Nat.sub_le _ _) t.isLt⟩

section Points

variable (t : Fin cfg0.N) (h1 : t.val % 2 = 1)

include h1

theorem prev_m : (outsAt0 m c (t.val - 1) (Nat.lt_of_le_of_lt (Nat.sub_le _ _) t.isLt)).2.2.1
    = mG (iblk m c 0 (prev t)) (iblk m c 1 (prev t)) (k0_pay6 (F := Ideal)) :=
  first_m m c (prev t) (by show (t.val - 1) % 2 = 0; omega) (by show ¬(t.val - 1) % 2 = 1; omega)

theorem prev_l : (outsAt0 m c (t.val - 1) (Nat.lt_of_le_of_lt (Nat.sub_le _ _) t.isLt)).2.2.2.1
    = lG (iblk m c 0 (prev t)) (iblk m c 1 (prev t)) (k0_pay6 (F := Ideal)) (k0_pay7 (F := Ideal)) :=
  first_l m c (prev t) (by show (t.val - 1) % 2 = 0; omega) (by show ¬(t.val - 1) % 2 = 1; omega)

theorem prev_a : (outsAt0 m c (t.val - 1) (Nat.lt_of_le_of_lt (Nat.sub_le _ _) t.isLt)).2.2.2.2
    = aG (iblk m c 0 (prev t)) (iblk m c 1 (prev t)) (iblk m c 2 (prev t)) (k0_pay6 (F := Ideal)) (k0_pay8 (F := Ideal)) :=
  first_a m c (prev t) (by show (t.val - 1) % 2 = 0; omega) (by show ¬(t.val - 1) % 2 = 1; omega)

theorem last_out : (outsAt0 m c t.val t.isLt).1
    = k0_pay4 (aG (iblk m c 0 t) (iblk m c 1 t) (iblk m c 2 t) (mG (iblk m c 0 (prev t)) (iblk m c 1 (prev t)) (k0_pay6 (F := Ideal)))
          (aG (iblk m c 0 (prev t)) (iblk m c 1 (prev t)) (iblk m c 2 (prev t)) (k0_pay6 (F := Ideal)) (k0_pay8 (F := Ideal))))
        (lG (iblk m c 0 t) (iblk m c 1 t) (mG (iblk m c 0 (prev t)) (iblk m c 1 (prev t)) (k0_pay6 (F := Ideal)))
          (lG (iblk m c 0 (prev t)) (iblk m c 1 (prev t)) (k0_pay6 (F := Ideal)) (k0_pay7 (F := Ideal)))) := by
  have g0 : ¬t.val % 2 = 0 := by omega
  rw [← prev_a m c t h1, ← prev_l m c t h1, ← prev_m m c t h1, outsAt0_B m c t g0 h1]
  dsimp only
  exact out_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => g0 ((hcond0_0 t).mp h)) ((hcond0_1 t).mpr h1)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem last_lse : (outsAt0 m c t.val t.isLt).2.1
    = k0_pay5 (mG (iblk m c 0 t) (iblk m c 1 t) (mG (iblk m c 0 (prev t)) (iblk m c 1 (prev t)) (k0_pay6 (F := Ideal))))
        (lG (iblk m c 0 t) (iblk m c 1 t) (mG (iblk m c 0 (prev t)) (iblk m c 1 (prev t)) (k0_pay6 (F := Ideal)))
          (lG (iblk m c 0 (prev t)) (iblk m c 1 (prev t)) (k0_pay6 (F := Ideal)) (k0_pay7 (F := Ideal)))) := by
  have g0 : ¬t.val % 2 = 0 := by omega
  rw [← prev_l m c t h1, ← prev_m m c t h1, outsAt0_B m c t g0 h1]
  dsimp only
  exact out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => g0 ((hcond0_0 t).mp h)) ((hcond0_1 t).mpr h1)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem hd_prev : hd (prev t) = hd t := Fin.ext (by show (t.val - 1) / 4 = t.val / 4; omega)

theorem qr_prev (x : Fin 4096) : qr (prev t) x = qr t x := Fin.ext (by
  show (t.val - 1) / 2 % 2 * 4096 + x.val = t.val / 2 % 2 * 4096 + x.val
  rw [show (t.val - 1) / 2 = t.val / 2 by omega])

/-- A sum over the keys is the sum over the point before and the sum over the point. -/
theorem sum_keys (f : Fin 8192 → ℝ) : ∑ j, f j = ∑ r, f (kr (prev t) r) + ∑ r, f (kr t r) := by
  refine (Fin.sum_univ_add (a := 4096) (b := 4096) f).trans (congrArg₂ (· + ·) ?_ ?_) <;>
    refine Finset.sum_congr rfl fun r _ => congrArg f (Fin.ext ?_)
  · show r.val = (t.val - 1) % 2 * 4096 + r.val
    omega
  · show 4096 + r.val = t.val % 2 * 4096 + r.val
    omega

end Points

section Reals

variable {q k : Fin 8 → Fin 8192 → Fin 192 → ℝ} {v : Fin 8 → Fin 8192 → Fin 128 → ℝ}

theorem st_real (hQ : ∀ h i d, oQ m c (ix3 h i d) = (q h i d : EReal)) (hK : ∀ h j d, oK m c (ix3 h j d) = (k h j d : EReal)) (t : Fin cfg0.N) (r x : Fin 4096) :
    st (iblk m c 0 t) (iblk m c 1 t) r x = (dot q k (hd t) (qr t x) (kr t r) : EReal) := by
  unfold st dot
  rw [← coe_sum]
  refine Finset.sum_congr rfl fun d _ => ?_
  rw [blk0_at, blk1_at, hQ, hK, mul_comm, EReal.coe_mul]

theorem vt_real (hV : ∀ h e j, oV m c (ix3 h e j) = (v h j e : EReal)) (t : Fin cfg0.N) (e : Fin 128) (r : Fin 4096) :
    (iblk m c 2 t : Vec Ideal S1x128x4096 .bf16) (ix3 0 e r) = (v (hd t) (kr t r) e : EReal) := by
  rw [blk2_at, hV]

variable (hQ : ∀ h i d, oQ m c (ix3 h i d) = (q h i d : EReal)) (hK : ∀ h j d, oK m c (ix3 h j d) = (k h j d : EReal))
  (hV : ∀ h e j, oV m c (ix3 h e j) = (v h j e : EReal))

include hQ hK hV

theorem out_at (t : Fin cfg0.N) (h1 : t.val % 2 = 1) (x : Fin 4096) (e : Fin 128) :
    (outsAt0 m c t.val t.isLt).1 (ix2 x e) = (attend q k v (hd t) (qr t x) e : EReal) := by
  rw [last_out m c t h1, out_real (st_real m c hQ hK (prev t) · x) (st_real m c hQ hK t · x) (vt_real m c hV (prev t)) (vt_real m c hV t) e]
  refine congrArg _ ?_
  rw [hd_prev t h1, qr_prev t h1]
  unfold attend weight prob
  simp only [← mul_div_assoc]
  rw [← Finset.sum_div, sum_keys t h1, sum_keys t h1 (fun j => Real.exp (score q k (hd t) (qr t x) j))]
  rfl

theorem lse_at (t : Fin cfg0.N) (h1 : t.val % 2 = 1) (x : Fin 4096) :
    (outsAt0 m c t.val t.isLt).2.1 (ix3 0 0 x) = (logmass q k (hd t) (qr t x) : EReal) := by
  rw [last_lse m c t h1, lse_real (st_real m c hQ hK (prev t) · x) (st_real m c hQ hK t · x) (vt_real m c hV (prev t)) (vt_real m c hV t)]
  refine congrArg _ ?_
  rw [hd_prev t h1, qr_prev t h1]
  unfold logmass
  rw [sum_keys t h1]
  rfl

/-- Attention and the logarithm of its mass, as arrays. -/
def attendV (q k : Fin 8 → Fin 8192 → Fin 192 → ℝ) (v : Fin 8 → Fin 8192 → Fin 128 → ℝ) : Vec Ideal S8192x1024 .f32 :=
  fun i => ((attend q k v (chd (i 1)) (i 0) ⟨(i 1).val % 128, Nat.mod_lt _ (by decide)⟩ : ℝ) : EReal)
def logmassV (q k : Fin 8 → Fin 8192 → Fin 192 → ℝ) : Vec Ideal S8x1x8192 .f32 := fun i => ((logmass q k (i 0) (i 2) : ℝ) : EReal)

omit hQ hK hV in
theorem attendV_at (h : Fin 8) (i : Fin 8192) (e : Fin 128) : attendV q k v (ix2 i (hcol h e)) = (attend q k v h i e : EReal) := by
  show ((attend q k v (chd (hcol h e)) i ⟨(hcol h e).val % 128, _⟩ : ℝ) : EReal) = _
  rw [Cert.KernelIdeal.Hand.chd_hcol, show (⟨(hcol h e).val % 128, Nat.mod_lt _ (by decide)⟩ : Fin 128) = e from
    Fin.ext (by show (h.val * 128 + e.val) % 128 = e.val; omega)]

theorem arr3 : (dats m 0 c).arrAt 3 cfg0.N = attendV q k v := by
  refine Dat.arrAt_eq_of_covers _ 3 _ (by decide +kernel) fun t hf y => ?_
  rw [after0_3]
  blk_simp
  refine (congrArg _ (eq_ix2 y)).trans ((out_at m c hQ hK hV t ((flush0_3 t).mp hf) (y 0) (y 1)).trans ((attendV_at _ _ _).symm.trans (congrArg _ ?_)))
  blk_ext [idx3, hd, qr, hcol]

theorem arr4 : (dats m 0 c).arrAt 4 cfg0.N = logmassV q k := by
  refine Dat.arrAt_eq_of_covers _ 4 _ (by decide +kernel) fun t hf y => ?_
  rw [after0_4]
  blk_simp
  obtain ⟨x, rfl⟩ : ∃ x : Fin 4096, y = ix3 0 0 x := ⟨y 2, funext fun a => match a with | ⟨0, _⟩ => Subsingleton.elim (α := Fin 1) _ _ | ⟨1, _⟩ => Subsingleton.elim (α := Fin 1) _ _ | ⟨2, _⟩ => rfl⟩
  refine (lse_at m c hQ hK hV t ((flush0_4 t).mp hf) x).trans ?_
  show logmassV q k (ix3 (hd t) 0 (qr t x)) = _
  refine congrArg _ ?_
  blk_ext [idx4, hd, qr]

end Reals

end Cert.Kernel17Ideal.Hand

end
-- ==== Proof.MlaFwd.lean ====
/-
  The call `mla`, attention: its result equals the reference's, with reals for arguments.
-/
module

public import proofs.«01_k».proof.Defs
public import proofs.«01_k».proof.Proof.Gen.Pre_finite_fwd
public import proofs.«01_k».proof.Proof.Finite
public import proofs.«01_k».proof.Proof.MlaGrid

@[expose] public section

set_option maxRecDepth 16384

noncomputable section

namespace Cert.Pre_finite_fwd.Hand

open Cert.Pre_finite_fwd Cert.Lift Idealize.ShloMosaic
open Cert.Pre_finite.Hand (entries)

/-- The precondition gives reals throughout. -/
theorem reals (x0 : FVec Ideal S8192x8x128 .bf16) (x1 : FVec Ideal S8192x8x64 .bf16) (x2 : FVec Ideal S8192x8x128 .bf16) (x3 : FVec Ideal S8192x64 .bf16)
    (x4 : FVec Ideal S8192x8x128 .bf16) (e : Cert.Pre_finite_fwd.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e' := congrFun e (fun a => a.elim0)
  unfold Cert.Pre_finite_fwd.fn Cert.Pre_finite_fwd.fn_part1 at e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨entries x0 _ _ _ _ h0, entries x1 _ _ _ _ h1, entries x2 _ _ _ _ h2, entries x3 _ _ _ _ h3, entries x4 _ _ _ _ h4⟩

end Cert.Pre_finite_fwd.Hand

namespace Cert.Kernel17Ideal.Hand

open Cert.Kernel17Ideal Cert.Kernel17Ideal.Gen
open Idealize.ShloMosaic Idealize.ShloMosaic.TcCoe Idealize.ShloMosaic.Pointwise Idealize.SL.Sem

variable (m : (ℓ : Loc nD τ sig) → Buf (Elt Ideal) ℓ) (c : Dev nD)

/-- The queries with the heads first. -/
theorem V_q (h : Fin 8) (i : Fin 8192) (d : Fin 192) : oQ m c (ix3 h i d)
    = Cert.Reference17Ideal.Read.val_main_v2 (F := Ideal) (m ((c.tc : Thread nD τ).loc main_arg0)) (m ((c.tc : Thread nD τ).loc main_arg1)) (ix3 i h d) := by
  have e : V m c main_v3 = transpose S8x8192x192 [1, 0, 2] (Cert.Reference17Ideal.Read.val_main_v2 (F := Ideal)
      (m ((c.tc : Thread nD τ).loc main_arg0)) (m ((c.tc : Thread nD τ).loc main_arg1))) transposes_S8192x8x192_S8x8192x192_1_0_2 := by
    show StableHlo.after hostOps0 (fun b => m (c, b)) (Proc.devRef .tc main_v3) = _
    after_results_simp <;> rfl
  refine (congrFun e _).trans ?_
  exact transpose_apply [1, 0, 2] _ transposes_S8192x8x192_S8x8192x192_1_0_2 (ix3 h i d) (ix3 i h d) (fun b => match b with
    | ⟨0, _⟩ => rfl
    | ⟨1, _⟩ => rfl
    | ⟨2, _⟩ => rfl)

/-- The keys with the heads first. -/
theorem V_k (h : Fin 8) (j : Fin 8192) (d : Fin 192) : oK m c (ix3 h j d)
    = Cert.Reference17Ideal.Read.val_main_v4 (F := Ideal) (m ((c.tc : Thread nD τ).loc main_arg2)) (m ((c.tc : Thread nD τ).loc main_arg3)) (ix3 j h d) := by
  have e : V m c main_v5 = transpose S8x8192x192 [1, 0, 2] (Cert.Reference17Ideal.Read.val_main_v4 (F := Ideal)
      (m ((c.tc : Thread nD τ).loc main_arg2)) (m ((c.tc : Thread nD τ).loc main_arg3))) transposes_S8192x8x192_S8x8192x192_1_0_2 := by
    show StableHlo.after hostOps0 (fun b => m (c, b)) (Proc.devRef .tc main_v5) = _
    after_results_simp <;> rfl
  refine (congrFun e _).trans ?_
  exact transpose_apply [1, 0, 2] _ transposes_S8192x8x192_S8x8192x192_1_0_2 (ix3 h j d) (ix3 j h d) (fun b => match b with
    | ⟨0, _⟩ => rfl
    | ⟨1, _⟩ => rfl
    | ⟨2, _⟩ => rfl)

/-- The values with the heads first and the sequence last. -/
theorem V_v (h : Fin 8) (e : Fin 128) (j : Fin 8192) : oV m c (ix3 h e j) = m ((c.tc : Thread nD τ).loc main_arg4) (ix3 j h e) := by
  have e : V m c main_v6 = transpose S8x128x8192 [1, 2, 0] (m ((c.tc : Thread nD τ).loc main_arg4) : Vec Ideal S8192x8x128 .bf16) transposes_S8192x8x128_S8x128x8192_1_2_0 := by
    show StableHlo.after hostOps0 (fun b => m (c, b)) (Proc.devRef .tc main_v6) = _
    after_results_simp <;> rfl
  refine (congrFun e _).trans ?_
  exact transpose_apply [1, 2, 0] _ transposes_S8192x8x128_S8x128x8192_1_2_0 _ _ (fun b => match b with
    | ⟨0, _⟩ => rfl
    | ⟨1, _⟩ => rfl
    | ⟨2, _⟩ => rfl)

end Cert.Kernel17Ideal.Hand

namespace Cert.Hand

open Cert.Kernel17Ideal Cert.Kernel17Ideal.Gen Cert.Kernel17Ideal.Hand
open Cert.KernelIdeal.Hand (hcol chd)
open Idealize.ShloMosaic Idealize.ShloMosaic.TcCoe Idealize.ShloMosaic.Pointwise Idealize.SL.Sem

theorem algebraic_mla : Cert.algebraic_Kernel17Ideal_Reference17Ideal_pre_finite_fwd := by
  intro m ρ m' ρ' hpre hagree
  refine ⟨_, _, Cert.Kernel17Ideal.Value.run_blocks m ρ, ?_⟩
  refine (θ_run Cert.Reference17Ideal.defs _ _).mono (fun _ h c => ?_) (Cert.Reference17Ideal.Value.run (F := Ideal) m' ρ')
  obtain ⟨a0, a1, a2, a3, a4⟩ := hagree c
  obtain ⟨h0, h1, h2, h3, h4⟩ := Cert.Pre_finite_fwd.Hand.reals _ _ _ _ _ (hpre c)
  have R := Cert.Reference17Ideal.Hand.real5 _ _ _ _ _ h0 h1 h2 h3 h4
  have hQ := fun h i d => (V_q m c h i d).trans (R.query h i d)
  have hK := fun h j d => (V_k m c h j d).trans (R.key h j d)
  have hV := fun h e j => (V_v m c h e j).trans (R.value h j e)
  obtain ⟨e1, e2, kept⟩ := h c
  refine ⟨e1.trans ?_, e2.trans ?_, kept⟩
  · rw [Cert.Reference17Ideal.Read.val_main_v28_eq, a0, a1, a2, a3, a4, arr3 m c hQ hK hV]
    funext y
    rw [eq_ix2 y, show (y 1 : Fin 1024) = hcol (chd (y 1)) ⟨(y 1).val % 128, Nat.mod_lt _ (by decide)⟩ from
      Fin.ext (by show (y 1).val = (y 1).val / 128 * 128 + (y 1).val % 128; omega)]
    exact (Cert.Reference17Ideal.Hand.out_real R (chd (y 1)) (y 0) _).trans (attendV_at (chd (y 1)) (y 0) _).symm
  · rw [Cert.Reference17Ideal.Read.val_main_v32_eq, a0, a1, a2, a3, arr4 m c hQ hK hV]
    funext y
    obtain ⟨h, i, rfl⟩ : ∃ (h : Fin 8) (i : Fin 8192), y = ix3 h 0 i := ⟨y 0, y 2, funext fun a => match a with | ⟨0, _⟩ => rfl | ⟨1, _⟩ => Subsingleton.elim (α := Fin 1) _ _ | ⟨2, _⟩ => rfl⟩
    exact Cert.Reference17Ideal.Hand.lse_real R h i

end Cert.Hand

end
-- ==== Proof.UqFwd.lean ====
/-
  The call `uq`, the queries from their normalised low-rank row: a point multiplies a row block of it with a column block of
  the weight, over all 512 at once.
-/
module

public import proofs.«01_k».proof.Defs
public import proofs.«01_k».proof.Proof.Gen.Kernel18Ideal.Value
public import proofs.«01_k».proof.Proof.Gen.Reference18Ideal.Read
public import Idealize.ShloMosaic.Lib.Pointwise
public import Idealize.ShloMosaic.Lib.Pipeline.ValueKit

@[expose] public section

set_option maxRecDepth 16384

noncomputable section

namespace Cert.Kernel18Ideal.Hand

open Cert.Kernel18Ideal Cert.Kernel18Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x512 .bf16) (x1 : Vec Ideal S512x768 .bf16)

theorem out_eq : out0_2 x0 x1 = k0_pay1 x0 x1 := by
  unfold out0_2
  rw [View.canon_unit_zero hz]
  simp only [View.ld_unit_zero (S := S1024x512) hz, View.ld_unit_zero (S := S1024x768) hz, View.ld_unit_zero (S := S512x768) hz]

theorem pay1_at (r : Fin 1024) (s : Fin 768) : k0_pay1 x0 x1 (ix2 r s) = ∑ q : Fin 512, x0 (ix2 r q) * x1 (ix2 q s) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

/-- The operands of the call as it is launched. -/
abbrev oA : Vec Ideal S8192x512 .bf16 := V m c main_v0
abbrev oB : Vec Ideal S512x1536 .bf16 := V m c main_v1

/-- Row `r` of a point's result, in the result. -/
def kr (t : Fin cfg0.N) (r : Fin 1024) : Fin 8192 := ⟨t.val / 2 * 1024 + r.val, by have := Nat.lt_of_lt_of_eq t.isLt N_0; omega⟩
/-- Column `s` of a point's result, in the result. -/
def ks (t : Fin cfg0.N) (s : Fin 768) : Fin 1536 := ⟨t.val % 2 * 768 + s.val, by omega⟩

theorem blk0_at (t : Fin cfg0.N) (r : Fin 1024) (q : Fin 512) :
    (iblk m c 0 t : Vec Ideal S1024x512 .bf16) (ix2 r q) = oA m c (ix2 (kr t r) q) := by
  blk_ext [iblk, idx0, kr]

theorem blk1_at (t : Fin cfg0.N) (q : Fin 512) (s : Fin 768) :
    (iblk m c 1 t : Vec Ideal S512x768 .bf16) (ix2 q s) = oB m c (ix2 q (ks t s)) := by
  blk_ext [iblk, idx1, ks]

/-- The product. -/
def prod : Vec Ideal S8192x1536 .f32 := fun i => ∑ q : Fin 512, oA m c (ix2 (i 0) q) * oB m c (ix2 q (i 1))

theorem out_at (t : Fin cfg0.N) (r : Fin 1024) (s : Fin 768) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v2) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr m c), (h c).2⟩) (Value.run_blocks m ρ)

/-- An operand as the host casts it: a cast between formats changes no real. -/
def castA (x : (⟨S8192x512, .f32⟩ : BufTy).Contents (Elt Ideal)) : (⟨S8192x512, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

/-- An operand as the host casts it: a cast between formats changes no real. -/
def castB (x : (⟨S512x1536, .f32⟩ : BufTy).Contents (Elt Ideal)) : (⟨S512x1536, .bf16⟩ : BufTy).Contents (Elt Ideal) :=
  truncf (F := Ideal) .bf16 x bitsLt_bf16_f32

theorem V_castB : V m c main_v1 = castB (m ((c.tc : Thread nD τ).loc main_arg1)) := by
  show StableHlo.after hostOps0 (fun b => m (c, b)) (Proc.devRef .tc main_v1) = _
  after_results_simp <;> rfl

end Cert.Kernel18Ideal.Hand

namespace Cert.Hand

open Idealize.ShloMosaic Idealize.ShloMosaic.TcCoe Idealize.ShloMosaic.Pointwise Idealize.SL.Sem

theorem algebraic_uq_fwd : Cert.algebraic_Kernel18Ideal_Reference18Ideal := by
  intro m ρ m' ρ' hpre hagree
  refine ⟨_, Cert.Kernel18Ideal.Hand.run_value m ρ, ?_⟩
  refine (θ_run Cert.Reference18Ideal.defs _ _).mono (fun _ h c => ?_) (Cert.Reference18Ideal.Value.run (F := Ideal) m' ρ')
  obtain ⟨a0, a1⟩ := hagree c
  obtain ⟨e, kept⟩ := h c
  refine ⟨e.trans ?_, kept⟩
  rw [Cert.Reference18Ideal.Read.val_main_v0_eq, a0, a1]
  have hA : Cert.Kernel18Ideal.Hand.oA m c = Cert.Kernel18Ideal.Hand.castA (m ((c.tc : Thread Cert.Kernel18Ideal.nD Cert.Kernel18Ideal.τ).loc Cert.Kernel18Ideal.main_arg0)) := Cert.Kernel18Ideal.Hand.V_castA m c
  have hB : Cert.Kernel18Ideal.Hand.oB m c = Cert.Kernel18Ideal.Hand.castB (m ((c.tc : Thread Cert.Kernel18Ideal.nD Cert.Kernel18Ideal.τ).loc Cert.Kernel18Ideal.main_arg1)) := Cert.Kernel18Ideal.Hand.V_castB m c
  funext y
  rw [eq_ix2 y]
  refine (Cert.Reference18Ideal.Read.val_main_v0_apply _ _ _).trans ?_
  unfold Cert.Kernel18Ideal.Hand.prod
  refine Finset.sum_congr rfl fun q _ => ?_
  rw [hA, hB]
  congr 2 <;> (funext a; fin_cases a <;> rfl)

end Cert.Hand

end
-- ==== Proof.UkvFwd.lean ====
/-
  The call `ukv`, the keys and values from their normalised low-rank row: a point multiplies a row block of it with a column
  block of the weight, over all 512 at once.
-/
module

public import proofs.«01_k».proof.Defs
public import proofs.«01_k».proof.Proof.Gen.Kernel19Ideal.Value
public import proofs.«01_k».proof.Proof.Gen.Reference19Ideal.Read
public import Idealize.ShloMosaic.Lib.Pointwise
public import Idealize.ShloMosaic.Lib.Pipeline.ValueKit

@[expose] public section

set_option maxRecDepth 16384

noncomputable section

namespace Cert.Kernel19Ideal.Hand

open Cert.Kernel19Ideal Cert.Kernel19Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x512 .bf16) (x1 : Vec Ideal S512x1024 .bf16)

theorem out_eq : out0_2 x0 x1 = k0_pay1 x0 x1 := by
  unfold out0_2
  rw [View.canon_unit_zero hz]
  simp only [View.ld_unit_zero (S := S1024x1024) hz, View.ld_unit_zero (S := S1024x512) hz, View.ld_unit_zero (S := S512x1024) hz]

theorem pay1_at (r s : Fin 1024) : k0_pay1 x0 x1 (ix2 r s) = ∑ q : Fin 512, x0 (ix2 r q) * x1 (ix2 q s) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

/-- The operands of the call as it is launched. -/
abbrev oA : Vec Ideal S8192x512 .bf16 := V m c main_v0
abbrev oB : Vec Ideal S512x2048 .bf16 := V m c main_v1

/-- Row `r` of a point's result, in the result. -/
def kr (t : Fin cfg0.N) (r : Fin 1024) : Fin 8192 := ⟨t.val / 2 * 1024 + r.val, by have := Nat.lt_of_lt_of_eq t.isLt N_0; omega⟩
/-- Column `s` of a point's result, in the result. -/
def ks (t : Fin cfg0.N) (s : Fin 1024) : Fin 2048 := ⟨t.val % 2 * 1024 + s.val, by omega⟩

theorem blk0_at (t : Fin cfg0.N) (r : Fin 1024) (q : Fin 512) :
    (iblk m c 0 t : Vec Ideal S1024x512 .bf16) (ix2 r q) = oA m c (ix2 (kr t r) q) := by
  blk_ext [iblk, idx0, kr]

theorem blk1_at (t : Fin cfg0.N) (q : Fin 512) (s : Fin 1024) :
    (iblk m c 1 t : Vec Ideal S512x1024 .bf16) (ix2 q s) = oB m c (ix2 q (ks t s)) := by
  blk_ext [iblk, idx1, ks]

/-- The product. -/
def prod : Vec Ideal S8192x2048 .bf16 := fun i => ∑ q : Fin 512, oA m c (ix2 (i 0) q) * oB m c (ix2 q (i 1))

theorem out_at (t : Fin cfg0.N) (r s : Fin 1024) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v2) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr m c), (h c).2⟩) (Value.run_blocks m ρ)

/-- An operand as the host casts it: a cast between formats changes no real. -/
def castA (x : (⟨S8192x512, .f32⟩ : BufTy).Contents (Elt Ideal)) : (⟨S8192x512, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

/-- An operand as the host casts it: a cast between formats changes no real. -/
def castB (x : (⟨S512x2048, .f32⟩ : BufTy).Contents (Elt Ideal)) : (⟨S512x2048, .bf16⟩ : BufTy).Contents (Elt Ideal) :=
  truncf (F := Ideal) .bf16 x bitsLt_bf16_f32

theorem V_castB : V m c main_v1 = castB (m ((c.tc : Thread nD τ).loc main_arg1)) := by
  show StableHlo.after hostOps0 (fun b => m (c, b)) (Proc.devRef .tc main_v1) = _
  after_results_simp <;> rfl

end Cert.Kernel19Ideal.Hand

namespace Cert.Hand

open Idealize.ShloMosaic Idealize.ShloMosaic.TcCoe Idealize.ShloMosaic.Pointwise Idealize.SL.Sem

theorem algebraic_ukv_fwd : Cert.algebraic_Kernel19Ideal_Reference19Ideal := by
  intro m ρ m' ρ' hpre hagree
  refine ⟨_, Cert.Kernel19Ideal.Hand.run_value m ρ, ?_⟩
  refine (θ_run Cert.Reference19Ideal.defs _ _).mono (fun _ h c => ?_) (Cert.Reference19Ideal.Value.run (F := Ideal) m' ρ')
  obtain ⟨a0, a1⟩ := hagree c
  obtain ⟨e, kept⟩ := h c
  refine ⟨e.trans ?_, kept⟩
  rw [Cert.Reference19Ideal.Read.val_main_v1_eq, a0, a1]
  have hA : Cert.Kernel19Ideal.Hand.oA m c = Cert.Kernel19Ideal.Hand.castA (m ((c.tc : Thread Cert.Kernel19Ideal.nD Cert.Kernel19Ideal.τ).loc Cert.Kernel19Ideal.main_arg0)) := Cert.Kernel19Ideal.Hand.V_castA m c
  have hB : Cert.Kernel19Ideal.Hand.oB m c = Cert.Kernel19Ideal.Hand.castB (m ((c.tc : Thread Cert.Kernel19Ideal.nD Cert.Kernel19Ideal.τ).loc Cert.Kernel19Ideal.main_arg1)) := Cert.Kernel19Ideal.Hand.V_castB m c
  funext y
  rw [eq_ix2 y]
  refine ((Cert.Reference19Ideal.Read.val_main_v1_apply _ _ _).trans (Cert.Reference19Ideal.Read.val_main_v0_apply _ _ _)).trans ?_
  unfold Cert.Kernel19Ideal.Hand.prod
  refine Finset.sum_congr rfl fun q _ => ?_
  rw [hA, hB]
  congr 2 <;> (funext a; fin_cases a <;> rfl)

end Cert.Hand

end
-- ==== Proof.UqGrad.lean ====
/-
  The call `d_uq`, the gradient of the queries' weight: a point multiplies a block of 2048 rows of the low-rank row,
  transposed, with the same rows of the cotangent; four points add up to the product over all 8192 rows. The reference is the
  same product in the other order.
-/
module

public import proofs.«01_k».proof.Defs
public import proofs.«01_k».proof.Proof.Gather
public import proofs.«01_k».proof.Proof.Gen.Kernel20Ideal.Value
public import proofs.«01_k».proof.Proof.Gen.Reference20Ideal.Read
public import Idealize.ShloMosaic.Lib.Pointwise

@[expose] public section

set_option maxRecDepth 16384

noncomputable section

namespace Cert.Kernel20Ideal.Hand

open Cert.Kernel20Ideal Cert.Kernel20Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S2048x512 .bf16) (h3 : a3.IsWhole)
  (a4 : Memref sig .tc .vmem S2048x768 .bf16) (h4 : a4.IsWhole)
  (a5 : Memref sig .tc .vmem S512x768 .bf16) (h5 : a5.IsWhole)
  (a6 : Memref sig .tc .vmem S512x768 .f32) (h6 : a6.IsWhole)
  (x0 : Vec Ideal S2048x512 .bf16) (x1 : Vec Ideal S2048x768 .bf16) (b : Vec Ideal S512x768 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S2048x512) hz, View.ld_unit_zero (S := S2048x768) hz, View.ld_unit_zero (S := S512x768) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S2048x512) hz, View.ld_unit_zero (S := S2048x768) hz, View.ld_unit_zero (S := S512x768) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S2048x512) hz, View.ld_unit_zero (S := S2048x768) hz, View.ld_unit_zero (S := S512x768) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S512x768) _ hz]
  simp only [View.readAt_eq_ld, h3.read_unread, h4.read_unread, h6.read_unread, View.ld_unit_zero (S := S2048x512) hz, View.ld_unit_zero (S := S2048x768) hz, View.ld_unit_zero (S := S512x768) hz]

theorem pay1_at (r : Fin 512) (s : Fin 768) : k0_pay1 x0 x1 (ix2 r s) = ∑ q : Fin 2048, x0 (ix2 q r) * x1 (ix2 q s) := by
  pointwise [k0_pay1]

theorem pay2_at (r : Fin 512) (s : Fin 768) : k0_pay2 b x0 x1 (ix2 r s) = b (ix2 r s) + ∑ q : Fin 2048, x0 (ix2 q r) * x1 (ix2 q s) := by
  pointwise [k0_pay2]

theorem pay3_at (r : Fin 512) (s : Fin 768) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x512 .bf16 := V m c main_v0
abbrev oB : Vec Ideal S8192x1536 .bf16 := V m c main_arg2

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 512) : Fin 512 := ⟨t.val / 8 * 512 + r.val, by have := Nat.lt_of_lt_of_eq t.isLt N_0; omega⟩
/-- Column `s` of a point's result, in the result. -/
def ks (t : Fin cfg0.N) (s : Fin 768) : Fin 1536 := ⟨t.val / 4 % 2 * 768 + s.val, by omega⟩

theorem blk0_at (t : Fin cfg0.N) (q : Fin 2048) (r : Fin 512) :
    (iblk m c 0 t : Vec Ideal S2048x512 .bf16) (ix2 q r) = oA m c (ix2 (kq t q) (kr t r)) := by
  blk_ext [iblk, idx0, kr, kq]

theorem blk1_at (t : Fin cfg0.N) (q : Fin 2048) (s : Fin 768) :
    (iblk m c 1 t : Vec Ideal S2048x768 .bf16) (ix2 q s) = oB m c (ix2 (kq t q) (ks t s)) := by
  blk_ext [iblk, idx1, ks, kq]

/-- The product. -/
def prod : Vec Ideal S512x1536 .bf16 := fun i => ∑ q : Fin 8192, oA m c (ix2 q (i 0)) * oB m c (ix2 q (i 1))

/-- What a point adds. -/
def term (t : Fin cfg0.N) (r : Fin 512) (s : Fin 768) : EReal := ∑ q : Fin 2048, oA m c (ix2 (kq t q) (kr t r)) * oB m c (ix2 (kq t q) (ks t s))

theorem kr_eq (t u : Fin cfg0.N) (h : u.val / 4 = t.val / 4) (r : Fin 512) : kr u r = kr t r :=
  Fin.ext (by show u.val / 8 * 512 + r.val = t.val / 8 * 512 + r.val; omega)
theorem ks_eq (t u : Fin cfg0.N) (h : u.val / 4 = t.val / 4) (s : Fin 768) : ks u s = ks t s :=
  Fin.ext (by show u.val / 4 % 2 * 768 + s.val = t.val / 4 % 2 * 768 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r : Fin 512) (s : Fin 768) : EReal := (outsAt0 m c n h).2 (ix2 r s)

theorem acc_reset (t : Fin cfg0.N) (h : t.val % 4 = 0) (r : Fin 512) (s : Fin 768) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r : Fin 512) (s : Fin 768) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r : Fin 512) (s : Fin 768) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r : Fin 512) (s : Fin 768) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castA (x : (⟨S8192x512, .f32⟩ : BufTy).Contents (Elt Ideal)) : (⟨S8192x512, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

end Cert.Kernel20Ideal.Hand

namespace Cert.Hand

open Idealize.ShloMosaic Idealize.ShloMosaic.TcCoe Idealize.ShloMosaic.Pointwise Idealize.SL.Sem

theorem algebraic_uq : Cert.algebraic_Kernel20Ideal_Reference20Ideal := by
  intro m ρ m' ρ' hpre hagree
  refine ⟨_, Cert.Kernel20Ideal.Hand.run_value m ρ, ?_⟩
  refine (θ_run Cert.Reference20Ideal.defs _ _).mono (fun _ h c => ?_) (Cert.Reference20Ideal.Value.run (F := Ideal) m' ρ')
  obtain ⟨a0, a1, a2⟩ := hagree c
  obtain ⟨e, kept⟩ := h c
  refine ⟨e.trans ?_, kept⟩
  rw [Cert.Reference20Ideal.Read.val_main_v5_eq, a0, a2]
  have hA : Cert.Kernel20Ideal.Hand.oA m c = Cert.Kernel20Ideal.Hand.castA (m ((c.tc : Thread Cert.Kernel20Ideal.nD Cert.Kernel20Ideal.τ).loc Cert.Kernel20Ideal.main_arg0)) := Cert.Kernel20Ideal.Hand.V_castA m c
  have hB : Cert.Kernel20Ideal.Hand.oB m c = m ((c.tc : Thread Cert.Kernel20Ideal.nD Cert.Kernel20Ideal.τ).loc Cert.Kernel20Ideal.main_arg2) := Cert.Kernel20Ideal.Gen.V_main_arg2 m c
  funext y
  rw [eq_ix2 y]
  refine ((Cert.Reference20Ideal.Read.val_main_v5_apply _ _ _).trans ((Cert.Reference20Ideal.Read.val_main_v3_apply _ _ _).trans (Cert.Reference20Ideal.Read.val_main_v2_apply _ _ _))).trans ?_
  unfold Cert.Kernel20Ideal.Hand.prod
  refine Finset.sum_congr rfl fun q _ => ?_
  rw [hA, hB, mul_comm]
  congr 2 <;> (funext a; fin_cases a <;> rfl)

end Cert.Hand

end
-- ==== Proof.QnGrad.lean ====
/-
  The call `d_qn`, the gradient of the queries' low-rank row: a point multiplies a row block of the cotangent with the
  weight, transposed, over all 1536 columns at once.
-/
module

public import proofs.«01_k».proof.Defs
public import proofs.«01_k».proof.Proof.Gen.Kernel21Ideal.Value
public import proofs.«01_k».proof.Proof.Gen.Reference21Ideal.Read
public import Idealize.ShloMosaic.Lib.Pointwise
public import Idealize.ShloMosaic.Lib.Pipeline.ValueKit

@[expose] public section

set_option maxRecDepth 16384

noncomputable section

namespace Cert.Kernel21Ideal.Hand

open Cert.Kernel21Ideal Cert.Kernel21Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x1536 .bf16) (x1 : Vec Ideal S512x1536 .bf16)

theorem out_eq : out0_2 x0 x1 = k0_pay1 x0 x1 := by
  unfold out0_2
  rw [View.canon_unit_zero hz]
  simp only [View.ld_unit_zero (S := S1024x1536) hz, View.ld_unit_zero (S := S1024x512) hz, View.ld_unit_zero (S := S512x1536) hz]

theorem pay1_at (r : Fin 1024) (s : Fin 512) : k0_pay1 x0 x1 (ix2 r s) = ∑ q : Fin 1536, x0 (ix2 r q) * x1 (ix2 s q) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 1, 0] := by decide +kernel
theorem idx1 : ∀ t : Fin grid0.N, win0_1.index t = ![t.val % 1, 0] := by decide +kernel
theorem idx2 : ∀ t : Fin grid0.N, win0_2.index t = ![t.val / 1, t.val % 1] := by decide +kernel

/-- The operands of the call as it is launched. -/
abbrev oA : Vec Ideal S8192x1536 .bf16 := V m c main_arg2
abbrev oB : Vec Ideal S512x1536 .bf16 := V m c main_v0

/-- Row `r` of a point's result, in the result. -/
def kr (t : Fin cfg0.N) (r : Fin 1024) : Fin 8192 := ⟨t.val / 1 * 1024 + r.val, by have := Nat.lt_of_lt_of_eq t.isLt N_0; omega⟩
/-- Column `s` of a point's result, in the result. -/
def ks (t : Fin cfg0.N) (s : Fin 512) : Fin 512 := ⟨t.val % 1 * 512 + s.val, by omega⟩

theorem blk0_at (t : Fin cfg0.N) (r : Fin 1024) (q : Fin 1536) :
    (iblk m c 0 t : Vec Ideal S1024x1536 .bf16) (ix2 r q) = oA m c (ix2 (kr t r) q) := by
  blk_ext [iblk, idx0, kr]

theorem blk1_at (t : Fin cfg0.N) (s : Fin 512) (q : Fin 1536) :
    (iblk m c 1 t : Vec Ideal S512x1536 .bf16) (ix2 s q) = oB m c (ix2 (ks t s) q) := by
  blk_ext [iblk, idx1, ks]

/-- The product. -/
def prod : Vec Ideal S8192x512 .f32 := fun i => ∑ q : Fin 1536, oA m c (ix2 (i 0) q) * oB m c (ix2 (i 1) q)

theorem out_at (t : Fin cfg0.N) (r : Fin 1024) (s : Fin 512) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castB (x : (⟨S512x1536, .f32⟩ : BufTy).Contents (Elt Ideal)) : (⟨S512x1536, .bf16⟩ : BufTy).Contents (Elt Ideal) :=
  truncf (F := Ideal) .bf16 x bitsLt_bf16_f32

theorem V_castB : V m c main_v0 = castB (m ((c.tc : Thread nD τ).loc main_arg1)) := by
  show StableHlo.after hostOps0 (fun b => m (c, b)) (Proc.devRef .tc main_v0) = _
  after_results_simp <;> rfl

end Cert.Kernel21Ideal.Hand

namespace Cert.Hand

open Idealize.ShloMosaic Idealize.ShloMosaic.TcCoe Idealize.ShloMosaic.Pointwise Idealize.SL.Sem

theorem algebraic_qn : Cert.algebraic_Kernel21Ideal_Reference21Ideal := by
  intro m ρ m' ρ' hpre hagree
  refine ⟨_, Cert.Kernel21Ideal.Hand.run_value m ρ, ?_⟩
  refine (θ_run Cert.Reference21Ideal.defs _ _).mono (fun _ h c => ?_) (Cert.Reference21Ideal.Value.run (F := Ideal) m' ρ')
  obtain ⟨a0, a1, a2⟩ := hagree c
  obtain ⟨e, kept⟩ := h c
  refine ⟨e.trans ?_, kept⟩
  rw [Cert.Reference21Ideal.Read.val_main_v4_eq, a1, a2]
  have hA : Cert.Kernel21Ideal.Hand.oA m c = m ((c.tc : Thread Cert.Kernel21Ideal.nD Cert.Kernel21Ideal.τ).loc Cert.Kernel21Ideal.main_arg2) := Cert.Kernel21Ideal.Gen.V_main_arg2 m c
  have hB : Cert.Kernel21Ideal.Hand.oB m c = Cert.Kernel21Ideal.Hand.castB (m ((c.tc : Thread Cert.Kernel21Ideal.nD Cert.Kernel21Ideal.τ).loc Cert.Kernel21Ideal.main_arg1)) := Cert.Kernel21Ideal.Hand.V_castB m c
  funext y
  rw [eq_ix2 y]
  refine (Cert.Reference21Ideal.Read.val_main_v4_apply _ _ _).trans ?_
  unfold Cert.Kernel21Ideal.Hand.prod
  refine Finset.sum_congr rfl fun q _ => ?_
  rw [hA, hB]
  congr 2 <;> (funext a; fin_cases a <;> rfl)

end Cert.Hand

end
-- ==== Proof.UkvGrad.lean ====
/-
  The call `d_ukv`, the gradient of the keys' and values' weight: a point multiplies a block of 2048 rows of the low-rank
  row, transposed, with the same rows of the cotangent; four points add up to the product over all 8192 rows. The reference is
  the same product in the other order.
-/
module

public import proofs.«01_k».proof.Defs
public import proofs.«01_k».proof.Proof.Gather
public import proofs.«01_k».proof.Proof.Gen.Kernel22Ideal.Value
public import proofs.«01_k».proof.Proof.Gen.Reference22Ideal.Read
public import Idealize.ShloMosaic.Lib.Pointwise

@[expose] public section

set_option maxRecDepth 16384

noncomputable section

namespace Cert.Kernel22Ideal.Hand

open Cert.Kernel22Ideal Cert.Kernel22Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (c : Dev nD) (i : grid0.Coords)
  (a3 : Memref sig .tc .vmem S2048x512 .bf16) (h3 : a3.IsWhole)
  (a4 : Memref sig .tc .vmem S2048x1024 .bf16) (h4 : a4.IsWhole)
  (a5 : Memref sig .tc .vmem S512x1024 .bf16) (h5 : a5.IsWhole)
  (a6 : Memref sig .tc .vmem S512x1024 .f32) (h6 : a6.IsWhole)
  (x0 : Vec Ideal S2048x512 .bf16) (x1 : Vec Ideal S2048x1024 .bf16) (b : Vec Ideal S512x1024 .f32)

theorem first (k0 : cond0_0 i) (k1 : ¬cond0_1 i) (k2 : ¬cond0_2 i) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S2048x512) hz, View.ld_unit_zero (S := S512x1024) hz]

theorem next (k0 : ¬cond0_0 i) (k1 : cond0_1 i) (k2 : ¬cond0_2 i) :
    sout0_B_0 c i a3 h3 a4 h4 a5 h5 a6 h6 k0 k1 k2 x0 x1 b = k0_pay2 b x0 x1 := by
  unfold sout0_B_0
  rw [View.read_writes_eq_canon _ _ _ (scover0_B_0 c i a3 h3 a4 h4 a5 h5 a6 h6 k0 k1 k2 x0 x1 b)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x512) hz, View.ld_unit_zero (S := S512x1024) hz]

theorem last (k0 : ¬cond0_0 i) (k1 : cond0_1 i) (k2 : cond0_2 i) :
    sout0_C_0 c i a3 h3 a4 h4 a5 h5 a6 h6 k0 k1 k2 x0 x1 b = k0_pay2 b x0 x1 := by
  unfold sout0_C_0
  rw [View.read_writes_eq_canon _ _ _ (scover0_C_0 c i a3 h3 a4 h4 a5 h5 a6 h6 k0 k1 k2 x0 x1 b)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x512) hz, View.ld_unit_zero (S := S512x1024) hz]

theorem out (k0 : ¬cond0_0 i) (k1 : cond0_1 i) (k2 : cond0_2 i) :
    out0_C_2 c i a3 h3 a4 h4 a5 h5 a6 h6 k0 k1 k2 x0 x1 b = k0_pay3 (k0_pay2 b x0 x1) := by
  unfold out0_C_2
  rw [View.read_writes_eq_canon _ _ _ (cover0_C_2 c i a3 h3 a4 h4 a5 h5 a6 h6 k0 k1 k2 x0 x1 b)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S2048x1024) hz, View.ld_unit_zero (S := S2048x512) hz, View.ld_unit_zero (S := S512x1024) hz]

theorem pay1_at (r : Fin 512) (s : Fin 1024) : k0_pay1 x0 x1 (ix2 r s) = ∑ q : Fin 2048, x0 (ix2 q r) * x1 (ix2 q s) := by
  pointwise [k0_pay1]

theorem pay2_at (r : Fin 512) (s : Fin 1024) : k0_pay2 b x0 x1 (ix2 r s) = b (ix2 r s) + ∑ q : Fin 2048, x0 (ix2 q r) * x1 (ix2 q s) := by
  pointwise [k0_pay2]

theorem pay3_at (r : Fin 512) (s : Fin 1024) : k0_pay3 b (ix2 r s) = b (ix2 r s) := by
  pointwise [k0_pay3]

end Body

variable (m : (ℓ : Loc nD τ sig) → Buf (Elt Ideal) ℓ) (ρ : Dev nD → PrngReg) (c : Dev nD)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![t.val / 8, t.val / 4 % 2] := by decide +kernel

/-- The operands of the call as it is launched. -/
abbrev oA : Vec Ideal S8192x512 .bf16 := V m c main_v0
abbrev oB : Vec Ideal S8192x2048 .bf16 := V m c main_arg2

/-- Entry `q` of a point's blocks along the sum, in the operands. -/
def kq (t : Fin cfg0.N) (q : Fin 2048) : Fin 8192 := ⟨t.val % 4 * 2048 + q.val, by omega⟩
/-- Row `r` of a point's result, in the result. -/
def kr (t : Fin cfg0.N) (r : Fin 512) : Fin 512 := ⟨t.val / 8 * 512 + r.val, by have := Nat.lt_of_lt_of_eq t.isLt N_0; omega⟩
/-- Column `s` of a point's result, in the result. -/
def ks (t : Fin cfg0.N) (s : Fin 1024) : Fin 2048 := ⟨t.val / 4 % 2 * 1024 + s.val, by omega⟩

theorem blk0_at (t : Fin cfg0.N) (q : Fin 2048) (r : Fin 512) :
    (iblk m c 0 t : Vec Ideal S2048x512 .bf16) (ix2 q r) = oA m c (ix2 (kq t q) (kr t r)) := by
  blk_ext [iblk, idx0, kr, kq]

theorem blk1_at (t : Fin cfg0.N) (q : Fin 2048) (s : Fin 1024) :
    (iblk m c 1 t : Vec Ideal S2048x1024 .bf16) (ix2 q s) = oB m c (ix2 (kq t q) (ks t s)) := by
  blk_ext [iblk, idx1, ks, kq]

/-- The product. -/
def prod : Vec Ideal S512x2048 .bf16 := fun i => ∑ q : Fin 8192, oA m c (ix2 q (i 0)) * oB m c (ix2 q (i 1))

/-- What a point adds. -/
def term (t : Fin cfg0.N) (r : Fin 512) (s : Fin 1024) : EReal := ∑ q : Fin 2048, oA m c (ix2 (kq t q) (kr t r)) * oB m c (ix2 (kq t q) (ks t s))

theorem kr_eq (t u : Fin cfg0.N) (h : u.val / 4 = t.val / 4) (r : Fin 512) : kr u r = kr t r :=
  Fin.ext (by show u.val / 8 * 512 + r.val = t.val / 8 * 512 + r.val; omega)
theorem ks_eq (t u : Fin cfg0.N) (h : u.val / 4 = t.val / 4) (s : Fin 1024) : ks u s = ks t s :=
  Fin.ext (by show u.val / 4 % 2 * 1024 + s.val = t.val / 4 % 2 * 1024 + s.val; omega)
theorem kq_eq (t u : Fin cfg0.N) (x : Fin 4) (h : u.val = 4 * (t.val / 4) + x.val) (q : Fin 2048) : kq u q = ⟨x.val * 2048 + q.val, by omega⟩ :=
  Fin.ext (by show u.val % 4 * 2048 + q.val = x.val * 2048 + q.val; omega)

/-- A point's running block at an entry. -/
def acc (n : ℕ) (h : n < cfg0.N) (r : Fin 512) (s : Fin 1024) : EReal := (outsAt0 m c n h).2 (ix2 r s)

theorem acc_reset (t : Fin cfg0.N) (h : t.val % 4 = 0) (r : Fin 512) (s : Fin 1024) : acc m c t.val t.isLt r s = term m c t r s := by
  unfold acc term
  rw [outsAt0_A m c t h (by omega) (by omega)]
  dsimp only
  rw [first, pay1_at]
  simp only [blk0_at, blk1_at]

theorem acc_step (t : Fin cfg0.N) (h : ¬t.val % 4 = 0) (r : Fin 512) (s : Fin 1024) :
    acc m c t.val t.isLt r s = acc m c (t.val - 1) (by omega) r s + term m c t r s := by
  unfold acc term
  by_cases h2 : t.val % 4 = 3
  · rw [outsAt0_C m c t h (by omega) h2]
    dsimp only
    rw [last, pay2_at]
    simp only [blk0_at, blk1_at]
  · rw [outsAt0_B m c t h (by omega) h2]
    dsimp only
    rw [next, pay2_at]
    simp only [blk0_at, blk1_at]

/-- The running block after the last of a block's four points. -/
theorem acc_last (t : Fin cfg0.N) (ht : t.val % 4 = 3) (r : Fin 512) (s : Fin 1024) : acc m c t.val t.isLt r s = prod m c (ix2 (kr t r) (ks t s)) := by
  have h := Pipeline.eq_sum_fin_of_reset_step_of_flush (fun n h => acc m c n h r s) 4 (0 : EReal) (fun t => term m c t r s)
    (fun t h => (acc_reset m c t h r s).trans (zero_add _).symm) (fun t h => acc_step m c t h r s) t ht
  refine h.trans ?_
  rw [zero_add]
  show _ = ∑ q : Fin 8192, oA m c (ix2 q (kr t r)) * oB m c (ix2 q (ks t s))
  rw [Cert.KernelIdeal.Hand.sum_blocks]
  refine Finset.sum_congr rfl fun x _ => ?_
  unfold term
  refine Finset.sum_congr rfl fun q _ => ?_
  rw [kr_eq t _ (by dsimp only; omega), ks_eq t _ (by dsimp only; omega), kq_eq t _ x rfl]

/-- The block written back at the last of its four points. -/
theorem out_last (t : Fin cfg0.N) (ht : t.val % 4 = 3) (r : Fin 512) (s : Fin 1024) :
    (outsAt0 m c t.val t.isLt).1 (ix2 r s) = prod m c (ix2 (kr t r) (ks t s)) := by
  rw [← acc_last m c t ht]
  unfold acc
  rw [outsAt0_C m c t (by omega) (by omega) ht]
  dsimp only
  rw [out, pay3_at, last]

theorem arr : (dats m 0 c).arrAt 2 cfg0.N = prod m c := by
  refine Dat.arrAt_eq_of_covers _ 2 _ (by decide +kernel) fun t hf y => ?_
  blk_simp
  show (outsAt0 m c t.val t.isLt).1 y = _
  refine (congrArg _ (eq_ix2 y)).trans ((out_last m c t ((flush0_2 t).mp hf) (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castA (x : (⟨S8192x512, .f32⟩ : BufTy).Contents (Elt Ideal)) : (⟨S8192x512, .bf16⟩ : BufTy).Contents (Elt Ideal) :=
  truncf (F := Ideal) .bf16 x bitsLt_bf16_f32

theorem V_castA : V m c main_v0 = castA (m ((c.tc : Thread nD τ).loc main_arg0)) := by
  show StableHlo.after hostOps0 (fun b => m (c, b)) (Proc.devRef .tc main_v0) = _
  after_results_simp <;> rfl

end Cert.Kernel22Ideal.Hand

namespace Cert.Hand

open Idealize.ShloMosaic Idealize.ShloMosaic.TcCoe Idealize.ShloMosaic.Pointwise Idealize.SL.Sem

theorem algebraic_ukv : Cert.algebraic_Kernel22Ideal_Reference22Ideal := by
  intro m ρ m' ρ' hpre hagree
  refine ⟨_, Cert.Kernel22Ideal.Hand.run_value m ρ, ?_⟩
  refine (θ_run Cert.Reference22Ideal.defs _ _).mono (fun _ h c => ?_) (Cert.Reference22Ideal.Value.run (F := Ideal) m' ρ')
  obtain ⟨a0, a1, a2⟩ := hagree c
  obtain ⟨e, kept⟩ := h c
  refine ⟨e.trans ?_, kept⟩
  rw [Cert.Reference22Ideal.Read.val_main_v5_eq, a0, a2]
  have hA : Cert.Kernel22Ideal.Hand.oA m c = Cert.Kernel22Ideal.Hand.castA (m ((c.tc : Thread Cert.Kernel22Ideal.nD Cert.Kernel22Ideal.τ).loc Cert.Kernel22Ideal.main_arg0)) := Cert.Kernel22Ideal.Hand.V_castA m c
  have hB : Cert.Kernel22Ideal.Hand.oB m c = m ((c.tc : Thread Cert.Kernel22Ideal.nD Cert.Kernel22Ideal.τ).loc Cert.Kernel22Ideal.main_arg2) := Cert.Kernel22Ideal.Gen.V_main_arg2 m c
  funext y
  rw [eq_ix2 y]
  refine ((Cert.Reference22Ideal.Read.val_main_v5_apply _ _ _).trans ((Cert.Reference22Ideal.Read.val_main_v3_apply _ _ _).trans (Cert.Reference22Ideal.Read.val_main_v2_apply _ _ _))).trans ?_
  unfold Cert.Kernel22Ideal.Hand.prod
  refine Finset.sum_congr rfl fun q _ => ?_
  rw [hA, hB, mul_comm]
  congr 2 <;> (funext a; fin_cases a <;> rfl)

end Cert.Hand

end
-- ==== Proof.KvnGrad.lean ====
/-
  The call `d_kvn`, the gradient of the keys' and values' low-rank row: a point multiplies a row block of the cotangent with
  the weight, transposed, over all 2048 columns at once.
-/
module

public import proofs.«01_k».proof.Defs
public import proofs.«01_k».proof.Proof.Gen.Kernel23Ideal.Value
public import proofs.«01_k».proof.Proof.Gen.Reference23Ideal.Read
public import Idealize.ShloMosaic.Lib.Pointwise
public import Idealize.ShloMosaic.Lib.Pipeline.ValueKit

@[expose] public section

set_option maxRecDepth 16384

noncomputable section

namespace Cert.Kernel23Ideal.Hand

open Cert.Kernel23Ideal Cert.Kernel23Ideal.Gen
open Idealize.ShloMosaic Idealize.ShloMosaic.TcCoe Idealize.ShloMosaic.Pointwise Idealize.SL.Sem
open Idealize.ShloMosaic.Pipeline (Dat)

theorem hz : (![0, 0] : Fin 2 → Nat) = fun _ => 0 := funext fun a => by fin_cases a <;> rfl

section Body

variable (x0 : Vec Ideal S1024x2048 .bf16) (x1 : Vec Ideal S512x2048 .bf16)

theorem out_eq : out0_2 x0 x1 = k0_pay1 x0 x1 := by
  unfold out0_2
  rw [View.canon_unit_zero hz]
  simp only [View.ld_unit_zero (S := S1024x2048) hz, View.ld_unit_zero (S := S1024x512) hz, View.ld_unit_zero (S := S512x2048) hz]

theorem pay1_at (r : Fin 1024) (s : Fin 512) : k0_pay1 x0 x1 (ix2 r s) = ∑ q : Fin 2048, x0 (ix2 r q) * x1 (ix2 s q) := by
  pointwise [k0_pay1]

end Body

variable (m : (ℓ : Loc nD τ sig) → Buf (Elt Ideal) ℓ) (ρ : Dev nD → PrngReg) (c : Dev nD)

theorem idx0 : ∀ t : Fin grid0.N, win0_0.index t = ![t.val / 1, 0] := by decide +kernel
theorem idx1 : ∀ t : Fin grid0.N, win0_1.index t = ![t.val % 1, 0] := by decide +kernel
theorem idx2 : ∀ t : Fin grid0.N, win0_2.index t = ![t.val / 1, t.val % 1] := by decide +kernel

/-- The operands of the call as it is launched. -/
abbrev oA : Vec Ideal S8192x2048 .bf16 := V m c main_arg2
abbrev oB : Vec Ideal S512x2048 .bf16 := V m c main_v0

/-- Row `r` of a point's result, in the result. -/
def kr (t : Fin cfg0.N) (r : Fin 1024) : Fin 8192 := ⟨t.val / 1 * 1024 + r.val, by have := Nat.lt_of_lt_of_eq t.isLt N_0; omega⟩
/-- Column `s` of a point's result, in the result. -/
def ks (t : Fin cfg0.N) (s : Fin 512) : Fin 512 := ⟨t.val % 1 * 512 + s.val, by omega⟩

theorem blk0_at (t : Fin cfg0.N) (r : Fin 1024) (q : Fin 2048) :
    (iblk m c 0 t : Vec Ideal S1024x2048 .bf16) (ix2 r q) = oA m c (ix2 (kr t r) q) := by
  blk_ext [iblk, idx0, kr]

theorem blk1_at (t : Fin cfg0.N) (s : Fin 512) (q : Fin 2048) :
    (iblk m c 1 t : Vec Ideal S512x2048 .bf16) (ix2 s q) = oB m c (ix2 (ks t s) q) := by
  blk_ext [iblk, idx1, ks]

/-- The product. -/
def prod : Vec Ideal S8192x512 .f32 := fun i => ∑ q : Fin 2048, oA m c (ix2 (i 0) q) * oB m c (ix2 (i 1) q)

theorem out_at (t : Fin cfg0.N) (r : Fin 1024) (s : Fin 512) :
    out0_2 (iblk m c 0 t) (iblk m c 1 t) (ix2 r s) = prod m c (ix2 (kr t r) (ks t s)) := by
  rw [out_eq, pay1_at]
  simp only [blk0_at, blk1_at]
  rfl

theorem arr : (dats m 0 c).arrAt 2 cfg0.N = prod m c := by
  refine Dat.arrAt_eq_of_covers _ 2 _ (by decide +kernel) fun t hf y => ?_
  rw [after0_2]
  blk_simp
  refine (congrArg _ (eq_ix2 y)).trans ((out_at m c t (y 0) (y 1)).trans (congrArg _ ?_))
  blk_ext [idx2, kr, ks]

theorem run_value : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr m c), (h c).2⟩) (Value.run_blocks m ρ)

/-- An operand as the host casts it: a cast between formats changes no real. -/
def castB (x : (⟨S512x2048, .f32⟩ : BufTy).Contents (Elt Ideal)) : (⟨S512x2048, .bf16⟩ : BufTy).Contents (Elt Ideal) :=
  truncf (F := Ideal) .bf16 x bitsLt_bf16_f32

theorem V_castB : V m c main_v0 = castB (m ((c.tc : Thread nD τ).loc main_arg1)) := by
  show StableHlo.after hostOps0 (fun b => m (c, b)) (Proc.devRef .tc main_v0) = _
  after_results_simp <;> rfl

end Cert.Kernel23Ideal.Hand

namespace Cert.Hand

open Idealize.ShloMosaic Idealize.ShloMosaic.TcCoe Idealize.ShloMosaic.Pointwise Idealize.SL.Sem

theorem algebraic_kvn : Cert.algebraic_Kernel23Ideal_Reference23Ideal := by
  intro m ρ m' ρ' hpre hagree
  refine ⟨_, Cert.Kernel23Ideal.Hand.run_value m ρ, ?_⟩
  refine (θ_run Cert.Reference23Ideal.defs _ _).mono (fun _ h c => ?_) (Cert.Reference23Ideal.Value.run (F := Ideal) m' ρ')
  obtain ⟨a0, a1, a2⟩ := hagree c
  obtain ⟨e, kept⟩ := h c
  refine ⟨e.trans ?_, kept⟩
  rw [Cert.Reference23Ideal.Read.val_main_v4_eq, a1, a2]
  have hA : Cert.Kernel23Ideal.Hand.oA m c = m ((c.tc : Thread Cert.Kernel23Ideal.nD Cert.Kernel23Ideal.τ).loc Cert.Kernel23Ideal.main_arg2) := Cert.Kernel23Ideal.Gen.V_main_arg2 m c
  have hB : Cert.Kernel23Ideal.Hand.oB m c = Cert.Kernel23Ideal.Hand.castB (m ((c.tc : Thread Cert.Kernel23Ideal.nD Cert.Kernel23Ideal.τ).loc Cert.Kernel23Ideal.main_arg1)) := Cert.Kernel23Ideal.Hand.V_castB m c
  funext y
  rw [eq_ix2 y]
  refine (Cert.Reference23Ideal.Read.val_main_v4_apply _ _ _).trans ?_
  unfold Cert.Kernel23Ideal.Hand.prod
  refine Finset.sum_congr rfl fun q _ => ?_
  rw [hA, hB]
  congr 2 <;> (funext a; fin_cases a <;> rfl)

end Cert.Hand

end
-- ==== Proof.lean ====
/-
  The certificate: the backward pass of the attention core, then each further call.
-/
module

public import proofs.«01_k».proof.Defs
public import proofs.«01_k».proof.Proof.Frames
public import proofs.«01_k».proof.Proof.Algebraic
public import proofs.«01_k».proof.Proof.CallFrames
public import proofs.«01_k».proof.Proof.ActGrad
public import proofs.«01_k».proof.Proof.Ff2Grad
public import proofs.«01_k».proof.Proof.Ff1Grad
public import proofs.«01_k».proof.Proof.InputGrad
public import proofs.«01_k».proof.Proof.InGrad
public import proofs.«01_k».proof.Proof.UGrad
public import proofs.«01_k».proof.Proof.InFwd
public import proofs.«01_k».proof.Proof.Ff1Fwd
public import proofs.«01_k».proof.Proof.Ff2Fwd
public import proofs.«01_k».proof.Proof.OutGrad
public import proofs.«01_k».proof.Proof.MergedGrad
public import proofs.«01_k».proof.Proof.OutFwd
public import proofs.«01_k».proof.Proof.BranchGrad
public import proofs.«01_k».proof.Proof.HeadsGrad
public import proofs.«01_k».proof.Proof.BranchFwd
public import proofs.«01_k».proof.Proof.MlaFwd
public import proofs.«01_k».proof.Proof.UqFwd
public import proofs.«01_k».proof.Proof.UkvFwd
public import proofs.«01_k».proof.Proof.UqGrad
public import proofs.«01_k».proof.Proof.QnGrad
public import proofs.«01_k».proof.Proof.UkvGrad
public import proofs.«01_k».proof.Proof.KvnGrad
public import proofs.«01_k».proof.Proof.Gen.Pre_finite
public import proofs.«01_k».proof.Proof.Gen.Pre_finite_fwd
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite.Gen.facts, Cert.Pre_finite_fwd.Gen.facts,
  Cert.Hand.frame_kernel, Cert.Hand.frame_kernelIdeal, fun m ρ _ => Cert.Hand.frame_kernelIdeal m ρ trivial,
  Cert.Hand.frame_reference, fun m ρ _ => Cert.Hand.frame_reference m ρ trivial,
  Cert.Hand.frame_kernel2, Cert.Hand.frame_kernel2Ideal, Cert.Hand.frame_reference2,
  Cert.Hand.frame_kernel3, Cert.Hand.frame_kernel3Ideal, Cert.Hand.frame_reference3,
  Cert.Hand.frame_kernel4, Cert.Hand.frame_kernel4Ideal, Cert.Hand.frame_reference4,
  Cert.Hand.frame_kernel5, Cert.Hand.frame_kernel5Ideal, Cert.Hand.frame_reference5,
  Cert.Hand.frame_kernel6, Cert.Hand.frame_kernel6Ideal, Cert.Hand.frame_reference6,
  Cert.Hand.frame_kernel7, Cert.Hand.frame_kernel7Ideal, Cert.Hand.frame_reference7,
  Cert.Hand.frame_kernel8, Cert.Hand.frame_kernel8Ideal, Cert.Hand.frame_reference8,
  Cert.Hand.frame_kernel9, Cert.Hand.frame_kernel9Ideal, Cert.Hand.frame_reference9,
  Cert.Hand.frame_kernel10, Cert.Hand.frame_kernel10Ideal, Cert.Hand.frame_reference10,
  Cert.Hand.frame_kernel11, Cert.Hand.frame_kernel11Ideal, Cert.Hand.frame_reference11,
  Cert.Hand.frame_kernel12, Cert.Hand.frame_kernel12Ideal, Cert.Hand.frame_reference12,
  Cert.Hand.frame_kernel13, Cert.Hand.frame_kernel13Ideal, Cert.Hand.frame_reference13,
  Cert.Hand.frame_kernel14, Cert.Hand.frame_kernel14Ideal, Cert.Hand.frame_reference14,
  Cert.Hand.frame_kernel15, Cert.Hand.frame_kernel15Ideal, Cert.Hand.frame_reference15,
  Cert.Hand.frame_kernel16, Cert.Hand.frame_kernel16Ideal, Cert.Hand.frame_reference16,
  Cert.Hand.frame_kernel17, Cert.Hand.frame_kernel17Ideal, fun m ρ _ => Cert.Hand.frame_kernel17Ideal m ρ trivial,
  Cert.Hand.frame_reference17, fun m ρ _ => Cert.Hand.frame_reference17 m ρ trivial,
  Cert.Hand.frame_kernel18, Cert.Hand.frame_kernel18Ideal, Cert.Hand.frame_reference18,
  Cert.Hand.frame_kernel19, Cert.Hand.frame_kernel19Ideal, Cert.Hand.frame_reference19,
  Cert.Hand.frame_kernel20, Cert.Hand.frame_kernel20Ideal, Cert.Hand.frame_reference20,
  Cert.Hand.frame_kernel21, Cert.Hand.frame_kernel21Ideal, Cert.Hand.frame_reference21,
  Cert.Hand.frame_kernel22, Cert.Hand.frame_kernel22Ideal, Cert.Hand.frame_reference22,
  Cert.Hand.frame_kernel23, Cert.Hand.frame_kernel23Ideal, Cert.Hand.frame_reference23,
  Cert.Hand.preserves, Cert.Hand.algebraic,
  Cert.Hand.preserves2, Cert.Hand.algebraic_act,
  Cert.Hand.preserves3, Cert.Hand.algebraic_ff2,
  Cert.Hand.preserves4, Cert.Hand.algebraic_ff1,
  Cert.Hand.preserves5, Cert.Hand.algebraic_u2,
  Cert.Hand.preserves6, Cert.Hand.algebraic_in,
  Cert.Hand.preserves7, Cert.Hand.algebraic_u,
  Cert.Hand.preserves8, Cert.Hand.algebraic_proj,
  Cert.Hand.preserves9, Cert.Hand.algebraic_ff1_fwd,
  Cert.Hand.preserves10, Cert.Hand.algebraic_ff2_fwd,
  Cert.Hand.preserves11, Cert.Hand.algebraic_out,
  Cert.Hand.preserves12, Cert.Hand.algebraic_merged,
  Cert.Hand.preserves13, Cert.Hand.algebraic_out_fwd,
  Cert.Hand.preserves14, Cert.Hand.algebraic_branch,
  Cert.Hand.preserves15, Cert.Hand.algebraic_heads,
  Cert.Hand.preserves16, Cert.Hand.algebraic_branch_fwd,
  Cert.Hand.preserves17, Cert.Hand.algebraic_mla,
  Cert.Hand.preserves18, Cert.Hand.algebraic_uq_fwd,
  Cert.Hand.preserves19, Cert.Hand.algebraic_ukv_fwd,
  Cert.Hand.preserves20, Cert.Hand.algebraic_uq,
  Cert.Hand.preserves21, Cert.Hand.algebraic_qn,
  Cert.Hand.preserves22, Cert.Hand.algebraic_ukv,
  Cert.Hand.preserves23, Cert.Hand.algebraic_kvn⟩

end Cert.Proof

end
